-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference [hPre_ids_in_range : Cert.Pre_ids_in_range.Facts] (m : (ℓ : Loc Cert.Reference.nD Cert.Reference.τ Cert.Reference.sig) → Buf (Elt Bits) ℓ) : Prop :=
  ∀ c : Dev Cert.Reference.nD,
    (Cert.Pre_ids_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] [hPre_ids_in_range : Cert.Pre_ids_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference [hKernel : Cert.Kernel.Facts] [hReference : Cert.Reference.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def Claim : Prop :=
  ∃ (hKernel : Cert.Kernel.Facts) (hKernelIdeal : Cert.KernelIdeal.Facts) (hReferenceIdeal : Cert.ReferenceIdeal.Facts) (hReference : Cert.Reference.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ quiescent_Reference (hReference := hReference) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
    ∧ bitexact_Kernel_Reference (hKernel := hKernel) (hReference := hReference) (hPre_ids_in_range := hPre_ids_in_range)
-- ==== Pre_ids_in_range.lean ====
abbrev S16384x128 : Shape := ⟨2, ![16384, 128]⟩
abbrev S16384x1 : Shape := ⟨2, ![16384, 1]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel

variable [Facts]

def fn {F : FTy → Type} [FloatOps F] (main_arg0 : FVec F S16384x128 .f32) (main_arg1 : FVec F S16384x128 .f32) (main_arg2 : FVec F S16384x128 .f32) (main_arg3 : FVec F S16384x128 .f32) (main_arg4 : IVec S16384x1 32) : IVec S_ 1 :=
  let main_c : IVec S_ 32 := constantI S_ 32 0#32
  let main_v0 : IVec S16384x1 32 := broadcastInDim S16384x1 ![] bcast_S_S16384x1 main_c
  let main_v1 : IVec S16384x1 1 := cmpi .sge main_arg4 main_v0
  let main_c_0 : IVec S_ 32 := constantI S_ 32 4#32
  let main_v2 : IVec S16384x1 32 := broadcastInDim S16384x1 ![] bcast_S_S16384x1 main_c_0
  let main_v3 : IVec S16384x1 1 := cmpi .slt main_arg4 main_v2
  let main_v4 : IVec S16384x1 1 := andi main_v1 main_v3
  let main_c_1 : IVec S_ 1 := constantI S_ 1 1#1
  let main_v5 : IVec S_ 1 := (fun x v => Host.reduce IntOp.andi x v reducesTo_S16384x1_S_d0_1 h_S_) main_v4 main_c_1
  main_v5
-- ==== Kernel.lean ====
abbrev S16384x128 : Shape := ⟨2, ![16384, 128]⟩
abbrev S16384x1 : Shape := ⟨2, ![16384, 1]⟩
abbrev S16384 : Shape := ⟨1, ![16384]⟩
abbrev S512 : Shape := ⟨1, ![512]⟩
abbrev S2304 : Shape := ⟨1, ![2304]⟩
abbrev S16 : Shape := ⟨1, ![16]⟩
abbrev S768x128 : Shape := ⟨2, ![768, 128]⟩
abbrev S_ : Shape := ⟨0, ![]⟩
abbrev S1 : Shape := ⟨1, ![1]⟩
abbrev S64x128 : Shape := ⟨2, ![64, 128]⟩
abbrev S64 : Shape := ⟨1, ![64]⟩

abbrev nBuf : Table → Nat
  | .hbm => 7
  | .local .scVector .vmem => 4
  | _ => 0

abbrev bufTy : (tb : Table) → Fin (nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S16384x1, .i32⟩
  | .hbm, ⟨5, _⟩ => ⟨S16384, .i32⟩
  | .hbm, ⟨6, _⟩ => ⟨S16384x128, .f32⟩
  | .local .scVector .vmem, ⟨0, _⟩ => ⟨S512, .i32⟩
  | .local .scVector .vmem, ⟨1, _⟩ => ⟨S2304, .i32⟩
  | .local .scVector .vmem, ⟨2, _⟩ => ⟨S16, .i32⟩
  | .local .scVector .vmem, ⟨3, _⟩ => ⟨S768x128, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 5, rfl⟩
abbrev main_v1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_2 : BitVec 32 := 0#32
  let c32_i32 : BitVec 32 := 32#32
  let v10 : BitVec 32 := Scalar.addi c0_i32_2 c32_i32
  let c1_i32 : BitVec 32 := 1#32
  ⟨c0_i32_2, v10, c1_i32⟩
def k0_off2 (k0_t1 : Fin k0_t1_loop.trips) : Fin 1 → Nat :=
  let c0_i32_2 : BitVec 32 := 0#32
  let c1_i32 : BitVec 32 := 1#32
  let arg15 : BitVec 32 := Scf.iv c0_i32_2 c1_i32 k0_t1
  let c16_i32_161 : BitVec 32 := 16#32
  let v294 : BitVec 32 := Scalar.muli arg15 c16_i32_161
  let v295 : Index := Scalar.indexCast v294
  ![v295.toNat]

def k0_chk2 (v308 : IVec S16 32) : Prop :=
  (∀ a x, ((![v308] : Fin 1 → IVec S16 32) a x).toNat < S2304.size a)
theorem k0_idx2_inb : ∀ (v308 : IVec S16 32) (k0_hw2 : k0_chk2 v308), ∀ a x, ((![v308] : Fin 1 → IVec S16 32) a x).toNat < S2304.size a := fun v308 k0_hw2 => k0_hw2

def k0_chk1 (v296 : IVec S16 32) : Prop :=
  (∀ a x, ((![v296] : Fin 1 → IVec S16 32) a x).toNat < S16.size a) ∧
  (∀ a x, ((![v296] : Fin 1 → IVec S16 32) a x).toNat < S16.size a)
theorem k0_idx1_inb : ∀ (v296 : IVec S16 32) (k0_hw1 : k0_chk1 v296), ∀ a x, ((![v296] : Fin 1 → IVec S16 32) a x).toNat < S16.size a := fun v296 k0_hw1 => k0_hw1.1
theorem k0_idx3_inb : ∀ (v296 : IVec S16 32) (k0_hw1 : k0_chk1 v296), ∀ a x, ((![v296] : Fin 1 → IVec S16 32) a x).toNat < S16.size a := fun v296 k0_hw1 => k0_hw1.2

def k0_chk3 (v101 : IVec S16 32) : Prop :=
  (∀ a x, ((![v101] : Fin 1 → IVec S16 32) a x).toNat < S2304.size a)
theorem k0_idx4_inb : ∀ (v101 : IVec S16 32) (k0_hw3 : k0_chk3 v101), ∀ a x, ((![v101] : Fin 1 → IVec S16 32) a x).toNat < S2304.size a := fun v101 k0_hw3 => k0_hw3
def k0_off3 (v13 : BitVec 32) (c0_i32_42 : BitVec 32) : Fin 1 → Nat :=
  let c0_i32_41 : BitVec 32 := 0#32
  let v103 : BitVec 32 := Scalar.addi c0_i32_41 v13
  let v104 : BitVec 32 := Scalar.addi v103 c0_i32_42
  let v105 : Index := Scalar.indexCast v104
  ![v105.toNat]

def k0_chk5 (v122 : IVec S16 32) : Prop :=
  (∀ a x, ((![v122] : Fin 1 → IVec S16 32) a x).toNat < S2304.size a)
theorem k0_idx5_inb : ∀ (v122 : IVec S16 32) (k0_hw5 : k0_chk5 v122), ∀ a x, ((![v122] : Fin 1 → IVec S16 32) a x).toNat < S2304.size a := fun v122 k0_hw5 => k0_hw5
def k0_off4 (v15 : BitVec 32) (c0_i32_50 : BitVec 32) : Fin 1 → Nat :=
  let c576_i32_49 : BitVec 32 := 576#32
  let v124 : BitVec 32 := Scalar.addi c576_i32_49 v15
  let v125 : BitVec 32 := Scalar.addi v124 c0_i32_50
  let v126 : Index := Scalar.indexCast v125
  ![v126.toNat]

def k0_chk7 (v143 : IVec S16 32) : Prop :=
  (∀ a x, ((![v143] : Fin 1 → IVec S16 32) a x).toNat < S2304.size a)
theorem k0_idx6_inb : ∀ (v143 : IVec S16 32) (k0_hw7 : k0_chk7 v143), ∀ a x, ((![v143] : Fin 1 → IVec S16 32) a x).toNat < S2304.size a := fun v143 k0_hw7 => k0_hw7
def k0_off5 (v17 : BitVec 32) (c0_i32_60 : BitVec 32) : Fin 1 → Nat :=
  let c1152_i32_59 : BitVec 32 := 1152#32
  let v145 : BitVec 32 := Scalar.addi c1152_i32_59 v17
  let v146 : BitVec 32 := Scalar.addi v145 c0_i32_60
  let v147 : Index := Scalar.indexCast v146
  ![v147.toNat]

def k0_chk9 (v164 : IVec S16 32) : Prop :=
  (∀ a x, ((![v164] : Fin 1 → IVec S16 32) a x).toNat < S2304.size a)
theorem k0_idx7_inb : ∀ (v164 : IVec S16 32) (k0_hw9 : k0_chk9 v164), ∀ a x, ((![v164] : Fin 1 → IVec S16 32) a x).toNat < S2304.size a := fun v164 k0_hw9 => k0_hw9
def k0_off6 (v19 : BitVec 32) (c0_i32_70 : BitVec 32) : Fin 1 → Nat :=
  let c1728_i32_69 : BitVec 32 := 1728#32
  let v166 : BitVec 32 := Scalar.addi c1728_i32_69 v19
  let v167 : BitVec 32 := Scalar.addi v166 c0_i32_70
  let v168 : Index := Scalar.indexCast v167
  ![v168.toNat]

@[reducible] def k0_t2_loop (v13 : BitVec 32) : Scf.Loop 32 :=
  let c0_i32_78 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v182 : BitVec 32 := Scalar.subi v37 c0_i32_78
  let c1_i32_80 : BitVec 32 := 1#32
  let v184 : BitVec 32 := Scalar.divsi v182 c1_i32_80
  let v185 : BitVec 32 := Scalar.muli v184 c1_i32_80
  let v186 : BitVec 32 := Scalar.addi c0_i32_78 v185
  let c1_i32_81 : BitVec 32 := 1#32
  ⟨c0_i32_78, v186, c1_i32_81⟩
def k0_off7 (v13 : BitVec 32) (k0_t2 : Fin (k0_t2_loop v13).trips) : Fin 2 → Nat :=
  let c0_i32_77 : BitVec 32 := 0#32
  let c0_i32_78 : BitVec 32 := 0#32
  let c1_i32_81 : BitVec 32 := 1#32
  let arg15 : BitVec 32 := Scf.iv c0_i32_78 c1_i32_81 k0_t2
  let c64_i32_163 : BitVec 32 := 64#32
  let v296 : BitVec 32 := Scalar.muli arg15 c64_i32_163
  let v297 : BitVec 32 := Scalar.addi c0_i32_77 v296
  let c0_i32_164 : BitVec 32 := 0#32
  ![v297.toNat, 0]
def k0_off8 (v13 : BitVec 32) (k0_t2 : Fin (k0_t2_loop v13).trips) : Fin 1 → Nat :=
  let c0_i32_162 : BitVec 32 := 0#32
  let c0_i32_78 : BitVec 32 := 0#32
  let c1_i32_81 : BitVec 32 := 1#32
  let arg15 : BitVec 32 := Scf.iv c0_i32_78 c1_i32_81 k0_t2
  let c64_i32_161 : BitVec 32 := 64#32
  let v294 : BitVec 32 := Scalar.muli arg15 c64_i32_161
  let v295 : BitVec 32 := Scalar.addi c0_i32_162 v294
  ![v295.toNat]
@[reducible] def k0_t3_loop (v13 : BitVec 32) : Scf.Loop 32 :=
  let c0_i32_78 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v182 : BitVec 32 := Scalar.subi v37 c0_i32_78
  let c1_i32_80 : BitVec 32 := 1#32
  let v184 : BitVec 32 := Scalar.divsi v182 c1_i32_80
  let v185 : BitVec 32 := Scalar.muli v184 c1_i32_80
  let v186 : BitVec 32 := Scalar.addi c0_i32_78 v185
  let v183 : BitVec 32 := Scalar.addi c0_i32_78 v182
  let c1_i32_82 : BitVec 32 := 1#32
  ⟨v186, v183, c1_i32_82⟩
def k0_off9 (v13 : BitVec 32) (k0_t3 : Fin (k0_t3_loop v13).trips) : Fin 2 → Nat :=
  let c0_i32_77 : BitVec 32 := 0#32
  let c0_i32_78 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v182 : BitVec 32 := Scalar.subi v37 c0_i32_78
  let c1_i32_80 : BitVec 32 := 1#32
  let v184 : BitVec 32 := Scalar.divsi v182 c1_i32_80
  let v185 : BitVec 32 := Scalar.muli v184 c1_i32_80
  let v186 : BitVec 32 := Scalar.addi c0_i32_78 v185
  let c1_i32_82 : BitVec 32 := 1#32
  let arg15 : BitVec 32 := Scf.iv v186 c1_i32_82 k0_t3
  let c64_i32_163 : BitVec 32 := 64#32
  let v296 : BitVec 32 := Scalar.muli arg15 c64_i32_163
  let v297 : BitVec 32 := Scalar.addi c0_i32_77 v296
  let c0_i32_164 : BitVec 32 := 0#32
  ![v297.toNat, 0]
def k0_off10 (v13 : BitVec 32) (k0_t3 : Fin (k0_t3_loop v13).trips) : Fin 1 → Nat :=
  let c0_i32_162 : BitVec 32 := 0#32
  let c0_i32_78 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v182 : BitVec 32 := Scalar.subi v37 c0_i32_78
  let c1_i32_80 : BitVec 32 := 1#32
  let v184 : BitVec 32 := Scalar.divsi v182 c1_i32_80
  let v185 : BitVec 32 := Scalar.muli v184 c1_i32_80
  let v186 : BitVec 32 := Scalar.addi c0_i32_78 v185
  let c1_i32_82 : BitVec 32 := 1#32
  let arg15 : BitVec 32 := Scf.iv v186 c1_i32_82 k0_t3
  let c64_i32_161 : BitVec 32 := 64#32
  let v294 : BitVec 32 := Scalar.muli arg15 c64_i32_161
  let v295 : BitVec 32 := Scalar.addi c0_i32_162 v294
  ![v295.toNat]
@[reducible] def k0_t4_loop (v15 : BitVec 32) : Scf.Loop 32 :=
  let c0_i32_83 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v189 : BitVec 32 := Scalar.subi v55 c0_i32_83
  let c1_i32_85 : BitVec 32 := 1#32
  let v191 : BitVec 32 := Scalar.divsi v189 c1_i32_85
  let v192 : BitVec 32 := Scalar.muli v191 c1_i32_85
  let v193 : BitVec 32 := Scalar.addi c0_i32_83 v192
  let c1_i32_86 : BitVec 32 := 1#32
  ⟨c0_i32_83, v193, c1_i32_86⟩
def k0_off11 (v13 : BitVec 32) (v15 : BitVec 32) (k0_t4 : Fin (k0_t4_loop v15).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c64_i32_35 : BitVec 32 := 64#32
  let v92 : BitVec 32 := Scalar.muli v37 c64_i32_35
  let c0_i32_83 : BitVec 32 := 0#32
  let c1_i32_86 : BitVec 32 := 1#32
  let arg15 : BitVec 32 := Scf.iv c0_i32_83 c1_i32_86 k0_t4
  let c64_i32_163 : BitVec 32 := 64#32
  let v296 : BitVec 32 := Scalar.muli arg15 c64_i32_163
  let v297 : BitVec 32 := Scalar.addi v92 v296
  let c0_i32_164 : BitVec 32 := 0#32
  ![v297.toNat, 0]
def k0_off12 (v15 : BitVec 32) (k0_t4 : Fin (k0_t4_loop v15).trips) : Fin 1 → Nat :=
  let c576_i32_162 : BitVec 32 := 576#32
  let c0_i32_83 : BitVec 32 := 0#32
  let c1_i32_86 : BitVec 32 := 1#32
  let arg15 : BitVec 32 := Scf.iv c0_i32_83 c1_i32_86 k0_t4
  let c64_i32_161 : BitVec 32 := 64#32
  let v294 : BitVec 32 := Scalar.muli arg15 c64_i32_161
  let v295 : BitVec 32 := Scalar.addi c576_i32_162 v294
  ![v295.toNat]
@[reducible] def k0_t5_loop (v15 : BitVec 32) : Scf.Loop 32 :=
  let c0_i32_83 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v189 : BitVec 32 := Scalar.subi v55 c0_i32_83
  let c1_i32_85 : BitVec 32 := 1#32
  let v191 : BitVec 32 := Scalar.divsi v189 c1_i32_85
  let v192 : BitVec 32 := Scalar.muli v191 c1_i32_85
  let v193 : BitVec 32 := Scalar.addi c0_i32_83 v192
  let v190 : BitVec 32 := Scalar.addi c0_i32_83 v189
  let c1_i32_87 : BitVec 32 := 1#32
  ⟨v193, v190, c1_i32_87⟩
def k0_off13 (v13 : BitVec 32) (v15 : BitVec 32) (k0_t5 : Fin (k0_t5_loop v15).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c64_i32_35 : BitVec 32 := 64#32
  let v92 : BitVec 32 := Scalar.muli v37 c64_i32_35
  let c0_i32_83 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v189 : BitVec 32 := Scalar.subi v55 c0_i32_83
  let c1_i32_85 : BitVec 32 := 1#32
  let v191 : BitVec 32 := Scalar.divsi v189 c1_i32_85
  let v192 : BitVec 32 := Scalar.muli v191 c1_i32_85
  let v193 : BitVec 32 := Scalar.addi c0_i32_83 v192
  let c1_i32_87 : BitVec 32 := 1#32
  let arg15 : BitVec 32 := Scf.iv v193 c1_i32_87 k0_t5
  let c64_i32_163 : BitVec 32 := 64#32
  let v296 : BitVec 32 := Scalar.muli arg15 c64_i32_163
  let v297 : BitVec 32 := Scalar.addi v92 v296
  let c0_i32_164 : BitVec 32 := 0#32
  ![v297.toNat, 0]
def k0_off14 (v15 : BitVec 32) (k0_t5 : Fin (k0_t5_loop v15).trips) : Fin 1 → Nat :=
  let c576_i32_162 : BitVec 32 := 576#32
  let c0_i32_83 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v189 : BitVec 32 := Scalar.subi v55 c0_i32_83
  let c1_i32_85 : BitVec 32 := 1#32
  let v191 : BitVec 32 := Scalar.divsi v189 c1_i32_85
  let v192 : BitVec 32 := Scalar.muli v191 c1_i32_85
  let v193 : BitVec 32 := Scalar.addi c0_i32_83 v192
  let c1_i32_87 : BitVec 32 := 1#32
  let arg15 : BitVec 32 := Scf.iv v193 c1_i32_87 k0_t5
  let c64_i32_161 : BitVec 32 := 64#32
  let v294 : BitVec 32 := Scalar.muli arg15 c64_i32_161
  let v295 : BitVec 32 := Scalar.addi c576_i32_162 v294
  ![v295.toNat]
@[reducible] def k0_t6_loop (v13 : BitVec 32) : Scf.Loop 32 :=
  let c0_i32_89 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v196 : BitVec 32 := Scalar.subi v37 c0_i32_89
  let c1_i32_91 : BitVec 32 := 1#32
  let v198 : BitVec 32 := Scalar.divsi v196 c1_i32_91
  let v199 : BitVec 32 := Scalar.muli v198 c1_i32_91
  let v200 : BitVec 32 := Scalar.addi c0_i32_89 v199
  let c1_i32_92 : BitVec 32 := 1#32
  ⟨c0_i32_89, v200, c1_i32_92⟩
def k0_off15 (v13 : BitVec 32) (k0_t6 : Fin (k0_t6_loop v13).trips) : Fin 2 → Nat :=
  let c0_i32_88 : BitVec 32 := 0#32
  let c0_i32_89 : BitVec 32 := 0#32
  let c1_i32_92 : BitVec 32 := 1#32
  let arg15 : BitVec 32 := Scf.iv c0_i32_89 c1_i32_92 k0_t6
  let c64_i32_163 : BitVec 32 := 64#32
  let v296 : BitVec 32 := Scalar.muli arg15 c64_i32_163
  let v297 : BitVec 32 := Scalar.addi c0_i32_88 v296
  let c0_i32_164 : BitVec 32 := 0#32
  ![v297.toNat, 0]
def k0_off16 (v13 : BitVec 32) (k0_t6 : Fin (k0_t6_loop v13).trips) : Fin 1 → Nat :=
  let c0_i32_162 : BitVec 32 := 0#32
  let c0_i32_89 : BitVec 32 := 0#32
  let c1_i32_92 : BitVec 32 := 1#32
  let arg15 : BitVec 32 := Scf.iv c0_i32_89 c1_i32_92 k0_t6
  let c64_i32_161 : BitVec 32 := 64#32
  let v294 : BitVec 32 := Scalar.muli arg15 c64_i32_161
  let v295 : BitVec 32 := Scalar.addi c0_i32_162 v294
  ![v295.toNat]
@[reducible] def k0_t7_loop (v13 : BitVec 32) : Scf.Loop 32 :=
  let c0_i32_89 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v196 : BitVec 32 := Scalar.subi v37 c0_i32_89
  let c1_i32_91 : BitVec 32 := 1#32
  let v198 : BitVec 32 := Scalar.divsi v196 c1_i32_91
  let v199 : BitVec 32 := Scalar.muli v198 c1_i32_91
  let v200 : BitVec 32 := Scalar.addi c0_i32_89 v199
  let v197 : BitVec 32 := Scalar.addi c0_i32_89 v196
  let c1_i32_93 : BitVec 32 := 1#32
  ⟨v200, v197, c1_i32_93⟩
def k0_off17 (v13 : BitVec 32) (k0_t7 : Fin (k0_t7_loop v13).trips) : Fin 2 → Nat :=
  let c0_i32_88 : BitVec 32 := 0#32
  let c0_i32_89 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v196 : BitVec 32 := Scalar.subi v37 c0_i32_89
  let c1_i32_91 : BitVec 32 := 1#32
  let v198 : BitVec 32 := Scalar.divsi v196 c1_i32_91
  let v199 : BitVec 32 := Scalar.muli v198 c1_i32_91
  let v200 : BitVec 32 := Scalar.addi c0_i32_89 v199
  let c1_i32_93 : BitVec 32 := 1#32
  let arg15 : BitVec 32 := Scf.iv v200 c1_i32_93 k0_t7
  let c64_i32_163 : BitVec 32 := 64#32
  let v296 : BitVec 32 := Scalar.muli arg15 c64_i32_163
  let v297 : BitVec 32 := Scalar.addi c0_i32_88 v296
  let c0_i32_164 : BitVec 32 := 0#32
  ![v297.toNat, 0]
def k0_off18 (v13 : BitVec 32) (k0_t7 : Fin (k0_t7_loop v13).trips) : Fin 1 → Nat :=
  let c0_i32_162 : BitVec 32 := 0#32
  let c0_i32_89 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v196 : BitVec 32 := Scalar.subi v37 c0_i32_89
  let c1_i32_91 : BitVec 32 := 1#32
  let v198 : BitVec 32 := Scalar.divsi v196 c1_i32_91
  let v199 : BitVec 32 := Scalar.muli v198 c1_i32_91
  let v200 : BitVec 32 := Scalar.addi c0_i32_89 v199
  let c1_i32_93 : BitVec 32 := 1#32
  let arg15 : BitVec 32 := Scf.iv v200 c1_i32_93 k0_t7
  let c64_i32_161 : BitVec 32 := 64#32
  let v294 : BitVec 32 := Scalar.muli arg15 c64_i32_161
  let v295 : BitVec 32 := Scalar.addi c0_i32_162 v294
  ![v295.toNat]
@[reducible] def k0_t8_loop (v17 : BitVec 32) : Scf.Loop 32 :=
  let c0_i32_94 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v203 : BitVec 32 := Scalar.subi v73 c0_i32_94
  let c1_i32_96 : BitVec 32 := 1#32
  let v205 : BitVec 32 := Scalar.divsi v203 c1_i32_96
  let v206 : BitVec 32 := Scalar.muli v205 c1_i32_96
  let v207 : BitVec 32 := Scalar.addi c0_i32_94 v206
  let c1_i32_97 : BitVec 32 := 1#32
  ⟨c0_i32_94, v207, c1_i32_97⟩
def k0_off19 (v13 : BitVec 32) (v15 : BitVec 32) (v17 : BitVec 32) (k0_t8 : Fin (k0_t8_loop v17).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v93 : BitVec 32 := Scalar.addi v37 v55
  let c64_i32_36 : BitVec 32 := 64#32
  let v94 : BitVec 32 := Scalar.muli v93 c64_i32_36
  let c0_i32_94 : BitVec 32 := 0#32
  let c1_i32_97 : BitVec 32 := 1#32
  let arg15 : BitVec 32 := Scf.iv c0_i32_94 c1_i32_97 k0_t8
  let c64_i32_163 : BitVec 32 := 64#32
  let v296 : BitVec 32 := Scalar.muli arg15 c64_i32_163
  let v297 : BitVec 32 := Scalar.addi v94 v296
  let c0_i32_164 : BitVec 32 := 0#32
  ![v297.toNat, 0]
def k0_off20 (v17 : BitVec 32) (k0_t8 : Fin (k0_t8_loop v17).trips) : Fin 1 → Nat :=
  let c1152_i32_162 : BitVec 32 := 1152#32
  let c0_i32_94 : BitVec 32 := 0#32
  let c1_i32_97 : BitVec 32 := 1#32
  let arg15 : BitVec 32 := Scf.iv c0_i32_94 c1_i32_97 k0_t8
  let c64_i32_161 : BitVec 32 := 64#32
  let v294 : BitVec 32 := Scalar.muli arg15 c64_i32_161
  let v295 : BitVec 32 := Scalar.addi c1152_i32_162 v294
  ![v295.toNat]
@[reducible] def k0_t9_loop (v17 : BitVec 32) : Scf.Loop 32 :=
  let c0_i32_94 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v203 : BitVec 32 := Scalar.subi v73 c0_i32_94
  let c1_i32_96 : BitVec 32 := 1#32
  let v205 : BitVec 32 := Scalar.divsi v203 c1_i32_96
  let v206 : BitVec 32 := Scalar.muli v205 c1_i32_96
  let v207 : BitVec 32 := Scalar.addi c0_i32_94 v206
  let v204 : BitVec 32 := Scalar.addi c0_i32_94 v203
  let c1_i32_98 : BitVec 32 := 1#32
  ⟨v207, v204, c1_i32_98⟩
def k0_off21 (v13 : BitVec 32) (v15 : BitVec 32) (v17 : BitVec 32) (k0_t9 : Fin (k0_t9_loop v17).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v93 : BitVec 32 := Scalar.addi v37 v55
  let c64_i32_36 : BitVec 32 := 64#32
  let v94 : BitVec 32 := Scalar.muli v93 c64_i32_36
  let c0_i32_94 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v203 : BitVec 32 := Scalar.subi v73 c0_i32_94
  let c1_i32_96 : BitVec 32 := 1#32
  let v205 : BitVec 32 := Scalar.divsi v203 c1_i32_96
  let v206 : BitVec 32 := Scalar.muli v205 c1_i32_96
  let v207 : BitVec 32 := Scalar.addi c0_i32_94 v206
  let c1_i32_98 : BitVec 32 := 1#32
  let arg15 : BitVec 32 := Scf.iv v207 c1_i32_98 k0_t9
  let c64_i32_163 : BitVec 32 := 64#32
  let v296 : BitVec 32 := Scalar.muli arg15 c64_i32_163
  let v297 : BitVec 32 := Scalar.addi v94 v296
  let c0_i32_164 : BitVec 32 := 0#32
  ![v297.toNat, 0]
def k0_off22 (v17 : BitVec 32) (k0_t9 : Fin (k0_t9_loop v17).trips) : Fin 1 → Nat :=
  let c1152_i32_162 : BitVec 32 := 1152#32
  let c0_i32_94 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v203 : BitVec 32 := Scalar.subi v73 c0_i32_94
  let c1_i32_96 : BitVec 32 := 1#32
  let v205 : BitVec 32 := Scalar.divsi v203 c1_i32_96
  let v206 : BitVec 32 := Scalar.muli v205 c1_i32_96
  let v207 : BitVec 32 := Scalar.addi c0_i32_94 v206
  let c1_i32_98 : BitVec 32 := 1#32
  let arg15 : BitVec 32 := Scf.iv v207 c1_i32_98 k0_t9
  let c64_i32_161 : BitVec 32 := 64#32
  let v294 : BitVec 32 := Scalar.muli arg15 c64_i32_161
  let v295 : BitVec 32 := Scalar.addi c1152_i32_162 v294
  ![v295.toNat]
@[reducible] def k0_t10_loop (v13 : BitVec 32) : Scf.Loop 32 :=
  let c0_i32_100 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v210 : BitVec 32 := Scalar.subi v37 c0_i32_100
  let c1_i32_102 : BitVec 32 := 1#32
  let v212 : BitVec 32 := Scalar.divsi v210 c1_i32_102
  let v213 : BitVec 32 := Scalar.muli v212 c1_i32_102
  let v214 : BitVec 32 := Scalar.addi c0_i32_100 v213
  let c1_i32_103 : BitVec 32 := 1#32
  ⟨c0_i32_100, v214, c1_i32_103⟩
def k0_off23 (v13 : BitVec 32) (k0_t10 : Fin (k0_t10_loop v13).trips) : Fin 2 → Nat :=
  let c0_i32_99 : BitVec 32 := 0#32
  let c0_i32_100 : BitVec 32 := 0#32
  let c1_i32_103 : BitVec 32 := 1#32
  let arg15 : BitVec 32 := Scf.iv c0_i32_100 c1_i32_103 k0_t10
  let c64_i32_161 : BitVec 32 := 64#32
  let v294 : BitVec 32 := Scalar.muli arg15 c64_i32_161
  let v295 : BitVec 32 := Scalar.addi c0_i32_99 v294
  let c0_i32_164 : BitVec 32 := 0#32
  ![v295.toNat, 0]
def k0_off24 (v13 : BitVec 32) (k0_t10 : Fin (k0_t10_loop v13).trips) : Fin 1 → Nat :=
  let c0_i32_163 : BitVec 32 := 0#32
  let c0_i32_100 : BitVec 32 := 0#32
  let c1_i32_103 : BitVec 32 := 1#32
  let arg15 : BitVec 32 := Scf.iv c0_i32_100 c1_i32_103 k0_t10
  let c64_i32_162 : BitVec 32 := 64#32
  let v296 : BitVec 32 := Scalar.muli arg15 c64_i32_162
  let v297 : BitVec 32 := Scalar.addi c0_i32_163 v296
  ![v297.toNat]
@[reducible] def k0_t11_loop (v13 : BitVec 32) : Scf.Loop 32 :=
  let c0_i32_100 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v210 : BitVec 32 := Scalar.subi v37 c0_i32_100
  let c1_i32_102 : BitVec 32 := 1#32
  let v212 : BitVec 32 := Scalar.divsi v210 c1_i32_102
  let v213 : BitVec 32 := Scalar.muli v212 c1_i32_102
  let v214 : BitVec 32 := Scalar.addi c0_i32_100 v213
  let v211 : BitVec 32 := Scalar.addi c0_i32_100 v210
  let c1_i32_104 : BitVec 32 := 1#32
  ⟨v214, v211, c1_i32_104⟩
def k0_off25 (v13 : BitVec 32) (k0_t11 : Fin (k0_t11_loop v13).trips) : Fin 2 → Nat :=
  let c0_i32_99 : BitVec 32 := 0#32
  let c0_i32_100 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v210 : BitVec 32 := Scalar.subi v37 c0_i32_100
  let c1_i32_102 : BitVec 32 := 1#32
  let v212 : BitVec 32 := Scalar.divsi v210 c1_i32_102
  let v213 : BitVec 32 := Scalar.muli v212 c1_i32_102
  let v214 : BitVec 32 := Scalar.addi c0_i32_100 v213
  let c1_i32_104 : BitVec 32 := 1#32
  let arg15 : BitVec 32 := Scf.iv v214 c1_i32_104 k0_t11
  let c64_i32_161 : BitVec 32 := 64#32
  let v294 : BitVec 32 := Scalar.muli arg15 c64_i32_161
  let v295 : BitVec 32 := Scalar.addi c0_i32_99 v294
  let c0_i32_164 : BitVec 32 := 0#32
  ![v295.toNat, 0]
def k0_off26 (v13 : BitVec 32) (k0_t11 : Fin (k0_t11_loop v13).trips) : Fin 1 → Nat :=
  let c0_i32_163 : BitVec 32 := 0#32
  let c0_i32_100 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v210 : BitVec 32 := Scalar.subi v37 c0_i32_100
  let c1_i32_102 : BitVec 32 := 1#32
  let v212 : BitVec 32 := Scalar.divsi v210 c1_i32_102
  let v213 : BitVec 32 := Scalar.muli v212 c1_i32_102
  let v214 : BitVec 32 := Scalar.addi c0_i32_100 v213
  let c1_i32_104 : BitVec 32 := 1#32
  let arg15 : BitVec 32 := Scf.iv v214 c1_i32_104 k0_t11
  let c64_i32_162 : BitVec 32 := 64#32
  let v296 : BitVec 32 := Scalar.muli arg15 c64_i32_162
  let v297 : BitVec 32 := Scalar.addi c0_i32_163 v296
  ![v297.toNat]
@[reducible] def k0_t12_loop (v15 : BitVec 32) : Scf.Loop 32 :=
  let c0_i32_105 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v217 : BitVec 32 := Scalar.subi v55 c0_i32_105
  let c1_i32_107 : BitVec 32 := 1#32
  let v219 : BitVec 32 := Scalar.divsi v217 c1_i32_107
  let v220 : BitVec 32 := Scalar.muli v219 c1_i32_107
  let v221 : BitVec 32 := Scalar.addi c0_i32_105 v220
  let c1_i32_108 : BitVec 32 := 1#32
  ⟨c0_i32_105, v221, c1_i32_108⟩
def k0_off27 (v13 : BitVec 32) (v15 : BitVec 32) (k0_t12 : Fin (k0_t12_loop v15).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c64_i32_35 : BitVec 32 := 64#32
  let v92 : BitVec 32 := Scalar.muli v37 c64_i32_35
  let c0_i32_105 : BitVec 32 := 0#32
  let c1_i32_108 : BitVec 32 := 1#32
  let arg15 : BitVec 32 := Scf.iv c0_i32_105 c1_i32_108 k0_t12
  let c64_i32_163 : BitVec 32 := 64#32
  let v296 : BitVec 32 := Scalar.muli arg15 c64_i32_163
  let v297 : BitVec 32 := Scalar.addi v92 v296
  let c0_i32_164 : BitVec 32 := 0#32
  ![v297.toNat, 0]
def k0_off28 (v15 : BitVec 32) (k0_t12 : Fin (k0_t12_loop v15).trips) : Fin 1 → Nat :=
  let c576_i32_162 : BitVec 32 := 576#32
  let c0_i32_105 : BitVec 32 := 0#32
  let c1_i32_108 : BitVec 32 := 1#32
  let arg15 : BitVec 32 := Scf.iv c0_i32_105 c1_i32_108 k0_t12
  let c64_i32_161 : BitVec 32 := 64#32
  let v294 : BitVec 32 := Scalar.muli arg15 c64_i32_161
  let v295 : BitVec 32 := Scalar.addi c576_i32_162 v294
  ![v295.toNat]
@[reducible] def k0_t13_loop (v15 : BitVec 32) : Scf.Loop 32 :=
  let c0_i32_105 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v217 : BitVec 32 := Scalar.subi v55 c0_i32_105
  let c1_i32_107 : BitVec 32 := 1#32
  let v219 : BitVec 32 := Scalar.divsi v217 c1_i32_107
  let v220 : BitVec 32 := Scalar.muli v219 c1_i32_107
  let v221 : BitVec 32 := Scalar.addi c0_i32_105 v220
  let v218 : BitVec 32 := Scalar.addi c0_i32_105 v217
  let c1_i32_109 : BitVec 32 := 1#32
  ⟨v221, v218, c1_i32_109⟩
def k0_off29 (v13 : BitVec 32) (v15 : BitVec 32) (k0_t13 : Fin (k0_t13_loop v15).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c64_i32_35 : BitVec 32 := 64#32
  let v92 : BitVec 32 := Scalar.muli v37 c64_i32_35
  let c0_i32_105 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v217 : BitVec 32 := Scalar.subi v55 c0_i32_105
  let c1_i32_107 : BitVec 32 := 1#32
  let v219 : BitVec 32 := Scalar.divsi v217 c1_i32_107
  let v220 : BitVec 32 := Scalar.muli v219 c1_i32_107
  let v221 : BitVec 32 := Scalar.addi c0_i32_105 v220
  let c1_i32_109 : BitVec 32 := 1#32
  let arg15 : BitVec 32 := Scf.iv v221 c1_i32_109 k0_t13
  let c64_i32_163 : BitVec 32 := 64#32
  let v296 : BitVec 32 := Scalar.muli arg15 c64_i32_163
  let v297 : BitVec 32 := Scalar.addi v92 v296
  let c0_i32_164 : BitVec 32 := 0#32
  ![v297.toNat, 0]
def k0_off30 (v15 : BitVec 32) (k0_t13 : Fin (k0_t13_loop v15).trips) : Fin 1 → Nat :=
  let c576_i32_162 : BitVec 32 := 576#32
  let c0_i32_105 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v217 : BitVec 32 := Scalar.subi v55 c0_i32_105
  let c1_i32_107 : BitVec 32 := 1#32
  let v219 : BitVec 32 := Scalar.divsi v217 c1_i32_107
  let v220 : BitVec 32 := Scalar.muli v219 c1_i32_107
  let v221 : BitVec 32 := Scalar.addi c0_i32_105 v220
  let c1_i32_109 : BitVec 32 := 1#32
  let arg15 : BitVec 32 := Scf.iv v221 c1_i32_109 k0_t13
  let c64_i32_161 : BitVec 32 := 64#32
  let v294 : BitVec 32 := Scalar.muli arg15 c64_i32_161
  let v295 : BitVec 32 := Scalar.addi c576_i32_162 v294
  ![v295.toNat]
@[reducible] def k0_t14_loop (v19 : BitVec 32) : Scf.Loop 32 :=
  let c0_i32_110 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v224 : BitVec 32 := Scalar.subi v91 c0_i32_110
  let c1_i32_112 : BitVec 32 := 1#32
  let v226 : BitVec 32 := Scalar.divsi v224 c1_i32_112
  let v227 : BitVec 32 := Scalar.muli v226 c1_i32_112
  let v228 : BitVec 32 := Scalar.addi c0_i32_110 v227
  let c1_i32_113 : BitVec 32 := 1#32
  ⟨c0_i32_110, v228, c1_i32_113⟩
def k0_off31 (v13 : BitVec 32) (v15 : BitVec 32) (v17 : BitVec 32) (v19 : BitVec 32) (k0_t14 : Fin (k0_t14_loop v19).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v95 : BitVec 32 := Scalar.addi v37 v55
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v96 : BitVec 32 := Scalar.addi v95 v73
  let c64_i32_37 : BitVec 32 := 64#32
  let v97 : BitVec 32 := Scalar.muli v96 c64_i32_37
  let c0_i32_110 : BitVec 32 := 0#32
  let c1_i32_113 : BitVec 32 := 1#32
  let arg15 : BitVec 32 := Scf.iv c0_i32_110 c1_i32_113 k0_t14
  let c64_i32_163 : BitVec 32 := 64#32
  let v296 : BitVec 32 := Scalar.muli arg15 c64_i32_163
  let v297 : BitVec 32 := Scalar.addi v97 v296
  let c0_i32_164 : BitVec 32 := 0#32
  ![v297.toNat, 0]
def k0_off32 (v19 : BitVec 32) (k0_t14 : Fin (k0_t14_loop v19).trips) : Fin 1 → Nat :=
  let c1728_i32_162 : BitVec 32 := 1728#32
  let c0_i32_110 : BitVec 32 := 0#32
  let c1_i32_113 : BitVec 32 := 1#32
  let arg15 : BitVec 32 := Scf.iv c0_i32_110 c1_i32_113 k0_t14
  let c64_i32_161 : BitVec 32 := 64#32
  let v294 : BitVec 32 := Scalar.muli arg15 c64_i32_161
  let v295 : BitVec 32 := Scalar.addi c1728_i32_162 v294
  ![v295.toNat]
@[reducible] def k0_t15_loop (v19 : BitVec 32) : Scf.Loop 32 :=
  let c0_i32_110 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v224 : BitVec 32 := Scalar.subi v91 c0_i32_110
  let c1_i32_112 : BitVec 32 := 1#32
  let v226 : BitVec 32 := Scalar.divsi v224 c1_i32_112
  let v227 : BitVec 32 := Scalar.muli v226 c1_i32_112
  let v228 : BitVec 32 := Scalar.addi c0_i32_110 v227
  let v225 : BitVec 32 := Scalar.addi c0_i32_110 v224
  let c1_i32_114 : BitVec 32 := 1#32
  ⟨v228, v225, c1_i32_114⟩
def k0_off33 (v13 : BitVec 32) (v15 : BitVec 32) (v17 : BitVec 32) (v19 : BitVec 32) (k0_t15 : Fin (k0_t15_loop v19).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v95 : BitVec 32 := Scalar.addi v37 v55
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v96 : BitVec 32 := Scalar.addi v95 v73
  let c64_i32_37 : BitVec 32 := 64#32
  let v97 : BitVec 32 := Scalar.muli v96 c64_i32_37
  let c0_i32_110 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v224 : BitVec 32 := Scalar.subi v91 c0_i32_110
  let c1_i32_112 : BitVec 32 := 1#32
  let v226 : BitVec 32 := Scalar.divsi v224 c1_i32_112
  let v227 : BitVec 32 := Scalar.muli v226 c1_i32_112
  let v228 : BitVec 32 := Scalar.addi c0_i32_110 v227
  let c1_i32_114 : BitVec 32 := 1#32
  let arg15 : BitVec 32 := Scf.iv v228 c1_i32_114 k0_t15
  let c64_i32_163 : BitVec 32 := 64#32
  let v296 : BitVec 32 := Scalar.muli arg15 c64_i32_163
  let v297 : BitVec 32 := Scalar.addi v97 v296
  let c0_i32_164 : BitVec 32 := 0#32
  ![v297.toNat, 0]
def k0_off34 (v19 : BitVec 32) (k0_t15 : Fin (k0_t15_loop v19).trips) : Fin 1 → Nat :=
  let c1728_i32_162 : BitVec 32 := 1728#32
  let c0_i32_110 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v224 : BitVec 32 := Scalar.subi v91 c0_i32_110
  let c1_i32_112 : BitVec 32 := 1#32
  let v226 : BitVec 32 := Scalar.divsi v224 c1_i32_112
  let v227 : BitVec 32 := Scalar.muli v226 c1_i32_112
  let v228 : BitVec 32 := Scalar.addi c0_i32_110 v227
  let c1_i32_114 : BitVec 32 := 1#32
  let arg15 : BitVec 32 := Scf.iv v228 c1_i32_114 k0_t15
  let c64_i32_161 : BitVec 32 := 64#32
  let v294 : BitVec 32 := Scalar.muli arg15 c64_i32_161
  let v295 : BitVec 32 := Scalar.addi c1728_i32_162 v294
  ![v295.toNat]
@[reducible] def k0_t16_loop (v15 : BitVec 32) : Scf.Loop 32 :=
  let c0_i32_115 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v231 : BitVec 32 := Scalar.subi v55 c0_i32_115
  let c1_i32_117 : BitVec 32 := 1#32
  let v233 : BitVec 32 := Scalar.divsi v231 c1_i32_117
  let v234 : BitVec 32 := Scalar.muli v233 c1_i32_117
  let v235 : BitVec 32 := Scalar.addi c0_i32_115 v234
  let c1_i32_118 : BitVec 32 := 1#32
  ⟨c0_i32_115, v235, c1_i32_118⟩
def k0_off35 (v13 : BitVec 32) (v15 : BitVec 32) (k0_t16 : Fin (k0_t16_loop v15).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c64_i32_35 : BitVec 32 := 64#32
  let v92 : BitVec 32 := Scalar.muli v37 c64_i32_35
  let c0_i32_115 : BitVec 32 := 0#32
  let c1_i32_118 : BitVec 32 := 1#32
  let arg15 : BitVec 32 := Scf.iv c0_i32_115 c1_i32_118 k0_t16
  let c64_i32_161 : BitVec 32 := 64#32
  let v294 : BitVec 32 := Scalar.muli arg15 c64_i32_161
  let v295 : BitVec 32 := Scalar.addi v92 v294
  let c0_i32_164 : BitVec 32 := 0#32
  ![v295.toNat, 0]
def k0_off36 (v15 : BitVec 32) (k0_t16 : Fin (k0_t16_loop v15).trips) : Fin 1 → Nat :=
  let c576_i32_163 : BitVec 32 := 576#32
  let c0_i32_115 : BitVec 32 := 0#32
  let c1_i32_118 : BitVec 32 := 1#32
  let arg15 : BitVec 32 := Scf.iv c0_i32_115 c1_i32_118 k0_t16
  let c64_i32_162 : BitVec 32 := 64#32
  let v296 : BitVec 32 := Scalar.muli arg15 c64_i32_162
  let v297 : BitVec 32 := Scalar.addi c576_i32_163 v296
  ![v297.toNat]
@[reducible] def k0_t17_loop (v15 : BitVec 32) : Scf.Loop 32 :=
  let c0_i32_115 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v231 : BitVec 32 := Scalar.subi v55 c0_i32_115
  let c1_i32_117 : BitVec 32 := 1#32
  let v233 : BitVec 32 := Scalar.divsi v231 c1_i32_117
  let v234 : BitVec 32 := Scalar.muli v233 c1_i32_117
  let v235 : BitVec 32 := Scalar.addi c0_i32_115 v234
  let v232 : BitVec 32 := Scalar.addi c0_i32_115 v231
  let c1_i32_119 : BitVec 32 := 1#32
  ⟨v235, v232, c1_i32_119⟩
def k0_off37 (v13 : BitVec 32) (v15 : BitVec 32) (k0_t17 : Fin (k0_t17_loop v15).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c64_i32_35 : BitVec 32 := 64#32
  let v92 : BitVec 32 := Scalar.muli v37 c64_i32_35
  let c0_i32_115 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v231 : BitVec 32 := Scalar.subi v55 c0_i32_115
  let c1_i32_117 : BitVec 32 := 1#32
  let v233 : BitVec 32 := Scalar.divsi v231 c1_i32_117
  let v234 : BitVec 32 := Scalar.muli v233 c1_i32_117
  let v235 : BitVec 32 := Scalar.addi c0_i32_115 v234
  let c1_i32_119 : BitVec 32 := 1#32
  let arg15 : BitVec 32 := Scf.iv v235 c1_i32_119 k0_t17
  let c64_i32_161 : BitVec 32 := 64#32
  let v294 : BitVec 32 := Scalar.muli arg15 c64_i32_161
  let v295 : BitVec 32 := Scalar.addi v92 v294
  let c0_i32_164 : BitVec 32 := 0#32
  ![v295.toNat, 0]
def k0_off38 (v15 : BitVec 32) (k0_t17 : Fin (k0_t17_loop v15).trips) : Fin 1 → Nat :=
  let c576_i32_163 : BitVec 32 := 576#32
  let c0_i32_115 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v231 : BitVec 32 := Scalar.subi v55 c0_i32_115
  let c1_i32_117 : BitVec 32 := 1#32
  let v233 : BitVec 32 := Scalar.divsi v231 c1_i32_117
  let v234 : BitVec 32 := Scalar.muli v233 c1_i32_117
  let v235 : BitVec 32 := Scalar.addi c0_i32_115 v234
  let c1_i32_119 : BitVec 32 := 1#32
  let arg15 : BitVec 32 := Scf.iv v235 c1_i32_119 k0_t17
  let c64_i32_162 : BitVec 32 := 64#32
  let v296 : BitVec 32 := Scalar.muli arg15 c64_i32_162
  let v297 : BitVec 32 := Scalar.addi c576_i32_163 v296
  ![v297.toNat]
@[reducible] def k0_t18_loop (v17 : BitVec 32) : Scf.Loop 32 :=
  let c0_i32_120 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v238 : BitVec 32 := Scalar.subi v73 c0_i32_120
  let c1_i32_122 : BitVec 32 := 1#32
  let v240 : BitVec 32 := Scalar.divsi v238 c1_i32_122
  let v241 : BitVec 32 := Scalar.muli v240 c1_i32_122
  let v242 : BitVec 32 := Scalar.addi c0_i32_120 v241
  let c1_i32_123 : BitVec 32 := 1#32
  ⟨c0_i32_120, v242, c1_i32_123⟩
def k0_off39 (v13 : BitVec 32) (v15 : BitVec 32) (v17 : BitVec 32) (k0_t18 : Fin (k0_t18_loop v17).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v93 : BitVec 32 := Scalar.addi v37 v55
  let c64_i32_36 : BitVec 32 := 64#32
  let v94 : BitVec 32 := Scalar.muli v93 c64_i32_36
  let c0_i32_120 : BitVec 32 := 0#32
  let c1_i32_123 : BitVec 32 := 1#32
  let arg15 : BitVec 32 := Scf.iv c0_i32_120 c1_i32_123 k0_t18
  let c64_i32_163 : BitVec 32 := 64#32
  let v296 : BitVec 32 := Scalar.muli arg15 c64_i32_163
  let v297 : BitVec 32 := Scalar.addi v94 v296
  let c0_i32_164 : BitVec 32 := 0#32
  ![v297.toNat, 0]
def k0_off40 (v17 : BitVec 32) (k0_t18 : Fin (k0_t18_loop v17).trips) : Fin 1 → Nat :=
  let c1152_i32_162 : BitVec 32 := 1152#32
  let c0_i32_120 : BitVec 32 := 0#32
  let c1_i32_123 : BitVec 32 := 1#32
  let arg15 : BitVec 32 := Scf.iv c0_i32_120 c1_i32_123 k0_t18
  let c64_i32_161 : BitVec 32 := 64#32
  let v294 : BitVec 32 := Scalar.muli arg15 c64_i32_161
  let v295 : BitVec 32 := Scalar.addi c1152_i32_162 v294
  ![v295.toNat]
@[reducible] def k0_t19_loop (v17 : BitVec 32) : Scf.Loop 32 :=
  let c0_i32_120 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v238 : BitVec 32 := Scalar.subi v73 c0_i32_120
  let c1_i32_122 : BitVec 32 := 1#32
  let v240 : BitVec 32 := Scalar.divsi v238 c1_i32_122
  let v241 : BitVec 32 := Scalar.muli v240 c1_i32_122
  let v242 : BitVec 32 := Scalar.addi c0_i32_120 v241
  let v239 : BitVec 32 := Scalar.addi c0_i32_120 v238
  let c1_i32_124 : BitVec 32 := 1#32
  ⟨v242, v239, c1_i32_124⟩
def k0_off41 (v13 : BitVec 32) (v15 : BitVec 32) (v17 : BitVec 32) (k0_t19 : Fin (k0_t19_loop v17).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v93 : BitVec 32 := Scalar.addi v37 v55
  let c64_i32_36 : BitVec 32 := 64#32
  let v94 : BitVec 32 := Scalar.muli v93 c64_i32_36
  let c0_i32_120 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v238 : BitVec 32 := Scalar.subi v73 c0_i32_120
  let c1_i32_122 : BitVec 32 := 1#32
  let v240 : BitVec 32 := Scalar.divsi v238 c1_i32_122
  let v241 : BitVec 32 := Scalar.muli v240 c1_i32_122
  let v242 : BitVec 32 := Scalar.addi c0_i32_120 v241
  let c1_i32_124 : BitVec 32 := 1#32
  let arg15 : BitVec 32 := Scf.iv v242 c1_i32_124 k0_t19
  let c64_i32_163 : BitVec 32 := 64#32
  let v296 : BitVec 32 := Scalar.muli arg15 c64_i32_163
  let v297 : BitVec 32 := Scalar.addi v94 v296
  let c0_i32_164 : BitVec 32 := 0#32
  ![v297.toNat, 0]
def k0_off42 (v17 : BitVec 32) (k0_t19 : Fin (k0_t19_loop v17).trips) : Fin 1 → Nat :=
  let c1152_i32_162 : BitVec 32 := 1152#32
  let c0_i32_120 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v238 : BitVec 32 := Scalar.subi v73 c0_i32_120
  let c1_i32_122 : BitVec 32 := 1#32
  let v240 : BitVec 32 := Scalar.divsi v238 c1_i32_122
  let v241 : BitVec 32 := Scalar.muli v240 c1_i32_122
  let v242 : BitVec 32 := Scalar.addi c0_i32_120 v241
  let c1_i32_124 : BitVec 32 := 1#32
  let arg15 : BitVec 32 := Scf.iv v242 c1_i32_124 k0_t19
  let c64_i32_161 : BitVec 32 := 64#32
  let v294 : BitVec 32 := Scalar.muli arg15 c64_i32_161
  let v295 : BitVec 32 := Scalar.addi c1152_i32_162 v294
  ![v295.toNat]
@[reducible] def k0_t20_loop (v17 : BitVec 32) : Scf.Loop 32 :=
  let c0_i32_125 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v245 : BitVec 32 := Scalar.subi v73 c0_i32_125
  let c1_i32_127 : BitVec 32 := 1#32
  let v247 : BitVec 32 := Scalar.divsi v245 c1_i32_127
  let v248 : BitVec 32 := Scalar.muli v247 c1_i32_127
  let v249 : BitVec 32 := Scalar.addi c0_i32_125 v248
  let c1_i32_128 : BitVec 32 := 1#32
  ⟨c0_i32_125, v249, c1_i32_128⟩
def k0_off43 (v13 : BitVec 32) (v15 : BitVec 32) (v17 : BitVec 32) (k0_t20 : Fin (k0_t20_loop v17).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v93 : BitVec 32 := Scalar.addi v37 v55
  let c64_i32_36 : BitVec 32 := 64#32
  let v94 : BitVec 32 := Scalar.muli v93 c64_i32_36
  let c0_i32_125 : BitVec 32 := 0#32
  let c1_i32_128 : BitVec 32 := 1#32
  let arg15 : BitVec 32 := Scf.iv c0_i32_125 c1_i32_128 k0_t20
  let c64_i32_161 : BitVec 32 := 64#32
  let v294 : BitVec 32 := Scalar.muli arg15 c64_i32_161
  let v295 : BitVec 32 := Scalar.addi v94 v294
  let c0_i32_164 : BitVec 32 := 0#32
  ![v295.toNat, 0]
def k0_off44 (v17 : BitVec 32) (k0_t20 : Fin (k0_t20_loop v17).trips) : Fin 1 → Nat :=
  let c1152_i32_163 : BitVec 32 := 1152#32
  let c0_i32_125 : BitVec 32 := 0#32
  let c1_i32_128 : BitVec 32 := 1#32
  let arg15 : BitVec 32 := Scf.iv c0_i32_125 c1_i32_128 k0_t20
  let c64_i32_162 : BitVec 32 := 64#32
  let v296 : BitVec 32 := Scalar.muli arg15 c64_i32_162
  let v297 : BitVec 32 := Scalar.addi c1152_i32_163 v296
  ![v297.toNat]
@[reducible] def k0_t21_loop (v17 : BitVec 32) : Scf.Loop 32 :=
  let c0_i32_125 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v245 : BitVec 32 := Scalar.subi v73 c0_i32_125
  let c1_i32_127 : BitVec 32 := 1#32
  let v247 : BitVec 32 := Scalar.divsi v245 c1_i32_127
  let v248 : BitVec 32 := Scalar.muli v247 c1_i32_127
  let v249 : BitVec 32 := Scalar.addi c0_i32_125 v248
  let v246 : BitVec 32 := Scalar.addi c0_i32_125 v245
  let c1_i32_129 : BitVec 32 := 1#32
  ⟨v249, v246, c1_i32_129⟩
def k0_off45 (v13 : BitVec 32) (v15 : BitVec 32) (v17 : BitVec 32) (k0_t21 : Fin (k0_t21_loop v17).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v93 : BitVec 32 := Scalar.addi v37 v55
  let c64_i32_36 : BitVec 32 := 64#32
  let v94 : BitVec 32 := Scalar.muli v93 c64_i32_36
  let c0_i32_125 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v245 : BitVec 32 := Scalar.subi v73 c0_i32_125
  let c1_i32_127 : BitVec 32 := 1#32
  let v247 : BitVec 32 := Scalar.divsi v245 c1_i32_127
  let v248 : BitVec 32 := Scalar.muli v247 c1_i32_127
  let v249 : BitVec 32 := Scalar.addi c0_i32_125 v248
  let c1_i32_129 : BitVec 32 := 1#32
  let arg15 : BitVec 32 := Scf.iv v249 c1_i32_129 k0_t21
  let c64_i32_161 : BitVec 32 := 64#32
  let v294 : BitVec 32 := Scalar.muli arg15 c64_i32_161
  let v295 : BitVec 32 := Scalar.addi v94 v294
  let c0_i32_164 : BitVec 32 := 0#32
  ![v295.toNat, 0]
def k0_off46 (v17 : BitVec 32) (k0_t21 : Fin (k0_t21_loop v17).trips) : Fin 1 → Nat :=
  let c1152_i32_163 : BitVec 32 := 1152#32
  let c0_i32_125 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v245 : BitVec 32 := Scalar.subi v73 c0_i32_125
  let c1_i32_127 : BitVec 32 := 1#32
  let v247 : BitVec 32 := Scalar.divsi v245 c1_i32_127
  let v248 : BitVec 32 := Scalar.muli v247 c1_i32_127
  let v249 : BitVec 32 := Scalar.addi c0_i32_125 v248
  let c1_i32_129 : BitVec 32 := 1#32
  let arg15 : BitVec 32 := Scf.iv v249 c1_i32_129 k0_t21
  let c64_i32_162 : BitVec 32 := 64#32
  let v296 : BitVec 32 := Scalar.muli arg15 c64_i32_162
  let v297 : BitVec 32 := Scalar.addi c1152_i32_163 v296
  ![v297.toNat]
@[reducible] def k0_t22_loop (v19 : BitVec 32) : Scf.Loop 32 :=
  let c0_i32_130 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v252 : BitVec 32 := Scalar.subi v91 c0_i32_130
  let c1_i32_132 : BitVec 32 := 1#32
  let v254 : BitVec 32 := Scalar.divsi v252 c1_i32_132
  let v255 : BitVec 32 := Scalar.muli v254 c1_i32_132
  let v256 : BitVec 32 := Scalar.addi c0_i32_130 v255
  let c1_i32_133 : BitVec 32 := 1#32
  ⟨c0_i32_130, v256, c1_i32_133⟩
def k0_off47 (v13 : BitVec 32) (v15 : BitVec 32) (v17 : BitVec 32) (v19 : BitVec 32) (k0_t22 : Fin (k0_t22_loop v19).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v95 : BitVec 32 := Scalar.addi v37 v55
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v96 : BitVec 32 := Scalar.addi v95 v73
  let c64_i32_37 : BitVec 32 := 64#32
  let v97 : BitVec 32 := Scalar.muli v96 c64_i32_37
  let c0_i32_130 : BitVec 32 := 0#32
  let c1_i32_133 : BitVec 32 := 1#32
  let arg15 : BitVec 32 := Scf.iv c0_i32_130 c1_i32_133 k0_t22
  let c64_i32_163 : BitVec 32 := 64#32
  let v296 : BitVec 32 := Scalar.muli arg15 c64_i32_163
  let v297 : BitVec 32 := Scalar.addi v97 v296
  let c0_i32_164 : BitVec 32 := 0#32
  ![v297.toNat, 0]
def k0_off48 (v19 : BitVec 32) (k0_t22 : Fin (k0_t22_loop v19).trips) : Fin 1 → Nat :=
  let c1728_i32_162 : BitVec 32 := 1728#32
  let c0_i32_130 : BitVec 32 := 0#32
  let c1_i32_133 : BitVec 32 := 1#32
  let arg15 : BitVec 32 := Scf.iv c0_i32_130 c1_i32_133 k0_t22
  let c64_i32_161 : BitVec 32 := 64#32
  let v294 : BitVec 32 := Scalar.muli arg15 c64_i32_161
  let v295 : BitVec 32 := Scalar.addi c1728_i32_162 v294
  ![v295.toNat]
@[reducible] def k0_t23_loop (v19 : BitVec 32) : Scf.Loop 32 :=
  let c0_i32_130 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v252 : BitVec 32 := Scalar.subi v91 c0_i32_130
  let c1_i32_132 : BitVec 32 := 1#32
  let v254 : BitVec 32 := Scalar.divsi v252 c1_i32_132
  let v255 : BitVec 32 := Scalar.muli v254 c1_i32_132
  let v256 : BitVec 32 := Scalar.addi c0_i32_130 v255
  let v253 : BitVec 32 := Scalar.addi c0_i32_130 v252
  let c1_i32_134 : BitVec 32 := 1#32
  ⟨v256, v253, c1_i32_134⟩
def k0_off49 (v13 : BitVec 32) (v15 : BitVec 32) (v17 : BitVec 32) (v19 : BitVec 32) (k0_t23 : Fin (k0_t23_loop v19).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v95 : BitVec 32 := Scalar.addi v37 v55
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v96 : BitVec 32 := Scalar.addi v95 v73
  let c64_i32_37 : BitVec 32 := 64#32
  let v97 : BitVec 32 := Scalar.muli v96 c64_i32_37
  let c0_i32_130 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v252 : BitVec 32 := Scalar.subi v91 c0_i32_130
  let c1_i32_132 : BitVec 32 := 1#32
  let v254 : BitVec 32 := Scalar.divsi v252 c1_i32_132
  let v255 : BitVec 32 := Scalar.muli v254 c1_i32_132
  let v256 : BitVec 32 := Scalar.addi c0_i32_130 v255
  let c1_i32_134 : BitVec 32 := 1#32
  let arg15 : BitVec 32 := Scf.iv v256 c1_i32_134 k0_t23
  let c64_i32_163 : BitVec 32 := 64#32
  let v296 : BitVec 32 := Scalar.muli arg15 c64_i32_163
  let v297 : BitVec 32 := Scalar.addi v97 v296
  let c0_i32_164 : BitVec 32 := 0#32
  ![v297.toNat, 0]
def k0_off50 (v19 : BitVec 32) (k0_t23 : Fin (k0_t23_loop v19).trips) : Fin 1 → Nat :=
  let c1728_i32_162 : BitVec 32 := 1728#32
  let c0_i32_130 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v252 : BitVec 32 := Scalar.subi v91 c0_i32_130
  let c1_i32_132 : BitVec 32 := 1#32
  let v254 : BitVec 32 := Scalar.divsi v252 c1_i32_132
  let v255 : BitVec 32 := Scalar.muli v254 c1_i32_132
  let v256 : BitVec 32 := Scalar.addi c0_i32_130 v255
  let c1_i32_134 : BitVec 32 := 1#32
  let arg15 : BitVec 32 := Scf.iv v256 c1_i32_134 k0_t23
  let c64_i32_161 : BitVec 32 := 64#32
  let v294 : BitVec 32 := Scalar.muli arg15 c64_i32_161
  let v295 : BitVec 32 := Scalar.addi c1728_i32_162 v294
  ![v295.toNat]
@[reducible] def k0_t24_loop (v19 : BitVec 32) : Scf.Loop 32 :=
  let c0_i32_135 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v259 : BitVec 32 := Scalar.subi v91 c0_i32_135
  let c1_i32_137 : BitVec 32 := 1#32
  let v261 : BitVec 32 := Scalar.divsi v259 c1_i32_137
  let v262 : BitVec 32 := Scalar.muli v261 c1_i32_137
  let v263 : BitVec 32 := Scalar.addi c0_i32_135 v262
  let c1_i32_138 : BitVec 32 := 1#32
  ⟨c0_i32_135, v263, c1_i32_138⟩
def k0_off51 (v13 : BitVec 32) (v15 : BitVec 32) (v17 : BitVec 32) (v19 : BitVec 32) (k0_t24 : Fin (k0_t24_loop v19).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v95 : BitVec 32 := Scalar.addi v37 v55
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v96 : BitVec 32 := Scalar.addi v95 v73
  let c64_i32_37 : BitVec 32 := 64#32
  let v97 : BitVec 32 := Scalar.muli v96 c64_i32_37
  let c0_i32_135 : BitVec 32 := 0#32
  let c1_i32_138 : BitVec 32 := 1#32
  let arg15 : BitVec 32 := Scf.iv c0_i32_135 c1_i32_138 k0_t24
  let c64_i32_161 : BitVec 32 := 64#32
  let v294 : BitVec 32 := Scalar.muli arg15 c64_i32_161
  let v295 : BitVec 32 := Scalar.addi v97 v294
  let c0_i32_164 : BitVec 32 := 0#32
  ![v295.toNat, 0]
def k0_off52 (v19 : BitVec 32) (k0_t24 : Fin (k0_t24_loop v19).trips) : Fin 1 → Nat :=
  let c1728_i32_163 : BitVec 32 := 1728#32
  let c0_i32_135 : BitVec 32 := 0#32
  let c1_i32_138 : BitVec 32 := 1#32
  let arg15 : BitVec 32 := Scf.iv c0_i32_135 c1_i32_138 k0_t24
  let c64_i32_162 : BitVec 32 := 64#32
  let v296 : BitVec 32 := Scalar.muli arg15 c64_i32_162
  let v297 : BitVec 32 := Scalar.addi c1728_i32_163 v296
  ![v297.toNat]
@[reducible] def k0_t25_loop (v19 : BitVec 32) : Scf.Loop 32 :=
  let c0_i32_135 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v259 : BitVec 32 := Scalar.subi v91 c0_i32_135
  let c1_i32_137 : BitVec 32 := 1#32
  let v261 : BitVec 32 := Scalar.divsi v259 c1_i32_137
  let v262 : BitVec 32 := Scalar.muli v261 c1_i32_137
  let v263 : BitVec 32 := Scalar.addi c0_i32_135 v262
  let v260 : BitVec 32 := Scalar.addi c0_i32_135 v259
  let c1_i32_139 : BitVec 32 := 1#32
  ⟨v263, v260, c1_i32_139⟩
def k0_off53 (v13 : BitVec 32) (v15 : BitVec 32) (v17 : BitVec 32) (v19 : BitVec 32) (k0_t25 : Fin (k0_t25_loop v19).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v95 : BitVec 32 := Scalar.addi v37 v55
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v96 : BitVec 32 := Scalar.addi v95 v73
  let c64_i32_37 : BitVec 32 := 64#32
  let v97 : BitVec 32 := Scalar.muli v96 c64_i32_37
  let c0_i32_135 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v259 : BitVec 32 := Scalar.subi v91 c0_i32_135
  let c1_i32_137 : BitVec 32 := 1#32
  let v261 : BitVec 32 := Scalar.divsi v259 c1_i32_137
  let v262 : BitVec 32 := Scalar.muli v261 c1_i32_137
  let v263 : BitVec 32 := Scalar.addi c0_i32_135 v262
  let c1_i32_139 : BitVec 32 := 1#32
  let arg15 : BitVec 32 := Scf.iv v263 c1_i32_139 k0_t25
  let c64_i32_161 : BitVec 32 := 64#32
  let v294 : BitVec 32 := Scalar.muli arg15 c64_i32_161
  let v295 : BitVec 32 := Scalar.addi v97 v294
  let c0_i32_164 : BitVec 32 := 0#32
  ![v295.toNat, 0]
def k0_off54 (v19 : BitVec 32) (k0_t25 : Fin (k0_t25_loop v19).trips) : Fin 1 → Nat :=
  let c1728_i32_163 : BitVec 32 := 1728#32
  let c0_i32_135 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v259 : BitVec 32 := Scalar.subi v91 c0_i32_135
  let c1_i32_137 : BitVec 32 := 1#32
  let v261 : BitVec 32 := Scalar.divsi v259 c1_i32_137
  let v262 : BitVec 32 := Scalar.muli v261 c1_i32_137
  let v263 : BitVec 32 := Scalar.addi c0_i32_135 v262
  let c1_i32_139 : BitVec 32 := 1#32
  let arg15 : BitVec 32 := Scf.iv v263 c1_i32_139 k0_t25
  let c64_i32_162 : BitVec 32 := 64#32
  let v296 : BitVec 32 := Scalar.muli arg15 c64_i32_162
  let v297 : BitVec 32 := Scalar.addi c1728_i32_163 v296
  ![v297.toNat]
@[reducible] def k0_t26_loop (v13 : BitVec 32) : Scf.Loop 32 :=
  let c0_i32_141 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v266 : BitVec 32 := Scalar.subi v37 c0_i32_141
  let c1_i32_143 : BitVec 32 := 1#32
  let v268 : BitVec 32 := Scalar.divsi v266 c1_i32_143
  let v269 : BitVec 32 := Scalar.muli v268 c1_i32_143
  let v270 : BitVec 32 := Scalar.addi c0_i32_141 v269
  let c1_i32_144 : BitVec 32 := 1#32
  ⟨c0_i32_141, v270, c1_i32_144⟩
def k0_off55 (v13 : BitVec 32) (k0_t26 : Fin (k0_t26_loop v13).trips) : Fin 2 → Nat :=
  let c0_i32_140 : BitVec 32 := 0#32
  let c0_i32_141 : BitVec 32 := 0#32
  let c1_i32_144 : BitVec 32 := 1#32
  let arg15 : BitVec 32 := Scf.iv c0_i32_141 c1_i32_144 k0_t26
  let c64_i32_161 : BitVec 32 := 64#32
  let v294 : BitVec 32 := Scalar.muli arg15 c64_i32_161
  let v295 : BitVec 32 := Scalar.addi c0_i32_140 v294
  let c0_i32_164 : BitVec 32 := 0#32
  ![v295.toNat, 0]
def k0_off56 (v13 : BitVec 32) (k0_t26 : Fin (k0_t26_loop v13).trips) : Fin 1 → Nat :=
  let c0_i32_163 : BitVec 32 := 0#32
  let c0_i32_141 : BitVec 32 := 0#32
  let c1_i32_144 : BitVec 32 := 1#32
  let arg15 : BitVec 32 := Scf.iv c0_i32_141 c1_i32_144 k0_t26
  let c64_i32_162 : BitVec 32 := 64#32
  let v296 : BitVec 32 := Scalar.muli arg15 c64_i32_162
  let v297 : BitVec 32 := Scalar.addi c0_i32_163 v296
  ![v297.toNat]
@[reducible] def k0_t27_loop (v13 : BitVec 32) : Scf.Loop 32 :=
  let c0_i32_141 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v266 : BitVec 32 := Scalar.subi v37 c0_i32_141
  let c1_i32_143 : BitVec 32 := 1#32
  let v268 : BitVec 32 := Scalar.divsi v266 c1_i32_143
  let v269 : BitVec 32 := Scalar.muli v268 c1_i32_143
  let v270 : BitVec 32 := Scalar.addi c0_i32_141 v269
  let v267 : BitVec 32 := Scalar.addi c0_i32_141 v266
  let c1_i32_145 : BitVec 32 := 1#32
  ⟨v270, v267, c1_i32_145⟩
def k0_off57 (v13 : BitVec 32) (k0_t27 : Fin (k0_t27_loop v13).trips) : Fin 2 → Nat :=
  let c0_i32_140 : BitVec 32 := 0#32
  let c0_i32_141 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v266 : BitVec 32 := Scalar.subi v37 c0_i32_141
  let c1_i32_143 : BitVec 32 := 1#32
  let v268 : BitVec 32 := Scalar.divsi v266 c1_i32_143
  let v269 : BitVec 32 := Scalar.muli v268 c1_i32_143
  let v270 : BitVec 32 := Scalar.addi c0_i32_141 v269
  let c1_i32_145 : BitVec 32 := 1#32
  let arg15 : BitVec 32 := Scf.iv v270 c1_i32_145 k0_t27
  let c64_i32_161 : BitVec 32 := 64#32
  let v294 : BitVec 32 := Scalar.muli arg15 c64_i32_161
  let v295 : BitVec 32 := Scalar.addi c0_i32_140 v294
  let c0_i32_164 : BitVec 32 := 0#32
  ![v295.toNat, 0]
def k0_off58 (v13 : BitVec 32) (k0_t27 : Fin (k0_t27_loop v13).trips) : Fin 1 → Nat :=
  let c0_i32_163 : BitVec 32 := 0#32
  let c0_i32_141 : BitVec 32 := 0#32
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let v266 : BitVec 32 := Scalar.subi v37 c0_i32_141
  let c1_i32_143 : BitVec 32 := 1#32
  let v268 : BitVec 32 := Scalar.divsi v266 c1_i32_143
  let v269 : BitVec 32 := Scalar.muli v268 c1_i32_143
  let v270 : BitVec 32 := Scalar.addi c0_i32_141 v269
  let c1_i32_145 : BitVec 32 := 1#32
  let arg15 : BitVec 32 := Scf.iv v270 c1_i32_145 k0_t27
  let c64_i32_162 : BitVec 32 := 64#32
  let v296 : BitVec 32 := Scalar.muli arg15 c64_i32_162
  let v297 : BitVec 32 := Scalar.addi c0_i32_163 v296
  ![v297.toNat]

def k0_chk4 (v13 : BitVec 32) : Prop :=
  (∀ (r : Fin 4), ∀ a, (k0_off3 v13 (BitVec.ofNat 32 (16 * r.val))) a + S16.size a ≤ S2304.size a) ∧
  ((k0_t2_loop v13).OK) ∧
  (∀ k0_t2 : Fin (k0_t2_loop v13).trips, ∀ a, (k0_off7 v13 k0_t2) a + S64x128.size a ≤ S768x128.size a) ∧
  (∀ k0_t2 : Fin (k0_t2_loop v13).trips, ∀ a, (k0_off8 v13 k0_t2) a + S64.size a ≤ S2304.size a) ∧
  ((k0_t3_loop v13).OK) ∧
  (∀ k0_t3 : Fin (k0_t3_loop v13).trips, ∀ a, (k0_off9 v13 k0_t3) a + S64x128.size a ≤ S768x128.size a) ∧
  (∀ k0_t3 : Fin (k0_t3_loop v13).trips, ∀ a, (k0_off10 v13 k0_t3) a + S64.size a ≤ S2304.size a) ∧
  ((k0_t6_loop v13).OK) ∧
  (∀ k0_t6 : Fin (k0_t6_loop v13).trips, ∀ a, (k0_off15 v13 k0_t6) a + S64x128.size a ≤ S768x128.size a) ∧
  (∀ k0_t6 : Fin (k0_t6_loop v13).trips, ∀ a, (k0_off16 v13 k0_t6) a + S64.size a ≤ S2304.size a) ∧
  ((k0_t7_loop v13).OK) ∧
  (∀ k0_t7 : Fin (k0_t7_loop v13).trips, ∀ a, (k0_off17 v13 k0_t7) a + S64x128.size a ≤ S768x128.size a) ∧
  (∀ k0_t7 : Fin (k0_t7_loop v13).trips, ∀ a, (k0_off18 v13 k0_t7) a + S64.size a ≤ S2304.size a) ∧
  ((k0_t10_loop v13).OK) ∧
  (∀ k0_t10 : Fin (k0_t10_loop v13).trips, ∀ a, (k0_off23 v13 k0_t10) a + S64x128.size a ≤ S768x128.size a) ∧
  (∀ k0_t10 : Fin (k0_t10_loop v13).trips, ∀ a, (k0_off24 v13 k0_t10) a + S64.size a ≤ S2304.size a) ∧
  ((k0_t11_loop v13).OK) ∧
  (∀ k0_t11 : Fin (k0_t11_loop v13).trips, ∀ a, (k0_off25 v13 k0_t11) a + S64x128.size a ≤ S768x128.size a) ∧
  (∀ k0_t11 : Fin (k0_t11_loop v13).trips, ∀ a, (k0_off26 v13 k0_t11) a + S64.size a ≤ S2304.size a) ∧
  ((k0_t26_loop v13).OK) ∧
  (∀ k0_t26 : Fin (k0_t26_loop v13).trips, ∀ a, (k0_off55 v13 k0_t26) a + S64x128.size a ≤ S768x128.size a) ∧
  (∀ k0_t26 : Fin (k0_t26_loop v13).trips, ∀ a, (k0_off56 v13 k0_t26) a + S64.size a ≤ S2304.size a) ∧
  ((k0_t27_loop v13).OK) ∧
  (∀ k0_t27 : Fin (k0_t27_loop v13).trips, ∀ a, (k0_off57 v13 k0_t27) a + S64x128.size a ≤ S768x128.size a) ∧
  (∀ k0_t27 : Fin (k0_t27_loop v13).trips, ∀ a, (k0_off58 v13 k0_t27) a + S64.size a ≤ S2304.size a)
theorem k0_off3_inb : ∀ (v13 : BitVec 32) (k0_hw4 : k0_chk4 v13), ∀ (r : Fin 4), ∀ a, (k0_off3 v13 (BitVec.ofNat 32 (16 * r.val))) a + S16.size a ≤ S2304.size a := fun v13 k0_hw4 r => k0_hw4.1 r
theorem k0_t2_ok : ∀ (v13 : BitVec 32) (k0_hw4 : k0_chk4 v13), (k0_t2_loop v13).OK := fun v13 k0_hw4 => k0_hw4.2.1
theorem k0_off7_inb : ∀ (v13 : BitVec 32) (k0_hw4 : k0_chk4 v13) (k0_t2 : Fin (k0_t2_loop v13).trips), ∀ a, (k0_off7 v13 k0_t2) a + S64x128.size a ≤ S768x128.size a := fun v13 k0_hw4 k0_t2 => k0_hw4.2.2.1 k0_t2
theorem k0_off8_inb : ∀ (v13 : BitVec 32) (k0_hw4 : k0_chk4 v13) (k0_t2 : Fin (k0_t2_loop v13).trips), ∀ a, (k0_off8 v13 k0_t2) a + S64.size a ≤ S2304.size a := fun v13 k0_hw4 k0_t2 => k0_hw4.2.2.2.1 k0_t2
theorem k0_t3_ok : ∀ (v13 : BitVec 32) (k0_hw4 : k0_chk4 v13), (k0_t3_loop v13).OK := fun v13 k0_hw4 => k0_hw4.2.2.2.2.1
theorem k0_off9_inb : ∀ (v13 : BitVec 32) (k0_hw4 : k0_chk4 v13) (k0_t3 : Fin (k0_t3_loop v13).trips), ∀ a, (k0_off9 v13 k0_t3) a + S64x128.size a ≤ S768x128.size a := fun v13 k0_hw4 k0_t3 => k0_hw4.2.2.2.2.2.1 k0_t3
theorem k0_off10_inb : ∀ (v13 : BitVec 32) (k0_hw4 : k0_chk4 v13) (k0_t3 : Fin (k0_t3_loop v13).trips), ∀ a, (k0_off10 v13 k0_t3) a + S64.size a ≤ S2304.size a := fun v13 k0_hw4 k0_t3 => k0_hw4.2.2.2.2.2.2.1 k0_t3
theorem k0_t6_ok : ∀ (v13 : BitVec 32) (k0_hw4 : k0_chk4 v13), (k0_t6_loop v13).OK := fun v13 k0_hw4 => k0_hw4.2.2.2.2.2.2.2.1
theorem k0_off15_inb : ∀ (v13 : BitVec 32) (k0_hw4 : k0_chk4 v13) (k0_t6 : Fin (k0_t6_loop v13).trips), ∀ a, (k0_off15 v13 k0_t6) a + S64x128.size a ≤ S768x128.size a := fun v13 k0_hw4 k0_t6 => k0_hw4.2.2.2.2.2.2.2.2.1 k0_t6
theorem k0_off16_inb : ∀ (v13 : BitVec 32) (k0_hw4 : k0_chk4 v13) (k0_t6 : Fin (k0_t6_loop v13).trips), ∀ a, (k0_off16 v13 k0_t6) a + S64.size a ≤ S2304.size a := fun v13 k0_hw4 k0_t6 => k0_hw4.2.2.2.2.2.2.2.2.2.1 k0_t6
theorem k0_t7_ok : ∀ (v13 : BitVec 32) (k0_hw4 : k0_chk4 v13), (k0_t7_loop v13).OK := fun v13 k0_hw4 => k0_hw4.2.2.2.2.2.2.2.2.2.2.1
theorem k0_off17_inb : ∀ (v13 : BitVec 32) (k0_hw4 : k0_chk4 v13) (k0_t7 : Fin (k0_t7_loop v13).trips), ∀ a, (k0_off17 v13 k0_t7) a + S64x128.size a ≤ S768x128.size a := fun v13 k0_hw4 k0_t7 => k0_hw4.2.2.2.2.2.2.2.2.2.2.2.1 k0_t7
theorem k0_off18_inb : ∀ (v13 : BitVec 32) (k0_hw4 : k0_chk4 v13) (k0_t7 : Fin (k0_t7_loop v13).trips), ∀ a, (k0_off18 v13 k0_t7) a + S64.size a ≤ S2304.size a := fun v13 k0_hw4 k0_t7 => k0_hw4.2.2.2.2.2.2.2.2.2.2.2.2.1 k0_t7
theorem k0_t10_ok : ∀ (v13 : BitVec 32) (k0_hw4 : k0_chk4 v13), (k0_t10_loop v13).OK := fun v13 k0_hw4 => k0_hw4.2.2.2.2.2.2.2.2.2.2.2.2.2.1
theorem k0_off23_inb : ∀ (v13 : BitVec 32) (k0_hw4 : k0_chk4 v13) (k0_t10 : Fin (k0_t10_loop v13).trips), ∀ a, (k0_off23 v13 k0_t10) a + S64x128.size a ≤ S768x128.size a := fun v13 k0_hw4 k0_t10 => k0_hw4.2.2.2.2.2.2.2.2.2.2.2.2.2.2.1 k0_t10
theorem k0_off24_inb : ∀ (v13 : BitVec 32) (k0_hw4 : k0_chk4 v13) (k0_t10 : Fin (k0_t10_loop v13).trips), ∀ a, (k0_off24 v13 k0_t10) a + S64.size a ≤ S2304.size a := fun v13 k0_hw4 k0_t10 => k0_hw4.2.2.2.2.2.2.2.2.2.2.2.2.2.2.2.1 k0_t10
theorem k0_t11_ok : ∀ (v13 : BitVec 32) (k0_hw4 : k0_chk4 v13), (k0_t11_loop v13).OK := fun v13 k0_hw4 => k0_hw4.2.2.2.2.2.2.2.2.2.2.2.2.2.2.2.2.1
theorem k0_off25_inb : ∀ (v13 : BitVec 32) (k0_hw4 : k0_chk4 v13) (k0_t11 : Fin (k0_t11_loop v13).trips), ∀ a, (k0_off25 v13 k0_t11) a + S64x128.size a ≤ S768x128.size a := fun v13 k0_hw4 k0_t11 => k0_hw4.2.2.2.2.2.2.2.2.2.2.2.2.2.2.2.2.2.1 k0_t11
theorem k0_off26_inb : ∀ (v13 : BitVec 32) (k0_hw4 : k0_chk4 v13) (k0_t11 : Fin (k0_t11_loop v13).trips), ∀ a, (k0_off26 v13 k0_t11) a + S64.size a ≤ S2304.size a := fun v13 k0_hw4 k0_t11 => k0_hw4.2.2.2.2.2.2.2.2.2.2.2.2.2.2.2.2.2.2.1 k0_t11
theorem k0_t26_ok : ∀ (v13 : BitVec 32) (k0_hw4 : k0_chk4 v13), (k0_t26_loop v13).OK := fun v13 k0_hw4 => k0_hw4.2.2.2.2.2.2.2.2.2.2.2.2.2.2.2.2.2.2.2.1
theorem k0_off55_inb : ∀ (v13 : BitVec 32) (k0_hw4 : k0_chk4 v13) (k0_t26 : Fin (k0_t26_loop v13).trips), ∀ a, (k0_off55 v13 k0_t26) a + S64x128.size a ≤ S768x128.size a := fun v13 k0_hw4 k0_t26 => k0_hw4.2.2.2.2.2.2.2.2.2.2.2.2.2.2.2.2.2.2.2.2.1 k0_t26
theorem k0_off56_inb : ∀ (v13 : BitVec 32) (k0_hw4 : k0_chk4 v13) (k0_t26 : Fin (k0_t26_loop v13).trips), ∀ a, (k0_off56 v13 k0_t26) a + S64.size a ≤ S2304.size a := fun v13 k0_hw4 k0_t26 => k0_hw4.2.2.2.2.2.2.2.2.2.2.2.2.2.2.2.2.2.2.2.2.2.1 k0_t26
theorem k0_t27_ok : ∀ (v13 : BitVec 32) (k0_hw4 : k0_chk4 v13), (k0_t27_loop v13).OK := fun v13 k0_hw4 => k0_hw4.2.2.2.2.2.2.2.2.2.2.2.2.2.2.2.2.2.2.2.2.2.2.1
theorem k0_off57_inb : ∀ (v13 : BitVec 32) (k0_hw4 : k0_chk4 v13) (k0_t27 : Fin (k0_t27_loop v13).trips), ∀ a, (k0_off57 v13 k0_t27) a + S64x128.size a ≤ S768x128.size a := fun v13 k0_hw4 k0_t27 => k0_hw4.2.2.2.2.2.2.2.2.2.2.2.2.2.2.2.2.2.2.2.2.2.2.2.1 k0_t27
theorem k0_off58_inb : ∀ (v13 : BitVec 32) (k0_hw4 : k0_chk4 v13) (k0_t27 : Fin (k0_t27_loop v13).trips), ∀ a, (k0_off58 v13 k0_t27) a + S64.size a ≤ S2304.size a := fun v13 k0_hw4 k0_t27 => k0_hw4.2.2.2.2.2.2.2.2.2.2.2.2.2.2.2.2.2.2.2.2.2.2.2.2 k0_t27

@[reducible] def k0_t28_loop (v15 : BitVec 32) : Scf.Loop 32 :=
  let c0_i32_146 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v273 : BitVec 32 := Scalar.subi v55 c0_i32_146
  let c1_i32_148 : BitVec 32 := 1#32
  let v275 : BitVec 32 := Scalar.divsi v273 c1_i32_148
  let v276 : BitVec 32 := Scalar.muli v275 c1_i32_148
  let v277 : BitVec 32 := Scalar.addi c0_i32_146 v276
  let c1_i32_149 : BitVec 32 := 1#32
  ⟨c0_i32_146, v277, c1_i32_149⟩
def k0_off59 (v13 : BitVec 32) (v15 : BitVec 32) (k0_t28 : Fin (k0_t28_loop v15).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c64_i32_35 : BitVec 32 := 64#32
  let v92 : BitVec 32 := Scalar.muli v37 c64_i32_35
  let c0_i32_146 : BitVec 32 := 0#32
  let c1_i32_149 : BitVec 32 := 1#32
  let arg15 : BitVec 32 := Scf.iv c0_i32_146 c1_i32_149 k0_t28
  let c64_i32_161 : BitVec 32 := 64#32
  let v294 : BitVec 32 := Scalar.muli arg15 c64_i32_161
  let v295 : BitVec 32 := Scalar.addi v92 v294
  let c0_i32_164 : BitVec 32 := 0#32
  ![v295.toNat, 0]
def k0_off60 (v15 : BitVec 32) (k0_t28 : Fin (k0_t28_loop v15).trips) : Fin 1 → Nat :=
  let c576_i32_163 : BitVec 32 := 576#32
  let c0_i32_146 : BitVec 32 := 0#32
  let c1_i32_149 : BitVec 32 := 1#32
  let arg15 : BitVec 32 := Scf.iv c0_i32_146 c1_i32_149 k0_t28
  let c64_i32_162 : BitVec 32 := 64#32
  let v296 : BitVec 32 := Scalar.muli arg15 c64_i32_162
  let v297 : BitVec 32 := Scalar.addi c576_i32_163 v296
  ![v297.toNat]
@[reducible] def k0_t29_loop (v15 : BitVec 32) : Scf.Loop 32 :=
  let c0_i32_146 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v273 : BitVec 32 := Scalar.subi v55 c0_i32_146
  let c1_i32_148 : BitVec 32 := 1#32
  let v275 : BitVec 32 := Scalar.divsi v273 c1_i32_148
  let v276 : BitVec 32 := Scalar.muli v275 c1_i32_148
  let v277 : BitVec 32 := Scalar.addi c0_i32_146 v276
  let v274 : BitVec 32 := Scalar.addi c0_i32_146 v273
  let c1_i32_150 : BitVec 32 := 1#32
  ⟨v277, v274, c1_i32_150⟩
def k0_off61 (v13 : BitVec 32) (v15 : BitVec 32) (k0_t29 : Fin (k0_t29_loop v15).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c64_i32_35 : BitVec 32 := 64#32
  let v92 : BitVec 32 := Scalar.muli v37 c64_i32_35
  let c0_i32_146 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v273 : BitVec 32 := Scalar.subi v55 c0_i32_146
  let c1_i32_148 : BitVec 32 := 1#32
  let v275 : BitVec 32 := Scalar.divsi v273 c1_i32_148
  let v276 : BitVec 32 := Scalar.muli v275 c1_i32_148
  let v277 : BitVec 32 := Scalar.addi c0_i32_146 v276
  let c1_i32_150 : BitVec 32 := 1#32
  let arg15 : BitVec 32 := Scf.iv v277 c1_i32_150 k0_t29
  let c64_i32_161 : BitVec 32 := 64#32
  let v294 : BitVec 32 := Scalar.muli arg15 c64_i32_161
  let v295 : BitVec 32 := Scalar.addi v92 v294
  let c0_i32_164 : BitVec 32 := 0#32
  ![v295.toNat, 0]
def k0_off62 (v15 : BitVec 32) (k0_t29 : Fin (k0_t29_loop v15).trips) : Fin 1 → Nat :=
  let c576_i32_163 : BitVec 32 := 576#32
  let c0_i32_146 : BitVec 32 := 0#32
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v273 : BitVec 32 := Scalar.subi v55 c0_i32_146
  let c1_i32_148 : BitVec 32 := 1#32
  let v275 : BitVec 32 := Scalar.divsi v273 c1_i32_148
  let v276 : BitVec 32 := Scalar.muli v275 c1_i32_148
  let v277 : BitVec 32 := Scalar.addi c0_i32_146 v276
  let c1_i32_150 : BitVec 32 := 1#32
  let arg15 : BitVec 32 := Scf.iv v277 c1_i32_150 k0_t29
  let c64_i32_162 : BitVec 32 := 64#32
  let v296 : BitVec 32 := Scalar.muli arg15 c64_i32_162
  let v297 : BitVec 32 := Scalar.addi c576_i32_163 v296
  ![v297.toNat]

def k0_chk6 (v13 : BitVec 32) (v15 : BitVec 32) : Prop :=
  (∀ (r : Fin 4), ∀ a, (k0_off4 v15 (BitVec.ofNat 32 (16 * r.val))) a + S16.size a ≤ S2304.size a) ∧
  ((k0_t4_loop v15).OK) ∧
  (∀ k0_t4 : Fin (k0_t4_loop v15).trips, ∀ a, (k0_off11 v13 v15 k0_t4) a + S64x128.size a ≤ S768x128.size a) ∧
  (∀ k0_t4 : Fin (k0_t4_loop v15).trips, ∀ a, (k0_off12 v15 k0_t4) a + S64.size a ≤ S2304.size a) ∧
  ((k0_t5_loop v15).OK) ∧
  (∀ k0_t5 : Fin (k0_t5_loop v15).trips, ∀ a, (k0_off13 v13 v15 k0_t5) a + S64x128.size a ≤ S768x128.size a) ∧
  (∀ k0_t5 : Fin (k0_t5_loop v15).trips, ∀ a, (k0_off14 v15 k0_t5) a + S64.size a ≤ S2304.size a) ∧
  ((k0_t12_loop v15).OK) ∧
  (∀ k0_t12 : Fin (k0_t12_loop v15).trips, ∀ a, (k0_off27 v13 v15 k0_t12) a + S64x128.size a ≤ S768x128.size a) ∧
  (∀ k0_t12 : Fin (k0_t12_loop v15).trips, ∀ a, (k0_off28 v15 k0_t12) a + S64.size a ≤ S2304.size a) ∧
  ((k0_t13_loop v15).OK) ∧
  (∀ k0_t13 : Fin (k0_t13_loop v15).trips, ∀ a, (k0_off29 v13 v15 k0_t13) a + S64x128.size a ≤ S768x128.size a) ∧
  (∀ k0_t13 : Fin (k0_t13_loop v15).trips, ∀ a, (k0_off30 v15 k0_t13) a + S64.size a ≤ S2304.size a) ∧
  ((k0_t16_loop v15).OK) ∧
  (∀ k0_t16 : Fin (k0_t16_loop v15).trips, ∀ a, (k0_off35 v13 v15 k0_t16) a + S64x128.size a ≤ S768x128.size a) ∧
  (∀ k0_t16 : Fin (k0_t16_loop v15).trips, ∀ a, (k0_off36 v15 k0_t16) a + S64.size a ≤ S2304.size a) ∧
  ((k0_t17_loop v15).OK) ∧
  (∀ k0_t17 : Fin (k0_t17_loop v15).trips, ∀ a, (k0_off37 v13 v15 k0_t17) a + S64x128.size a ≤ S768x128.size a) ∧
  (∀ k0_t17 : Fin (k0_t17_loop v15).trips, ∀ a, (k0_off38 v15 k0_t17) a + S64.size a ≤ S2304.size a) ∧
  ((k0_t28_loop v15).OK) ∧
  (∀ k0_t28 : Fin (k0_t28_loop v15).trips, ∀ a, (k0_off59 v13 v15 k0_t28) a + S64x128.size a ≤ S768x128.size a) ∧
  (∀ k0_t28 : Fin (k0_t28_loop v15).trips, ∀ a, (k0_off60 v15 k0_t28) a + S64.size a ≤ S2304.size a) ∧
  ((k0_t29_loop v15).OK) ∧
  (∀ k0_t29 : Fin (k0_t29_loop v15).trips, ∀ a, (k0_off61 v13 v15 k0_t29) a + S64x128.size a ≤ S768x128.size a) ∧
  (∀ k0_t29 : Fin (k0_t29_loop v15).trips, ∀ a, (k0_off62 v15 k0_t29) a + S64.size a ≤ S2304.size a)
theorem k0_off4_inb : ∀ (v13 : BitVec 32) (v15 : BitVec 32) (k0_hw6 : k0_chk6 v13 v15), ∀ (r : Fin 4), ∀ a, (k0_off4 v15 (BitVec.ofNat 32 (16 * r.val))) a + S16.size a ≤ S2304.size a := fun v13 v15 k0_hw6 r => k0_hw6.1 r
theorem k0_t4_ok : ∀ (v13 : BitVec 32) (v15 : BitVec 32) (k0_hw6 : k0_chk6 v13 v15), (k0_t4_loop v15).OK := fun v13 v15 k0_hw6 => k0_hw6.2.1
theorem k0_off11_inb : ∀ (v13 : BitVec 32) (v15 : BitVec 32) (k0_hw6 : k0_chk6 v13 v15) (k0_t4 : Fin (k0_t4_loop v15).trips), ∀ a, (k0_off11 v13 v15 k0_t4) a + S64x128.size a ≤ S768x128.size a := fun v13 v15 k0_hw6 k0_t4 => k0_hw6.2.2.1 k0_t4
theorem k0_off12_inb : ∀ (v13 : BitVec 32) (v15 : BitVec 32) (k0_hw6 : k0_chk6 v13 v15) (k0_t4 : Fin (k0_t4_loop v15).trips), ∀ a, (k0_off12 v15 k0_t4) a + S64.size a ≤ S2304.size a := fun v13 v15 k0_hw6 k0_t4 => k0_hw6.2.2.2.1 k0_t4
theorem k0_t5_ok : ∀ (v13 : BitVec 32) (v15 : BitVec 32) (k0_hw6 : k0_chk6 v13 v15), (k0_t5_loop v15).OK := fun v13 v15 k0_hw6 => k0_hw6.2.2.2.2.1
theorem k0_off13_inb : ∀ (v13 : BitVec 32) (v15 : BitVec 32) (k0_hw6 : k0_chk6 v13 v15) (k0_t5 : Fin (k0_t5_loop v15).trips), ∀ a, (k0_off13 v13 v15 k0_t5) a + S64x128.size a ≤ S768x128.size a := fun v13 v15 k0_hw6 k0_t5 => k0_hw6.2.2.2.2.2.1 k0_t5
theorem k0_off14_inb : ∀ (v13 : BitVec 32) (v15 : BitVec 32) (k0_hw6 : k0_chk6 v13 v15) (k0_t5 : Fin (k0_t5_loop v15).trips), ∀ a, (k0_off14 v15 k0_t5) a + S64.size a ≤ S2304.size a := fun v13 v15 k0_hw6 k0_t5 => k0_hw6.2.2.2.2.2.2.1 k0_t5
theorem k0_t12_ok : ∀ (v13 : BitVec 32) (v15 : BitVec 32) (k0_hw6 : k0_chk6 v13 v15), (k0_t12_loop v15).OK := fun v13 v15 k0_hw6 => k0_hw6.2.2.2.2.2.2.2.1
theorem k0_off27_inb : ∀ (v13 : BitVec 32) (v15 : BitVec 32) (k0_hw6 : k0_chk6 v13 v15) (k0_t12 : Fin (k0_t12_loop v15).trips), ∀ a, (k0_off27 v13 v15 k0_t12) a + S64x128.size a ≤ S768x128.size a := fun v13 v15 k0_hw6 k0_t12 => k0_hw6.2.2.2.2.2.2.2.2.1 k0_t12
theorem k0_off28_inb : ∀ (v13 : BitVec 32) (v15 : BitVec 32) (k0_hw6 : k0_chk6 v13 v15) (k0_t12 : Fin (k0_t12_loop v15).trips), ∀ a, (k0_off28 v15 k0_t12) a + S64.size a ≤ S2304.size a := fun v13 v15 k0_hw6 k0_t12 => k0_hw6.2.2.2.2.2.2.2.2.2.1 k0_t12
theorem k0_t13_ok : ∀ (v13 : BitVec 32) (v15 : BitVec 32) (k0_hw6 : k0_chk6 v13 v15), (k0_t13_loop v15).OK := fun v13 v15 k0_hw6 => k0_hw6.2.2.2.2.2.2.2.2.2.2.1
theorem k0_off29_inb : ∀ (v13 : BitVec 32) (v15 : BitVec 32) (k0_hw6 : k0_chk6 v13 v15) (k0_t13 : Fin (k0_t13_loop v15).trips), ∀ a, (k0_off29 v13 v15 k0_t13) a + S64x128.size a ≤ S768x128.size a := fun v13 v15 k0_hw6 k0_t13 => k0_hw6.2.2.2.2.2.2.2.2.2.2.2.1 k0_t13
theorem k0_off30_inb : ∀ (v13 : BitVec 32) (v15 : BitVec 32) (k0_hw6 : k0_chk6 v13 v15) (k0_t13 : Fin (k0_t13_loop v15).trips), ∀ a, (k0_off30 v15 k0_t13) a + S64.size a ≤ S2304.size a := fun v13 v15 k0_hw6 k0_t13 => k0_hw6.2.2.2.2.2.2.2.2.2.2.2.2.1 k0_t13
theorem k0_t16_ok : ∀ (v13 : BitVec 32) (v15 : BitVec 32) (k0_hw6 : k0_chk6 v13 v15), (k0_t16_loop v15).OK := fun v13 v15 k0_hw6 => k0_hw6.2.2.2.2.2.2.2.2.2.2.2.2.2.1
theorem k0_off35_inb : ∀ (v13 : BitVec 32) (v15 : BitVec 32) (k0_hw6 : k0_chk6 v13 v15) (k0_t16 : Fin (k0_t16_loop v15).trips), ∀ a, (k0_off35 v13 v15 k0_t16) a + S64x128.size a ≤ S768x128.size a := fun v13 v15 k0_hw6 k0_t16 => k0_hw6.2.2.2.2.2.2.2.2.2.2.2.2.2.2.1 k0_t16
theorem k0_off36_inb : ∀ (v13 : BitVec 32) (v15 : BitVec 32) (k0_hw6 : k0_chk6 v13 v15) (k0_t16 : Fin (k0_t16_loop v15).trips), ∀ a, (k0_off36 v15 k0_t16) a + S64.size a ≤ S2304.size a := fun v13 v15 k0_hw6 k0_t16 => k0_hw6.2.2.2.2.2.2.2.2.2.2.2.2.2.2.2.1 k0_t16
theorem k0_t17_ok : ∀ (v13 : BitVec 32) (v15 : BitVec 32) (k0_hw6 : k0_chk6 v13 v15), (k0_t17_loop v15).OK := fun v13 v15 k0_hw6 => k0_hw6.2.2.2.2.2.2.2.2.2.2.2.2.2.2.2.2.1
theorem k0_off37_inb : ∀ (v13 : BitVec 32) (v15 : BitVec 32) (k0_hw6 : k0_chk6 v13 v15) (k0_t17 : Fin (k0_t17_loop v15).trips), ∀ a, (k0_off37 v13 v15 k0_t17) a + S64x128.size a ≤ S768x128.size a := fun v13 v15 k0_hw6 k0_t17 => k0_hw6.2.2.2.2.2.2.2.2.2.2.2.2.2.2.2.2.2.1 k0_t17
theorem k0_off38_inb : ∀ (v13 : BitVec 32) (v15 : BitVec 32) (k0_hw6 : k0_chk6 v13 v15) (k0_t17 : Fin (k0_t17_loop v15).trips), ∀ a, (k0_off38 v15 k0_t17) a + S64.size a ≤ S2304.size a := fun v13 v15 k0_hw6 k0_t17 => k0_hw6.2.2.2.2.2.2.2.2.2.2.2.2.2.2.2.2.2.2.1 k0_t17
theorem k0_t28_ok : ∀ (v13 : BitVec 32) (v15 : BitVec 32) (k0_hw6 : k0_chk6 v13 v15), (k0_t28_loop v15).OK := fun v13 v15 k0_hw6 => k0_hw6.2.2.2.2.2.2.2.2.2.2.2.2.2.2.2.2.2.2.2.1
theorem k0_off59_inb : ∀ (v13 : BitVec 32) (v15 : BitVec 32) (k0_hw6 : k0_chk6 v13 v15) (k0_t28 : Fin (k0_t28_loop v15).trips), ∀ a, (k0_off59 v13 v15 k0_t28) a + S64x128.size a ≤ S768x128.size a := fun v13 v15 k0_hw6 k0_t28 => k0_hw6.2.2.2.2.2.2.2.2.2.2.2.2.2.2.2.2.2.2.2.2.1 k0_t28
theorem k0_off60_inb : ∀ (v13 : BitVec 32) (v15 : BitVec 32) (k0_hw6 : k0_chk6 v13 v15) (k0_t28 : Fin (k0_t28_loop v15).trips), ∀ a, (k0_off60 v15 k0_t28) a + S64.size a ≤ S2304.size a := fun v13 v15 k0_hw6 k0_t28 => k0_hw6.2.2.2.2.2.2.2.2.2.2.2.2.2.2.2.2.2.2.2.2.2.1 k0_t28
theorem k0_t29_ok : ∀ (v13 : BitVec 32) (v15 : BitVec 32) (k0_hw6 : k0_chk6 v13 v15), (k0_t29_loop v15).OK := fun v13 v15 k0_hw6 => k0_hw6.2.2.2.2.2.2.2.2.2.2.2.2.2.2.2.2.2.2.2.2.2.2.1
theorem k0_off61_inb : ∀ (v13 : BitVec 32) (v15 : BitVec 32) (k0_hw6 : k0_chk6 v13 v15) (k0_t29 : Fin (k0_t29_loop v15).trips), ∀ a, (k0_off61 v13 v15 k0_t29) a + S64x128.size a ≤ S768x128.size a := fun v13 v15 k0_hw6 k0_t29 => k0_hw6.2.2.2.2.2.2.2.2.2.2.2.2.2.2.2.2.2.2.2.2.2.2.2.1 k0_t29
theorem k0_off62_inb : ∀ (v13 : BitVec 32) (v15 : BitVec 32) (k0_hw6 : k0_chk6 v13 v15) (k0_t29 : Fin (k0_t29_loop v15).trips), ∀ a, (k0_off62 v15 k0_t29) a + S64.size a ≤ S2304.size a := fun v13 v15 k0_hw6 k0_t29 => k0_hw6.2.2.2.2.2.2.2.2.2.2.2.2.2.2.2.2.2.2.2.2.2.2.2.2 k0_t29

@[reducible] def k0_t30_loop (v17 : BitVec 32) : Scf.Loop 32 :=
  let c0_i32_151 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v280 : BitVec 32 := Scalar.subi v73 c0_i32_151
  let c1_i32_153 : BitVec 32 := 1#32
  let v282 : BitVec 32 := Scalar.divsi v280 c1_i32_153
  let v283 : BitVec 32 := Scalar.muli v282 c1_i32_153
  let v284 : BitVec 32 := Scalar.addi c0_i32_151 v283
  let c1_i32_154 : BitVec 32 := 1#32
  ⟨c0_i32_151, v284, c1_i32_154⟩
def k0_off63 (v13 : BitVec 32) (v15 : BitVec 32) (v17 : BitVec 32) (k0_t30 : Fin (k0_t30_loop v17).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v93 : BitVec 32 := Scalar.addi v37 v55
  let c64_i32_36 : BitVec 32 := 64#32
  let v94 : BitVec 32 := Scalar.muli v93 c64_i32_36
  let c0_i32_151 : BitVec 32 := 0#32
  let c1_i32_154 : BitVec 32 := 1#32
  let arg15 : BitVec 32 := Scf.iv c0_i32_151 c1_i32_154 k0_t30
  let c64_i32_161 : BitVec 32 := 64#32
  let v294 : BitVec 32 := Scalar.muli arg15 c64_i32_161
  let v295 : BitVec 32 := Scalar.addi v94 v294
  let c0_i32_164 : BitVec 32 := 0#32
  ![v295.toNat, 0]
def k0_off64 (v17 : BitVec 32) (k0_t30 : Fin (k0_t30_loop v17).trips) : Fin 1 → Nat :=
  let c1152_i32_163 : BitVec 32 := 1152#32
  let c0_i32_151 : BitVec 32 := 0#32
  let c1_i32_154 : BitVec 32 := 1#32
  let arg15 : BitVec 32 := Scf.iv c0_i32_151 c1_i32_154 k0_t30
  let c64_i32_162 : BitVec 32 := 64#32
  let v296 : BitVec 32 := Scalar.muli arg15 c64_i32_162
  let v297 : BitVec 32 := Scalar.addi c1152_i32_163 v296
  ![v297.toNat]
@[reducible] def k0_t31_loop (v17 : BitVec 32) : Scf.Loop 32 :=
  let c0_i32_151 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v280 : BitVec 32 := Scalar.subi v73 c0_i32_151
  let c1_i32_153 : BitVec 32 := 1#32
  let v282 : BitVec 32 := Scalar.divsi v280 c1_i32_153
  let v283 : BitVec 32 := Scalar.muli v282 c1_i32_153
  let v284 : BitVec 32 := Scalar.addi c0_i32_151 v283
  let v281 : BitVec 32 := Scalar.addi c0_i32_151 v280
  let c1_i32_155 : BitVec 32 := 1#32
  ⟨v284, v281, c1_i32_155⟩
def k0_off65 (v13 : BitVec 32) (v15 : BitVec 32) (v17 : BitVec 32) (k0_t31 : Fin (k0_t31_loop v17).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v93 : BitVec 32 := Scalar.addi v37 v55
  let c64_i32_36 : BitVec 32 := 64#32
  let v94 : BitVec 32 := Scalar.muli v93 c64_i32_36
  let c0_i32_151 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v280 : BitVec 32 := Scalar.subi v73 c0_i32_151
  let c1_i32_153 : BitVec 32 := 1#32
  let v282 : BitVec 32 := Scalar.divsi v280 c1_i32_153
  let v283 : BitVec 32 := Scalar.muli v282 c1_i32_153
  let v284 : BitVec 32 := Scalar.addi c0_i32_151 v283
  let c1_i32_155 : BitVec 32 := 1#32
  let arg15 : BitVec 32 := Scf.iv v284 c1_i32_155 k0_t31
  let c64_i32_161 : BitVec 32 := 64#32
  let v294 : BitVec 32 := Scalar.muli arg15 c64_i32_161
  let v295 : BitVec 32 := Scalar.addi v94 v294
  let c0_i32_164 : BitVec 32 := 0#32
  ![v295.toNat, 0]
def k0_off66 (v17 : BitVec 32) (k0_t31 : Fin (k0_t31_loop v17).trips) : Fin 1 → Nat :=
  let c1152_i32_163 : BitVec 32 := 1152#32
  let c0_i32_151 : BitVec 32 := 0#32
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v280 : BitVec 32 := Scalar.subi v73 c0_i32_151
  let c1_i32_153 : BitVec 32 := 1#32
  let v282 : BitVec 32 := Scalar.divsi v280 c1_i32_153
  let v283 : BitVec 32 := Scalar.muli v282 c1_i32_153
  let v284 : BitVec 32 := Scalar.addi c0_i32_151 v283
  let c1_i32_155 : BitVec 32 := 1#32
  let arg15 : BitVec 32 := Scf.iv v284 c1_i32_155 k0_t31
  let c64_i32_162 : BitVec 32 := 64#32
  let v296 : BitVec 32 := Scalar.muli arg15 c64_i32_162
  let v297 : BitVec 32 := Scalar.addi c1152_i32_163 v296
  ![v297.toNat]

def k0_chk8 (v13 : BitVec 32) (v15 : BitVec 32) (v17 : BitVec 32) : Prop :=
  (∀ (r : Fin 4), ∀ a, (k0_off5 v17 (BitVec.ofNat 32 (16 * r.val))) a + S16.size a ≤ S2304.size a) ∧
  ((k0_t8_loop v17).OK) ∧
  (∀ k0_t8 : Fin (k0_t8_loop v17).trips, ∀ a, (k0_off19 v13 v15 v17 k0_t8) a + S64x128.size a ≤ S768x128.size a) ∧
  (∀ k0_t8 : Fin (k0_t8_loop v17).trips, ∀ a, (k0_off20 v17 k0_t8) a + S64.size a ≤ S2304.size a) ∧
  ((k0_t9_loop v17).OK) ∧
  (∀ k0_t9 : Fin (k0_t9_loop v17).trips, ∀ a, (k0_off21 v13 v15 v17 k0_t9) a + S64x128.size a ≤ S768x128.size a) ∧
  (∀ k0_t9 : Fin (k0_t9_loop v17).trips, ∀ a, (k0_off22 v17 k0_t9) a + S64.size a ≤ S2304.size a) ∧
  ((k0_t18_loop v17).OK) ∧
  (∀ k0_t18 : Fin (k0_t18_loop v17).trips, ∀ a, (k0_off39 v13 v15 v17 k0_t18) a + S64x128.size a ≤ S768x128.size a) ∧
  (∀ k0_t18 : Fin (k0_t18_loop v17).trips, ∀ a, (k0_off40 v17 k0_t18) a + S64.size a ≤ S2304.size a) ∧
  ((k0_t19_loop v17).OK) ∧
  (∀ k0_t19 : Fin (k0_t19_loop v17).trips, ∀ a, (k0_off41 v13 v15 v17 k0_t19) a + S64x128.size a ≤ S768x128.size a) ∧
  (∀ k0_t19 : Fin (k0_t19_loop v17).trips, ∀ a, (k0_off42 v17 k0_t19) a + S64.size a ≤ S2304.size a) ∧
  ((k0_t20_loop v17).OK) ∧
  (∀ k0_t20 : Fin (k0_t20_loop v17).trips, ∀ a, (k0_off43 v13 v15 v17 k0_t20) a + S64x128.size a ≤ S768x128.size a) ∧
  (∀ k0_t20 : Fin (k0_t20_loop v17).trips, ∀ a, (k0_off44 v17 k0_t20) a + S64.size a ≤ S2304.size a) ∧
  ((k0_t21_loop v17).OK) ∧
  (∀ k0_t21 : Fin (k0_t21_loop v17).trips, ∀ a, (k0_off45 v13 v15 v17 k0_t21) a + S64x128.size a ≤ S768x128.size a) ∧
  (∀ k0_t21 : Fin (k0_t21_loop v17).trips, ∀ a, (k0_off46 v17 k0_t21) a + S64.size a ≤ S2304.size a) ∧
  ((k0_t30_loop v17).OK) ∧
  (∀ k0_t30 : Fin (k0_t30_loop v17).trips, ∀ a, (k0_off63 v13 v15 v17 k0_t30) a + S64x128.size a ≤ S768x128.size a) ∧
  (∀ k0_t30 : Fin (k0_t30_loop v17).trips, ∀ a, (k0_off64 v17 k0_t30) a + S64.size a ≤ S2304.size a) ∧
  ((k0_t31_loop v17).OK) ∧
  (∀ k0_t31 : Fin (k0_t31_loop v17).trips, ∀ a, (k0_off65 v13 v15 v17 k0_t31) a + S64x128.size a ≤ S768x128.size a) ∧
  (∀ k0_t31 : Fin (k0_t31_loop v17).trips, ∀ a, (k0_off66 v17 k0_t31) a + S64.size a ≤ S2304.size a)
theorem k0_off5_inb : ∀ (v13 : BitVec 32) (v15 : BitVec 32) (v17 : BitVec 32) (k0_hw8 : k0_chk8 v13 v15 v17), ∀ (r : Fin 4), ∀ a, (k0_off5 v17 (BitVec.ofNat 32 (16 * r.val))) a + S16.size a ≤ S2304.size a := fun v13 v15 v17 k0_hw8 r => k0_hw8.1 r
theorem k0_t8_ok : ∀ (v13 : BitVec 32) (v15 : BitVec 32) (v17 : BitVec 32) (k0_hw8 : k0_chk8 v13 v15 v17), (k0_t8_loop v17).OK := fun v13 v15 v17 k0_hw8 => k0_hw8.2.1
theorem k0_off19_inb : ∀ (v13 : BitVec 32) (v15 : BitVec 32) (v17 : BitVec 32) (k0_hw8 : k0_chk8 v13 v15 v17) (k0_t8 : Fin (k0_t8_loop v17).trips), ∀ a, (k0_off19 v13 v15 v17 k0_t8) a + S64x128.size a ≤ S768x128.size a := fun v13 v15 v17 k0_hw8 k0_t8 => k0_hw8.2.2.1 k0_t8
theorem k0_off20_inb : ∀ (v13 : BitVec 32) (v15 : BitVec 32) (v17 : BitVec 32) (k0_hw8 : k0_chk8 v13 v15 v17) (k0_t8 : Fin (k0_t8_loop v17).trips), ∀ a, (k0_off20 v17 k0_t8) a + S64.size a ≤ S2304.size a := fun v13 v15 v17 k0_hw8 k0_t8 => k0_hw8.2.2.2.1 k0_t8
theorem k0_t9_ok : ∀ (v13 : BitVec 32) (v15 : BitVec 32) (v17 : BitVec 32) (k0_hw8 : k0_chk8 v13 v15 v17), (k0_t9_loop v17).OK := fun v13 v15 v17 k0_hw8 => k0_hw8.2.2.2.2.1
theorem k0_off21_inb : ∀ (v13 : BitVec 32) (v15 : BitVec 32) (v17 : BitVec 32) (k0_hw8 : k0_chk8 v13 v15 v17) (k0_t9 : Fin (k0_t9_loop v17).trips), ∀ a, (k0_off21 v13 v15 v17 k0_t9) a + S64x128.size a ≤ S768x128.size a := fun v13 v15 v17 k0_hw8 k0_t9 => k0_hw8.2.2.2.2.2.1 k0_t9
theorem k0_off22_inb : ∀ (v13 : BitVec 32) (v15 : BitVec 32) (v17 : BitVec 32) (k0_hw8 : k0_chk8 v13 v15 v17) (k0_t9 : Fin (k0_t9_loop v17).trips), ∀ a, (k0_off22 v17 k0_t9) a + S64.size a ≤ S2304.size a := fun v13 v15 v17 k0_hw8 k0_t9 => k0_hw8.2.2.2.2.2.2.1 k0_t9
theorem k0_t18_ok : ∀ (v13 : BitVec 32) (v15 : BitVec 32) (v17 : BitVec 32) (k0_hw8 : k0_chk8 v13 v15 v17), (k0_t18_loop v17).OK := fun v13 v15 v17 k0_hw8 => k0_hw8.2.2.2.2.2.2.2.1
theorem k0_off39_inb : ∀ (v13 : BitVec 32) (v15 : BitVec 32) (v17 : BitVec 32) (k0_hw8 : k0_chk8 v13 v15 v17) (k0_t18 : Fin (k0_t18_loop v17).trips), ∀ a, (k0_off39 v13 v15 v17 k0_t18) a + S64x128.size a ≤ S768x128.size a := fun v13 v15 v17 k0_hw8 k0_t18 => k0_hw8.2.2.2.2.2.2.2.2.1 k0_t18
theorem k0_off40_inb : ∀ (v13 : BitVec 32) (v15 : BitVec 32) (v17 : BitVec 32) (k0_hw8 : k0_chk8 v13 v15 v17) (k0_t18 : Fin (k0_t18_loop v17).trips), ∀ a, (k0_off40 v17 k0_t18) a + S64.size a ≤ S2304.size a := fun v13 v15 v17 k0_hw8 k0_t18 => k0_hw8.2.2.2.2.2.2.2.2.2.1 k0_t18
theorem k0_t19_ok : ∀ (v13 : BitVec 32) (v15 : BitVec 32) (v17 : BitVec 32) (k0_hw8 : k0_chk8 v13 v15 v17), (k0_t19_loop v17).OK := fun v13 v15 v17 k0_hw8 => k0_hw8.2.2.2.2.2.2.2.2.2.2.1
theorem k0_off41_inb : ∀ (v13 : BitVec 32) (v15 : BitVec 32) (v17 : BitVec 32) (k0_hw8 : k0_chk8 v13 v15 v17) (k0_t19 : Fin (k0_t19_loop v17).trips), ∀ a, (k0_off41 v13 v15 v17 k0_t19) a + S64x128.size a ≤ S768x128.size a := fun v13 v15 v17 k0_hw8 k0_t19 => k0_hw8.2.2.2.2.2.2.2.2.2.2.2.1 k0_t19
theorem k0_off42_inb : ∀ (v13 : BitVec 32) (v15 : BitVec 32) (v17 : BitVec 32) (k0_hw8 : k0_chk8 v13 v15 v17) (k0_t19 : Fin (k0_t19_loop v17).trips), ∀ a, (k0_off42 v17 k0_t19) a + S64.size a ≤ S2304.size a := fun v13 v15 v17 k0_hw8 k0_t19 => k0_hw8.2.2.2.2.2.2.2.2.2.2.2.2.1 k0_t19
theorem k0_t20_ok : ∀ (v13 : BitVec 32) (v15 : BitVec 32) (v17 : BitVec 32) (k0_hw8 : k0_chk8 v13 v15 v17), (k0_t20_loop v17).OK := fun v13 v15 v17 k0_hw8 => k0_hw8.2.2.2.2.2.2.2.2.2.2.2.2.2.1
theorem k0_off43_inb : ∀ (v13 : BitVec 32) (v15 : BitVec 32) (v17 : BitVec 32) (k0_hw8 : k0_chk8 v13 v15 v17) (k0_t20 : Fin (k0_t20_loop v17).trips), ∀ a, (k0_off43 v13 v15 v17 k0_t20) a + S64x128.size a ≤ S768x128.size a := fun v13 v15 v17 k0_hw8 k0_t20 => k0_hw8.2.2.2.2.2.2.2.2.2.2.2.2.2.2.1 k0_t20
theorem k0_off44_inb : ∀ (v13 : BitVec 32) (v15 : BitVec 32) (v17 : BitVec 32) (k0_hw8 : k0_chk8 v13 v15 v17) (k0_t20 : Fin (k0_t20_loop v17).trips), ∀ a, (k0_off44 v17 k0_t20) a + S64.size a ≤ S2304.size a := fun v13 v15 v17 k0_hw8 k0_t20 => k0_hw8.2.2.2.2.2.2.2.2.2.2.2.2.2.2.2.1 k0_t20
theorem k0_t21_ok : ∀ (v13 : BitVec 32) (v15 : BitVec 32) (v17 : BitVec 32) (k0_hw8 : k0_chk8 v13 v15 v17), (k0_t21_loop v17).OK := fun v13 v15 v17 k0_hw8 => k0_hw8.2.2.2.2.2.2.2.2.2.2.2.2.2.2.2.2.1
theorem k0_off45_inb : ∀ (v13 : BitVec 32) (v15 : BitVec 32) (v17 : BitVec 32) (k0_hw8 : k0_chk8 v13 v15 v17) (k0_t21 : Fin (k0_t21_loop v17).trips), ∀ a, (k0_off45 v13 v15 v17 k0_t21) a + S64x128.size a ≤ S768x128.size a := fun v13 v15 v17 k0_hw8 k0_t21 => k0_hw8.2.2.2.2.2.2.2.2.2.2.2.2.2.2.2.2.2.1 k0_t21
theorem k0_off46_inb : ∀ (v13 : BitVec 32) (v15 : BitVec 32) (v17 : BitVec 32) (k0_hw8 : k0_chk8 v13 v15 v17) (k0_t21 : Fin (k0_t21_loop v17).trips), ∀ a, (k0_off46 v17 k0_t21) a + S64.size a ≤ S2304.size a := fun v13 v15 v17 k0_hw8 k0_t21 => k0_hw8.2.2.2.2.2.2.2.2.2.2.2.2.2.2.2.2.2.2.1 k0_t21
theorem k0_t30_ok : ∀ (v13 : BitVec 32) (v15 : BitVec 32) (v17 : BitVec 32) (k0_hw8 : k0_chk8 v13 v15 v17), (k0_t30_loop v17).OK := fun v13 v15 v17 k0_hw8 => k0_hw8.2.2.2.2.2.2.2.2.2.2.2.2.2.2.2.2.2.2.2.1
theorem k0_off63_inb : ∀ (v13 : BitVec 32) (v15 : BitVec 32) (v17 : BitVec 32) (k0_hw8 : k0_chk8 v13 v15 v17) (k0_t30 : Fin (k0_t30_loop v17).trips), ∀ a, (k0_off63 v13 v15 v17 k0_t30) a + S64x128.size a ≤ S768x128.size a := fun v13 v15 v17 k0_hw8 k0_t30 => k0_hw8.2.2.2.2.2.2.2.2.2.2.2.2.2.2.2.2.2.2.2.2.1 k0_t30
theorem k0_off64_inb : ∀ (v13 : BitVec 32) (v15 : BitVec 32) (v17 : BitVec 32) (k0_hw8 : k0_chk8 v13 v15 v17) (k0_t30 : Fin (k0_t30_loop v17).trips), ∀ a, (k0_off64 v17 k0_t30) a + S64.size a ≤ S2304.size a := fun v13 v15 v17 k0_hw8 k0_t30 => k0_hw8.2.2.2.2.2.2.2.2.2.2.2.2.2.2.2.2.2.2.2.2.2.1 k0_t30
theorem k0_t31_ok : ∀ (v13 : BitVec 32) (v15 : BitVec 32) (v17 : BitVec 32) (k0_hw8 : k0_chk8 v13 v15 v17), (k0_t31_loop v17).OK := fun v13 v15 v17 k0_hw8 => k0_hw8.2.2.2.2.2.2.2.2.2.2.2.2.2.2.2.2.2.2.2.2.2.2.1
theorem k0_off65_inb : ∀ (v13 : BitVec 32) (v15 : BitVec 32) (v17 : BitVec 32) (k0_hw8 : k0_chk8 v13 v15 v17) (k0_t31 : Fin (k0_t31_loop v17).trips), ∀ a, (k0_off65 v13 v15 v17 k0_t31) a + S64x128.size a ≤ S768x128.size a := fun v13 v15 v17 k0_hw8 k0_t31 => k0_hw8.2.2.2.2.2.2.2.2.2.2.2.2.2.2.2.2.2.2.2.2.2.2.2.1 k0_t31
theorem k0_off66_inb : ∀ (v13 : BitVec 32) (v15 : BitVec 32) (v17 : BitVec 32) (k0_hw8 : k0_chk8 v13 v15 v17) (k0_t31 : Fin (k0_t31_loop v17).trips), ∀ a, (k0_off66 v17 k0_t31) a + S64.size a ≤ S2304.size a := fun v13 v15 v17 k0_hw8 k0_t31 => k0_hw8.2.2.2.2.2.2.2.2.2.2.2.2.2.2.2.2.2.2.2.2.2.2.2.2 k0_t31

@[reducible] def k0_t32_loop (v19 : BitVec 32) : Scf.Loop 32 :=
  let c0_i32_156 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v287 : BitVec 32 := Scalar.subi v91 c0_i32_156
  let c1_i32_158 : BitVec 32 := 1#32
  let v289 : BitVec 32 := Scalar.divsi v287 c1_i32_158
  let v290 : BitVec 32 := Scalar.muli v289 c1_i32_158
  let v291 : BitVec 32 := Scalar.addi c0_i32_156 v290
  let c1_i32_159 : BitVec 32 := 1#32
  ⟨c0_i32_156, v291, c1_i32_159⟩
def k0_off67 (v13 : BitVec 32) (v15 : BitVec 32) (v17 : BitVec 32) (v19 : BitVec 32) (k0_t32 : Fin (k0_t32_loop v19).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v95 : BitVec 32 := Scalar.addi v37 v55
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v96 : BitVec 32 := Scalar.addi v95 v73
  let c64_i32_37 : BitVec 32 := 64#32
  let v97 : BitVec 32 := Scalar.muli v96 c64_i32_37
  let c0_i32_156 : BitVec 32 := 0#32
  let c1_i32_159 : BitVec 32 := 1#32
  let arg15 : BitVec 32 := Scf.iv c0_i32_156 c1_i32_159 k0_t32
  let c64_i32_161 : BitVec 32 := 64#32
  let v294 : BitVec 32 := Scalar.muli arg15 c64_i32_161
  let v295 : BitVec 32 := Scalar.addi v97 v294
  let c0_i32_164 : BitVec 32 := 0#32
  ![v295.toNat, 0]
def k0_off68 (v19 : BitVec 32) (k0_t32 : Fin (k0_t32_loop v19).trips) : Fin 1 → Nat :=
  let c1728_i32_163 : BitVec 32 := 1728#32
  let c0_i32_156 : BitVec 32 := 0#32
  let c1_i32_159 : BitVec 32 := 1#32
  let arg15 : BitVec 32 := Scf.iv c0_i32_156 c1_i32_159 k0_t32
  let c64_i32_162 : BitVec 32 := 64#32
  let v296 : BitVec 32 := Scalar.muli arg15 c64_i32_162
  let v297 : BitVec 32 := Scalar.addi c1728_i32_163 v296
  ![v297.toNat]
@[reducible] def k0_t33_loop (v19 : BitVec 32) : Scf.Loop 32 :=
  let c0_i32_156 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v287 : BitVec 32 := Scalar.subi v91 c0_i32_156
  let c1_i32_158 : BitVec 32 := 1#32
  let v289 : BitVec 32 := Scalar.divsi v287 c1_i32_158
  let v290 : BitVec 32 := Scalar.muli v289 c1_i32_158
  let v291 : BitVec 32 := Scalar.addi c0_i32_156 v290
  let v288 : BitVec 32 := Scalar.addi c0_i32_156 v287
  let c1_i32_160 : BitVec 32 := 1#32
  ⟨v291, v288, c1_i32_160⟩
def k0_off69 (v13 : BitVec 32) (v15 : BitVec 32) (v17 : BitVec 32) (v19 : BitVec 32) (k0_t33 : Fin (k0_t33_loop v19).trips) : Fin 2 → Nat :=
  let c63_i32 : BitVec 32 := 63#32
  let v20 : BitVec 32 := Scalar.addi v13 c63_i32
  let c0_i32_5 : BitVec 32 := 0#32
  let v22 : BitVec 1 := Scalar.cmpi .sgt v20 c0_i32_5
  let v23 : BitVec 32 := Scalar.extui v22
  let c0_i32_6 : BitVec 32 := 0#32
  let v24 : BitVec 1 := Scalar.cmpi .slt v20 c0_i32_6
  let v25 : BitVec 32 := Scalar.extui v24
  let v26 : BitVec 32 := Scalar.subi v23 v25
  let c64_i32 : BitVec 32 := 64#32
  let c0_i32_7 : BitVec 32 := 0#32
  let v27 : BitVec 1 := Scalar.cmpi .sgt c64_i32 c0_i32_7
  let v28 : BitVec 32 := Scalar.extui v27
  let c0_i32_8 : BitVec 32 := 0#32
  let v29 : BitVec 1 := Scalar.cmpi .slt c64_i32 c0_i32_8
  let v30 : BitVec 32 := Scalar.extui v29
  let v31 : BitVec 32 := Scalar.subi v28 v30
  let v32 : BitVec 1 := Scalar.cmpi .ne v26 v31
  let v33 : BitVec 32 := Scalar.remsi v20 c64_i32
  let c0_i32_9 : BitVec 32 := 0#32
  let v34 : BitVec 1 := Scalar.cmpi .ne v33 c0_i32_9
  let v35 : BitVec 1 := Scalar.andi v32 v34
  let v21 : BitVec 32 := Scalar.divsi v20 c64_i32
  let c1_i32_10 : BitVec 32 := 1#32
  let v36 : BitVec 32 := Scalar.subi v21 c1_i32_10
  let v37 : BitVec 32 := Scalar.select v35 v36 v21
  let c63_i32_11 : BitVec 32 := 63#32
  let v38 : BitVec 32 := Scalar.addi v15 c63_i32_11
  let c0_i32_13 : BitVec 32 := 0#32
  let v40 : BitVec 1 := Scalar.cmpi .sgt v38 c0_i32_13
  let v41 : BitVec 32 := Scalar.extui v40
  let c0_i32_14 : BitVec 32 := 0#32
  let v42 : BitVec 1 := Scalar.cmpi .slt v38 c0_i32_14
  let v43 : BitVec 32 := Scalar.extui v42
  let v44 : BitVec 32 := Scalar.subi v41 v43
  let c64_i32_12 : BitVec 32 := 64#32
  let c0_i32_15 : BitVec 32 := 0#32
  let v45 : BitVec 1 := Scalar.cmpi .sgt c64_i32_12 c0_i32_15
  let v46 : BitVec 32 := Scalar.extui v45
  let c0_i32_16 : BitVec 32 := 0#32
  let v47 : BitVec 1 := Scalar.cmpi .slt c64_i32_12 c0_i32_16
  let v48 : BitVec 32 := Scalar.extui v47
  let v49 : BitVec 32 := Scalar.subi v46 v48
  let v50 : BitVec 1 := Scalar.cmpi .ne v44 v49
  let v51 : BitVec 32 := Scalar.remsi v38 c64_i32_12
  let c0_i32_17 : BitVec 32 := 0#32
  let v52 : BitVec 1 := Scalar.cmpi .ne v51 c0_i32_17
  let v53 : BitVec 1 := Scalar.andi v50 v52
  let v39 : BitVec 32 := Scalar.divsi v38 c64_i32_12
  let c1_i32_18 : BitVec 32 := 1#32
  let v54 : BitVec 32 := Scalar.subi v39 c1_i32_18
  let v55 : BitVec 32 := Scalar.select v53 v54 v39
  let v95 : BitVec 32 := Scalar.addi v37 v55
  let c63_i32_19 : BitVec 32 := 63#32
  let v56 : BitVec 32 := Scalar.addi v17 c63_i32_19
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c64_i32_20 : BitVec 32 := 64#32
  let c0_i32_23 : BitVec 32 := 0#32
  let v63 : BitVec 1 := Scalar.cmpi .sgt c64_i32_20 c0_i32_23
  let v64 : BitVec 32 := Scalar.extui v63
  let c0_i32_24 : BitVec 32 := 0#32
  let v65 : BitVec 1 := Scalar.cmpi .slt c64_i32_20 c0_i32_24
  let v66 : BitVec 32 := Scalar.extui v65
  let v67 : BitVec 32 := Scalar.subi v64 v66
  let v68 : BitVec 1 := Scalar.cmpi .ne v62 v67
  let v69 : BitVec 32 := Scalar.remsi v56 c64_i32_20
  let c0_i32_25 : BitVec 32 := 0#32
  let v70 : BitVec 1 := Scalar.cmpi .ne v69 c0_i32_25
  let v71 : BitVec 1 := Scalar.andi v68 v70
  let v57 : BitVec 32 := Scalar.divsi v56 c64_i32_20
  let c1_i32_26 : BitVec 32 := 1#32
  let v72 : BitVec 32 := Scalar.subi v57 c1_i32_26
  let v73 : BitVec 32 := Scalar.select v71 v72 v57
  let v96 : BitVec 32 := Scalar.addi v95 v73
  let c64_i32_37 : BitVec 32 := 64#32
  let v97 : BitVec 32 := Scalar.muli v96 c64_i32_37
  let c0_i32_156 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v287 : BitVec 32 := Scalar.subi v91 c0_i32_156
  let c1_i32_158 : BitVec 32 := 1#32
  let v289 : BitVec 32 := Scalar.divsi v287 c1_i32_158
  let v290 : BitVec 32 := Scalar.muli v289 c1_i32_158
  let v291 : BitVec 32 := Scalar.addi c0_i32_156 v290
  let c1_i32_160 : BitVec 32 := 1#32
  let arg15 : BitVec 32 := Scf.iv v291 c1_i32_160 k0_t33
  let c64_i32_161 : BitVec 32 := 64#32
  let v294 : BitVec 32 := Scalar.muli arg15 c64_i32_161
  let v295 : BitVec 32 := Scalar.addi v97 v294
  let c0_i32_164 : BitVec 32 := 0#32
  ![v295.toNat, 0]
def k0_off70 (v19 : BitVec 32) (k0_t33 : Fin (k0_t33_loop v19).trips) : Fin 1 → Nat :=
  let c1728_i32_163 : BitVec 32 := 1728#32
  let c0_i32_156 : BitVec 32 := 0#32
  let c63_i32_27 : BitVec 32 := 63#32
  let v74 : BitVec 32 := Scalar.addi v19 c63_i32_27
  let c0_i32_29 : BitVec 32 := 0#32
  let v76 : BitVec 1 := Scalar.cmpi .sgt v74 c0_i32_29
  let v77 : BitVec 32 := Scalar.extui v76
  let c0_i32_30 : BitVec 32 := 0#32
  let v78 : BitVec 1 := Scalar.cmpi .slt v74 c0_i32_30
  let v79 : BitVec 32 := Scalar.extui v78
  let v80 : BitVec 32 := Scalar.subi v77 v79
  let c64_i32_28 : BitVec 32 := 64#32
  let c0_i32_31 : BitVec 32 := 0#32
  let v81 : BitVec 1 := Scalar.cmpi .sgt c64_i32_28 c0_i32_31
  let v82 : BitVec 32 := Scalar.extui v81
  let c0_i32_32 : BitVec 32 := 0#32
  let v83 : BitVec 1 := Scalar.cmpi .slt c64_i32_28 c0_i32_32
  let v84 : BitVec 32 := Scalar.extui v83
  let v85 : BitVec 32 := Scalar.subi v82 v84
  let v86 : BitVec 1 := Scalar.cmpi .ne v80 v85
  let v87 : BitVec 32 := Scalar.remsi v74 c64_i32_28
  let c0_i32_33 : BitVec 32 := 0#32
  let v88 : BitVec 1 := Scalar.cmpi .ne v87 c0_i32_33
  let v89 : BitVec 1 := Scalar.andi v86 v88
  let v75 : BitVec 32 := Scalar.divsi v74 c64_i32_28
  let c1_i32_34 : BitVec 32 := 1#32
  let v90 : BitVec 32 := Scalar.subi v75 c1_i32_34
  let v91 : BitVec 32 := Scalar.select v89 v90 v75
  let v287 : BitVec 32 := Scalar.subi v91 c0_i32_156
  let c1_i32_158 : BitVec 32 := 1#32
  let v289 : BitVec 32 := Scalar.divsi v287 c1_i32_158
  let v290 : BitVec 32 := Scalar.muli v289 c1_i32_158
  let v291 : BitVec 32 := Scalar.addi c0_i32_156 v290
  let c1_i32_160 : BitVec 32 := 1#32
  let arg15 : BitVec 32 := Scf.iv v291 c1_i32_160 k0_t33
  let c64_i32_162 : BitVec 32 := 64#32
  let v296 : BitVec 32 := Scalar.muli arg15 c64_i32_162
  let v297 : BitVec 32 := Scalar.addi c1728_i32_163 v296
  ![v297.toNat]

def k0_chk10 (v13 : BitVec 32) (v15 : BitVec 32) (v17 : BitVec 32) (v19 : BitVec 32) : Prop :=
  (∀ (r : Fin 4), ∀ a, (k0_off6 v19 (BitVec.ofNat 32 (16 * r.val))) a + S16.size a ≤ S2304.size a) ∧
  ((k0_t14_loop v19).OK) ∧
  (∀ k0_t14 : Fin (k0_t14_loop v19).trips, ∀ a, (k0_off31 v13 v15 v17 v19 k0_t14) a + S64x128.size a ≤ S768x128.size a) ∧
  (∀ k0_t14 : Fin (k0_t14_loop v19).trips, ∀ a, (k0_off32 v19 k0_t14) a + S64.size a ≤ S2304.size a) ∧
  ((k0_t15_loop v19).OK) ∧
  (∀ k0_t15 : Fin (k0_t15_loop v19).trips, ∀ a, (k0_off33 v13 v15 v17 v19 k0_t15) a + S64x128.size a ≤ S768x128.size a) ∧
  (∀ k0_t15 : Fin (k0_t15_loop v19).trips, ∀ a, (k0_off34 v19 k0_t15) a + S64.size a ≤ S2304.size a) ∧
  ((k0_t22_loop v19).OK) ∧
  (∀ k0_t22 : Fin (k0_t22_loop v19).trips, ∀ a, (k0_off47 v13 v15 v17 v19 k0_t22) a + S64x128.size a ≤ S768x128.size a) ∧
  (∀ k0_t22 : Fin (k0_t22_loop v19).trips, ∀ a, (k0_off48 v19 k0_t22) a + S64.size a ≤ S2304.size a) ∧
  ((k0_t23_loop v19).OK) ∧
  (∀ k0_t23 : Fin (k0_t23_loop v19).trips, ∀ a, (k0_off49 v13 v15 v17 v19 k0_t23) a + S64x128.size a ≤ S768x128.size a) ∧
  (∀ k0_t23 : Fin (k0_t23_loop v19).trips, ∀ a, (k0_off50 v19 k0_t23) a + S64.size a ≤ S2304.size a) ∧
  ((k0_t24_loop v19).OK) ∧
  (∀ k0_t24 : Fin (k0_t24_loop v19).trips, ∀ a, (k0_off51 v13 v15 v17 v19 k0_t24) a + S64x128.size a ≤ S768x128.size a) ∧
  (∀ k0_t24 : Fin (k0_t24_loop v19).trips, ∀ a, (k0_off52 v19 k0_t24) a + S64.size a ≤ S2304.size a) ∧
  ((k0_t25_loop v19).OK) ∧
  (∀ k0_t25 : Fin (k0_t25_loop v19).trips, ∀ a, (k0_off53 v13 v15 v17 v19 k0_t25) a + S64x128.size a ≤ S768x128.size a) ∧
  (∀ k0_t25 : Fin (k0_t25_loop v19).trips, ∀ a, (k0_off54 v19 k0_t25) a + S64.size a ≤ S2304.size a) ∧
  ((k0_t32_loop v19).OK) ∧
  (∀ k0_t32 : Fin (k0_t32_loop v19).trips, ∀ a, (k0_off67 v13 v15 v17 v19 k0_t32) a + S64x128.size a ≤ S768x128.size a) ∧
  (∀ k0_t32 : Fin (k0_t32_loop v19).trips, ∀ a, (k0_off68 v19 k0_t32) a + S64.size a ≤ S2304.size a) ∧
  ((k0_t33_loop v19).OK) ∧
  (∀ k0_t33 : Fin (k0_t33_loop v19).trips, ∀ a, (k0_off69 v13 v15 v17 v19 k0_t33) a + S64x128.size a ≤ S768x128.size a) ∧
  (∀ k0_t33 : Fin (k0_t33_loop v19).trips, ∀ a, (k0_off70 v19 k0_t33) a + S64.size a ≤ S2304.size a)
theorem k0_off6_inb : ∀ (v13 : BitVec 32) (v15 : BitVec 32) (v17 : BitVec 32) (v19 : BitVec 32) (k0_hw10 : k0_chk10 v13 v15 v17 v19), ∀ (r : Fin 4), ∀ a, (k0_off6 v19 (BitVec.ofNat 32 (16 * r.val))) a + S16.size a ≤ S2304.size a := fun v13 v15 v17 v19 k0_hw10 r => k0_hw10.1 r
theorem k0_t14_ok : ∀ (v13 : BitVec 32) (v15 : BitVec 32) (v17 : BitVec 32) (v19 : BitVec 32) (k0_hw10 : k0_chk10 v13 v15 v17 v19), (k0_t14_loop v19).OK := fun v13 v15 v17 v19 k0_hw10 => k0_hw10.2.1
theorem k0_off31_inb : ∀ (v13 : BitVec 32) (v15 : BitVec 32) (v17 : BitVec 32) (v19 : BitVec 32) (k0_hw10 : k0_chk10 v13 v15 v17 v19) (k0_t14 : Fin (k0_t14_loop v19).trips), ∀ a, (k0_off31 v13 v15 v17 v19 k0_t14) a + S64x128.size a ≤ S768x128.size a := fun v13 v15 v17 v19 k0_hw10 k0_t14 => k0_hw10.2.2.1 k0_t14
theorem k0_off32_inb : ∀ (v13 : BitVec 32) (v15 : BitVec 32) (v17 : BitVec 32) (v19 : BitVec 32) (k0_hw10 : k0_chk10 v13 v15 v17 v19) (k0_t14 : Fin (k0_t14_loop v19).trips), ∀ a, (k0_off32 v19 k0_t14) a + S64.size a ≤ S2304.size a := fun v13 v15 v17 v19 k0_hw10 k0_t14 => k0_hw10.2.2.2.1 k0_t14
theorem k0_t15_ok : ∀ (v13 : BitVec 32) (v15 : BitVec 32) (v17 : BitVec 32) (v19 : BitVec 32) (k0_hw10 : k0_chk10 v13 v15 v17 v19), (k0_t15_loop v19).OK := fun v13 v15 v17 v19 k0_hw10 => k0_hw10.2.2.2.2.1
theorem k0_off33_inb : ∀ (v13 : BitVec 32) (v15 : BitVec 32) (v17 : BitVec 32) (v19 : BitVec 32) (k0_hw10 : k0_chk10 v13 v15 v17 v19) (k0_t15 : Fin (k0_t15_loop v19).trips), ∀ a, (k0_off33 v13 v15 v17 v19 k0_t15) a + S64x128.size a ≤ S768x128.size a := fun v13 v15 v17 v19 k0_hw10 k0_t15 => k0_hw10.2.2.2.2.2.1 k0_t15
theorem k0_off34_inb : ∀ (v13 : BitVec 32) (v15 : BitVec 32) (v17 : BitVec 32) (v19 : BitVec 32) (k0_hw10 : k0_chk10 v13 v15 v17 v19) (k0_t15 : Fin (k0_t15_loop v19).trips), ∀ a, (k0_off34 v19 k0_t15) a + S64.size a ≤ S2304.size a := fun v13 v15 v17 v19 k0_hw10 k0_t15 => k0_hw10.2.2.2.2.2.2.1 k0_t15
theorem k0_t22_ok : ∀ (v13 : BitVec 32) (v15 : BitVec 32) (v17 : BitVec 32) (v19 : BitVec 32) (k0_hw10 : k0_chk10 v13 v15 v17 v19), (k0_t22_loop v19).OK := fun v13 v15 v17 v19 k0_hw10 => k0_hw10.2.2.2.2.2.2.2.1
theorem k0_off47_inb : ∀ (v13 : BitVec 32) (v15 : BitVec 32) (v17 : BitVec 32) (v19 : BitVec 32) (k0_hw10 : k0_chk10 v13 v15 v17 v19) (k0_t22 : Fin (k0_t22_loop v19).trips), ∀ a, (k0_off47 v13 v15 v17 v19 k0_t22) a + S64x128.size a ≤ S768x128.size a := fun v13 v15 v17 v19 k0_hw10 k0_t22 => k0_hw10.2.2.2.2.2.2.2.2.1 k0_t22
theorem k0_off48_inb : ∀ (v13 : BitVec 32) (v15 : BitVec 32) (v17 : BitVec 32) (v19 : BitVec 32) (k0_hw10 : k0_chk10 v13 v15 v17 v19) (k0_t22 : Fin (k0_t22_loop v19).trips), ∀ a, (k0_off48 v19 k0_t22) a + S64.size a ≤ S2304.size a := fun v13 v15 v17 v19 k0_hw10 k0_t22 => k0_hw10.2.2.2.2.2.2.2.2.2.1 k0_t22
theorem k0_t23_ok : ∀ (v13 : BitVec 32) (v15 : BitVec 32) (v17 : BitVec 32) (v19 : BitVec 32) (k0_hw10 : k0_chk10 v13 v15 v17 v19), (k0_t23_loop v19).OK := fun v13 v15 v17 v19 k0_hw10 => k0_hw10.2.2.2.2.2.2.2.2.2.2.1
theorem k0_off49_inb : ∀ (v13 : BitVec 32) (v15 : BitVec 32) (v17 : BitVec 32) (v19 : BitVec 32) (k0_hw10 : k0_chk10 v13 v15 v17 v19) (k0_t23 : Fin (k0_t23_loop v19).trips), ∀ a, (k0_off49 v13 v15 v17 v19 k0_t23) a + S64x128.size a ≤ S768x128.size a := fun v13 v15 v17 v19 k0_hw10 k0_t23 => k0_hw10.2.2.2.2.2.2.2.2.2.2.2.1 k0_t23
theorem k0_off50_inb : ∀ (v13 : BitVec 32) (v15 : BitVec 32) (v17 : BitVec 32) (v19 : BitVec 32) (k0_hw10 : k0_chk10 v13 v15 v17 v19) (k0_t23 : Fin (k0_t23_loop v19).trips), ∀ a, (k0_off50 v19 k0_t23) a + S64.size a ≤ S2304.size a := fun v13 v15 v17 v19 k0_hw10 k0_t23 => k0_hw10.2.2.2.2.2.2.2.2.2.2.2.2.1 k0_t23
theorem k0_t24_ok : ∀ (v13 : BitVec 32) (v15 : BitVec 32) (v17 : BitVec 32) (v19 : BitVec 32) (k0_hw10 : k0_chk10 v13 v15 v17 v19), (k0_t24_loop v19).OK := fun v13 v15 v17 v19 k0_hw10 => k0_hw10.2.2.2.2.2.2.2.2.2.2.2.2.2.1
theorem k0_off51_inb : ∀ (v13 : BitVec 32) (v15 : BitVec 32) (v17 : BitVec 32) (v19 : BitVec 32) (k0_hw10 : k0_chk10 v13 v15 v17 v19) (k0_t24 : Fin (k0_t24_loop v19).trips), ∀ a, (k0_off51 v13 v15 v17 v19 k0_t24) a + S64x128.size a ≤ S768x128.size a := fun v13 v15 v17 v19 k0_hw10 k0_t24 => k0_hw10.2.2.2.2.2.2.2.2.2.2.2.2.2.2.1 k0_t24
theorem k0_off52_inb : ∀ (v13 : BitVec 32) (v15 : BitVec 32) (v17 : BitVec 32) (v19 : BitVec 32) (k0_hw10 : k0_chk10 v13 v15 v17 v19) (k0_t24 : Fin (k0_t24_loop v19).trips), ∀ a, (k0_off52 v19 k0_t24) a + S64.size a ≤ S2304.size a := fun v13 v15 v17 v19 k0_hw10 k0_t24 => k0_hw10.2.2.2.2.2.2.2.2.2.2.2.2.2.2.2.1 k0_t24
theorem k0_t25_ok : ∀ (v13 : BitVec 32) (v15 : BitVec 32) (v17 : BitVec 32) (v19 : BitVec 32) (k0_hw10 : k0_chk10 v13 v15 v17 v19), (k0_t25_loop v19).OK := fun v13 v15 v17 v19 k0_hw10 => k0_hw10.2.2.2.2.2.2.2.2.2.2.2.2.2.2.2.2.1
theorem k0_off53_inb : ∀ (v13 : BitVec 32) (v15 : BitVec 32) (v17 : BitVec 32) (v19 : BitVec 32) (k0_hw10 : k0_chk10 v13 v15 v17 v19) (k0_t25 : Fin (k0_t25_loop v19).trips), ∀ a, (k0_off53 v13 v15 v17 v19 k0_t25) a + S64x128.size a ≤ S768x128.size a := fun v13 v15 v17 v19 k0_hw10 k0_t25 => k0_hw10.2.2.2.2.2.2.2.2.2.2.2.2.2.2.2.2.2.1 k0_t25
theorem k0_off54_inb : ∀ (v13 : BitVec 32) (v15 : BitVec 32) (v17 : BitVec 32) (v19 : BitVec 32) (k0_hw10 : k0_chk10 v13 v15 v17 v19) (k0_t25 : Fin (k0_t25_loop v19).trips), ∀ a, (k0_off54 v19 k0_t25) a + S64.size a ≤ S2304.size a := fun v13 v15 v17 v19 k0_hw10 k0_t25 => k0_hw10.2.2.2.2.2.2.2.2.2.2.2.2.2.2.2.2.2.2.1 k0_t25
theorem k0_t32_ok : ∀ (v13 : BitVec 32) (v15 : BitVec 32) (v17 : BitVec 32) (v19 : BitVec 32) (k0_hw10 : k0_chk10 v13 v15 v17 v19), (k0_t32_loop v19).OK := fun v13 v15 v17 v19 k0_hw10 => k0_hw10.2.2.2.2.2.2.2.2.2.2.2.2.2.2.2.2.2.2.2.1
theorem k0_off67_inb : ∀ (v13 : BitVec 32) (v15 : BitVec 32) (v17 : BitVec 32) (v19 : BitVec 32) (k0_hw10 : k0_chk10 v13 v15 v17 v19) (k0_t32 : Fin (k0_t32_loop v19).trips), ∀ a, (k0_off67 v13 v15 v17 v19 k0_t32) a + S64x128.size a ≤ S768x128.size a := fun v13 v15 v17 v19 k0_hw10 k0_t32 => k0_hw10.2.2.2.2.2.2.2.2.2.2.2.2.2.2.2.2.2.2.2.2.1 k0_t32
theorem k0_off68_inb : ∀ (v13 : BitVec 32) (v15 : BitVec 32) (v17 : BitVec 32) (v19 : BitVec 32) (k0_hw10 : k0_chk10 v13 v15 v17 v19) (k0_t32 : Fin (k0_t32_loop v19).trips), ∀ a, (k0_off68 v19 k0_t32) a + S64.size a ≤ S2304.size a := fun v13 v15 v17 v19 k0_hw10 k0_t32 => k0_hw10.2.2.2.2.2.2.2.2.2.2.2.2.2.2.2.2.2.2.2.2.2.1 k0_t32
theorem k0_t33_ok : ∀ (v13 : BitVec 32) (v15 : BitVec 32) (v17 : BitVec 32) (v19 : BitVec 32) (k0_hw10 : k0_chk10 v13 v15 v17 v19), (k0_t33_loop v19).OK := fun v13 v15 v17 v19 k0_hw10 => k0_hw10.2.2.2.2.2.2.2.2.2.2.2.2.2.2.2.2.2.2.2.2.2.2.1
theorem k0_off69_inb : ∀ (v13 : BitVec 32) (v15 : BitVec 32) (v17 : BitVec 32) (v19 : BitVec 32) (k0_hw10 : k0_chk10 v13 v15 v17 v19) (k0_t33 : Fin (k0_t33_loop v19).trips), ∀ a, (k0_off69 v13 v15 v17 v19 k0_t33) a + S64x128.size a ≤ S768x128.size a := fun v13 v15 v17 v19 k0_hw10 k0_t33 => k0_hw10.2.2.2.2.2.2.2.2.2.2.2.2.2.2.2.2.2.2.2.2.2.2.2.1 k0_t33
theorem k0_off70_inb : ∀ (v13 : BitVec 32) (v15 : BitVec 32) (v17 : BitVec 32) (v19 : BitVec 32) (k0_hw10 : k0_chk10 v13 v15 v17 v19) (k0_t33 : Fin (k0_t33_loop v19).trips), ∀ a, (k0_off70 v19 k0_t33) a + S64.size a ≤ S2304.size a := fun v13 v15 v17 v19 k0_hw10 k0_t33 => k0_hw10.2.2.2.2.2.2.2.2.2.2.2.2.2.2.2.2.2.2.2.2.2.2.2.2 k0_t33

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384x128 : Shape := ⟨2, ![16384, 128]⟩
abbrev S16384x1 : Shape := ⟨2, ![16384, 1]⟩
abbrev S16384x1x128 : Shape := ⟨3, ![16384, 1, 128]⟩
abbrev S16384x4x128 : Shape := ⟨3, ![16384, 4, 128]⟩
abbrev S16384 : Shape := ⟨1, ![16384]⟩
abbrev S_ : Shape := ⟨0, ![]⟩
abbrev S16384x2 : Shape := ⟨2, ![16384, 2]⟩

abbrev nBuf : Space → Nat
  | .hbm => 30
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S16384x1, .i32⟩
  | .hbm, ⟨5, _⟩ => ⟨S16384x1x128, .f32⟩
  | .hbm, ⟨6, _⟩ => ⟨S16384x1x128, .f32⟩
  | .hbm, ⟨7, _⟩ => ⟨S16384x1x128, .f32⟩
  | .hbm, ⟨8, _⟩ => ⟨S16384x1x128, .f32⟩
  | .hbm, ⟨9, _⟩ => ⟨S16384x4x128, .f32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x1, .i32⟩
  | .hbm, ⟨28, _⟩ => ⟨S16384x2, .i32⟩
  | .hbm, ⟨29, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.BatchStream.lean ====
/-
  SEVERAL INDIRECT STREAMS OUTSTANDING ON ONE SEMAPHORE. A tile that fires stream after stream on one DMA semaphore and
  waits for them later holds one `Transfers.Batch` over ALL their rows: row `i` of the stream fired when `j` rows had
  been issued is transfer `j + i` of the batch. Here are the issue's rules: `wp_streamBatch`, any stream whose rows all
  credit `N`; `wp_gatherBatch`, the indirect gather's instance; `wp_scatterBatch`, the indirect scatter's, whose rows'
  writes are given as write updates (so that rows of several streams may write one array held in an invariant).
-/
module

public import Idealize.ShloMosaic.Lib.Batch
public import Idealize.ShloMosaic.Lib.SparseCore.Stream
public import Idealize.ShloMosaic.Lib.SparseCore.Scatter

@[expose] public section

noncomputable section

namespace Cert.Proof.BatchStream

open Idealize.ShloMosaic Idealize.ShloMosaic.SparseCore
open Idealize.ShloMosaic.Transfers (Batch pending batchBody)
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## Issue rights, `o` at a time -/

/-- Transfer `j + i` of a batch of `n`. -/
abbrev at' {n j o : ℕ} (h : j + o ≤ n) (i : Fin o) : Fin n := ⟨j + i.val, by have := i.isLt; omega⟩

omit [Preorder Lvl] in
/-- What is pending from `j` is the next `o` and what is pending from `j + o`. -/
theorem pending_take {n j o : ℕ} (h : j + o ≤ n) (Φ : Fin n → sProp 𝕄) :
    bigSep (pending j) Φ = iprop(bigSep Finset.univ (fun i : Fin o => Φ (at' h i)) ∗ bigSep (pending (j + o)) Φ) := by
  have hinj : Function.Injective (at' h) := fun i i' e => Fin.ext (by have := congrArg Fin.val e; simpa using this)
  have hset : (pending j : Finset (Fin n)) = (Finset.univ.map ⟨at' h, hinj⟩) ∪ pending (j + o) := by
    ext t
    simp only [pending, Finset.mem_filter, Finset.mem_univ, true_and, Finset.mem_union, Finset.mem_map, Function.Embedding.coeFn_mk]
    constructor
    · intro ht
      by_cases hlt : t.val < j + o
      · exact .inl ⟨⟨t.val - j, by omega⟩, Fin.ext (by simp only [at']; omega)⟩
      · exact .inr (by omega)
    · rintro (⟨i, rfl⟩ | ht)
      · exact Nat.le_add_right _ _
      · omega
  have hdis : Disjoint (Finset.univ.map ⟨at' h, hinj⟩) (pending (j + o) : Finset (Fin n)) := by
    rw [Finset.disjoint_left]
    intro t ht ht'
    obtain ⟨i, -, rfl⟩ := Finset.mem_map.mp ht
    have h1 := (Finset.mem_filter.mp ht').2
    have := i.isLt
    simp only [Function.Embedding.coeFn_mk, at'] at h1
    omega
  rw [hset, BI.bigSep_union hdis, BI.bigSep_map]
  rfl

theorem emp_in {P : sProp 𝕄} : P ⊢ iprop(emp ∗ P) := emp_sep.2

/-! ## The issue -/

/-- A stream of `o` entries whose rows all credit `N`, issued on a cell whose batch has `j` of its transfers out: each
    entry gives its element of the list and, that element given back, its row's source, its row's write update and the
    row's delivery, the batch's transfer `j + i`. -/
theorem wp_streamBatch [Infinite Name] [EC.LandsIn (upEmb : UEmb _ 𝕄)] {o : ℕ} {hp : c.2.kind = .scVector} {hn : si.numel = o}
    {sem : DmaSem sig} {row : Fin o → Elt F .i32 → Option (RowDma τ sig (Elt F) c.2 sem)}
    {offsM : Memref sig c.2.kind .vmem si .i32} {k : PUnit → Prog (TpuEff nD τ sig (Elt F) Λ c.2) α}
    {qo : PosShare TreeShare} {fo : Buf (Elt F) (offsM.view.loc c)} {rd : Fin o → RowDma τ sig (Elt F) c.2 sem} (ι : Ix) {N n j u : ℕ}
    {D : Fin n → sProp 𝕄} (P : sProp 𝕄) [BI.Persistent P] (R : Fin o → sProp 𝕄)
    (hA : (Stream.issued c offsM.view hn sem row 0).RowsAgree)
    (hrd : ∀ k, row k ((Stream.issued c offsM.view hn sem row 0).word fo k) = some (rd k))
    (hN : ∀ i, (rd i).dst.view.dmaCredit = N) (hj : j + o ≤ n) (hu : u ≤ j * N)
    (hrow : ∀ i, iprop(P ∗ R i) ⊢ iprop((Stream.issued c offsM.view hn sem row 0).heldEntry qo fo i
      ∗ ((Stream.issued c offsM.view hn sem row 0).heldEntry qo fo i -∗ ∃ (q : PosShare TreeShare) (fs : Buf (Elt F) ((rd i).src.view.loc c)) (R₀ : sProp 𝕄),
          ((rd i).src.view.loc c ↦[(rd i).src.view.set]{q} fs) ∗ writeUpdate c (rd i).dst.view ((rd i).via.apply ((rd i).src.view.read (Elt F) fs)) R₀
          ∗ ⌜iprop(R₀ ∗ ((rd i).src.view.loc c ↦[(rd i).src.view.set]{q} fs)) ⊢ D (at' hj i)⌝))) :
    iprop(P ∗ bigSep Finset.univ R ∗ Batch EC c (.dma sem) ι N D j u)
      ⊢ iprop((Batch EC c (.dma sem) ι N D (j + o) u -∗ wp frame (wpE defs 𝒱 c bd) Set.univ (k ⟨⟩) Q)
          -∗ wp frame (wpE defs 𝒱 c bd) Set.univ (.op (.enqueueIndirectDma hp offsM hn sem row) k) Q) := by
  unfold Batch
  iintro ⟨#HP, HR, ⟨%γ, %γ₀, %κ, #Hinv, HI, H0, Hcred⟩⟩ Hk
  ihave HI' := (Entails.of_eq (pending_take hj _)) $$ HI
  icases HI' with ⟨Hγ, HI⟩
  iapply (wp_enqueueIndirectDma 𝒱 c bd Set.univ (qo := qo) (fo := fo) (rd := rd) ι (o * N) hA hrd
    ((Finset.sum_congr rfl fun i _ => hN i).trans (by simp))) $$ [HR Hγ]
  · have hone : ∀ i, iprop(iprop(P ∗ inv κ (batchBody EC (c, SemLoc.dma sem) N D γ γ₀)) ∗ (R i ∗ count EC (γ (at' hj i)) 0))
        ⊢ iprop((Stream.issued c offsM.view hn sem row 0).heldEntry qo fo i
          ∗ ((Stream.issued c offsM.view hn sem row 0).heldEntry qo fo i -∗ rowRes c (rd i))) := fun i => by
      iintro ⟨⟨#HP, #Hinv⟩, HR, Hγ⟩
      ihave H := (hrow i) $$ [HR]
      · isplitr; · iexact HP
        iexact HR
      icases H with ⟨He, Hback⟩
      isplitl [He]; · iexact He
      iintro He
      ihave H := Hback $$ He
      icases H with ⟨%q, %fs, %R₀, Hs, Hw, %hD⟩
      unfold rowRes
      iexists q, fs, R₀
      isplitl [Hs]; · iexact Hs
      isplitl [Hw]; · iexact Hw
      iapply (Entails.of_eq (show (creditUpdate (c, SemLoc.dma sem) N 0 iprop(R₀ ∗ ((rd i).src.view.loc c ↦[(rd i).src.view.set]{q} fs)) : sProp 𝕄)
        = creditUpdate (c, SemLoc.dma sem) ((rd i).dst.view.amount (.dma sem)) 0 iprop(R₀ ∗ ((rd i).src.view.loc c ↦[(rd i).src.view.set]{q} fs))
        from by rw [View.amount_dma, hN i]))
      iapply (Transfers.batch_creditUpdate EC (D := D) (γ₀ := γ₀) (at' hj i) hD)
      isplitr; · iexact Hinv
      iexact Hγ
    unfold Stream.res
    ihave H1 := Transfers.bigSep_sep_in _ _ _ $$ [HR Hγ]; · isplitl [HR] <;> iassumption
    iapply (Transfers.bigSep_mono_pers Finset.univ iprop(P ∗ inv κ (batchBody EC (c, SemLoc.dma sem) N D γ γ₀)) _ _ fun i _ => hone i)
    isplitr
    · isplitr; · iexact HP
      iexact Hinv
    iexact H1
  · iintro Hcred'
    iapply Hk
    iexists γ, γ₀, κ
    isplitr; · iexact Hinv
    isplitl [HI]; · iexact HI
    isplitl [H0]; · iexact H0
    rw [show (j + o) * N - u = (j * N - u) + o * N by rw [Nat.add_mul]; omega, ← tallyAt_add]
    icombine Hcred Hcred' as H
    iexact H

/-- The indirect gather on a batched cell: per entry its destination row outright, its element of the list and a share of
    the source; delivered, the row written with the source's row the entry names, and the rest back. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {q : Fin (s.size hg.axis') → PosShare TreeShare}
    {fs : Buf (Elt F) (src.view.loc c)} {fd : Buf (Elt F) (dst.view.loc c)} {fo : Buf (Elt F) (offs.view.loc c)}
    (ι : Ix) {N n j u : ℕ} {D : Fin n → sProp 𝕄}
    (hN : ∀ i, (dst.slice (s.rowRect hg.axis' i) (s.stride_rowRect hg.axis' i)).view.dmaCredit = N)
    (hin : ∀ x, (offs.view.read (Elt F) fo x).toNat < s₀.size hg.axis) (hj : j + s.size hg.axis' ≤ n) (hu : u ≤ j * N)
    (hD : ∀ i, iprop(((dst.view.loc c ↦[(dst.view.slice (s.rowRect hg.axis' i)).set]{fullShare}
            ((dst.view.slice (s.rowRect hg.axis' i)).write (Elt F) fd
              (fun x => src.view.read (Elt F) fs (hg.rowIdx (rows (offs.view.read (Elt F) fo) hn hin i) x)) Finset.univ))
          ∗ (offs.view.loc c ↦[{offs.view.emb (si.rowMajor.symm (i.cast hn.symm))}]{qo} fo))
          ∗ (src.view.loc c ↦[src.view.set]{q i} fs)) ⊢ D (at' hj i)) :
    iprop(bigSep Finset.univ (fun i => iprop(((dst.view.loc c ↦[(dst.view.slice (s.rowRect hg.axis' i)).set]{fullShare} fd)
          ∗ (offs.view.loc c ↦[{offs.view.emb (si.rowMajor.symm (i.cast hn.symm))}]{qo} fo))
          ∗ (src.view.loc c ↦[src.view.set]{q i} fs)))
        ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  refine BI.Entails.trans ?_ (wp_streamBatch EC 𝒱 c bd (qo := qo) (fo := fo)
    (rd := fun i => gatherRow c src dst hg sem hsrc he hsp hr i (rows (offs.view.read (Elt F) fo) hn hin i))
    ι (D := D) (iprop(emp)) (fun i => iprop(((dst.view.loc c ↦[(dst.view.slice (s.rowRect hg.axis' i)).set]{fullShare} fd)
          ∗ (offs.view.loc c ↦[{offs.view.emb (si.rowMajor.symm (i.cast hn.symm))}]{qo} fo))
          ∗ (src.view.loc c ↦[src.view.set]{q i} fs))) ?_ ?_ hN hj hu ?_)
  · exact emp_in
  · intro i x x' ρ ρ' h h'
    obtain ⟨_, _, rfl⟩ := Option.map_eq_some_iff.mp h
    obtain ⟨_, _, rfl⟩ := Option.map_eq_some_iff.mp h'
    rfl
  · intro i
    change (rowOf (s₀.size hg.axis) (offs.view.read (Elt F) fo (si.rowMajor.symm (i.cast hn.symm)))).map _ = _
    rw [rowOf_of_lt (hin _)]; rfl
  · intro i
    iintro ⟨-, ⟨Hr, He⟩, Hs⟩
    isplitl [He]; · iexact He
    iintro He
    iexists q i, fs, iprop((dst.view.loc c ↦[(dst.view.slice (s.rowRect hg.axis' i)).set]{fullShare}
            ((dst.view.slice (s.rowRect hg.axis' i)).write (Elt F) fd
              (fun x => src.view.read (Elt F) fs (hg.rowIdx (rows (offs.view.read (Elt F) fo) hn hin i) x)) Finset.univ))
          ∗ (offs.view.loc c ↦[{offs.view.emb (si.rowMajor.symm (i.cast hn.symm))}]{qo} fo))
    isplitl [Hs]; · iexact Hs
    isplitl [Hr He]
    · iapply writeUpdate_frame
      isplitl [Hr]
      · iapply (pointsTo_writeUpdate c (v := dst.view.slice (s.rowRect hg.axis' i)) subset_rfl) $$ Hr
      · iexact He
    · ipureintro; exact hD i

/-- The indirect scatter on a batched cell: per entry its source row, its element of the list and what (`W i`, beside the
    persistent `P`) gives the write update of the target's row the entry names; delivered, what that update yields and the
    rest back. -/
theorem wp_scatterBatch [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    (ι : Ix) {N n j u : ℕ} {D : Fin n → sProp 𝕄} (P : sProp 𝕄) [BI.Persistent P] (W R₀ : Fin (s.size hg.axis') → sProp 𝕄)
    (hin : ∀ x, (offs.view.read (Elt F) fo x).toNat < s₀.size hg.axis)
    (hN : ∀ i, (dst.slice (s₀.rowRect hg.axis (rows (offs.view.read (Elt F) fo) hn hin i)) (s₀.stride_rowRect hg.axis _)).view.dmaCredit = N)
    (hj : j + s.size hg.axis' ≤ n) (hu : u ≤ j * N)
    (hW : ∀ i, iprop(P ∗ W i) ⊢ writeUpdate c (dst.view.slice (s₀.rowRect hg.axis (rows (offs.view.read (Elt F) fo) hn hin i)))
      (scatterRowPayload c src hg fs i) (R₀ i))
    (hD : ∀ i, iprop((R₀ i ∗ (offs.view.loc c ↦[{offs.view.emb (si.rowMajor.symm (i.cast hn.symm))}]{qo} fo))
          ∗ (src.view.loc c ↦[(src.view.slice (s.rowRect hg.axis' i)).set]{q} fs)) ⊢ D (at' hj i)) :
    iprop(P ∗ bigSep Finset.univ (fun i => iprop((W i ∗ (offs.view.loc c ↦[{offs.view.emb (si.rowMajor.symm (i.cast hn.symm))}]{qo} fo))
          ∗ (src.view.loc c ↦[(src.view.slice (s.rowRect hg.axis' i)).set]{q} fs)))
        ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectScatter hp src dst hg offs hn sem he hsp hr >>= k) Q) := by
  rw [enqueueIndirectScatter_bind]
  have hset : ∀ i, (src.view.slice (s.rowRect hg.axis' i)).set
      = (scatterRow (F := F) c src dst hg sem he hsp hr i (rows (offs.view.read (Elt F) fo) hn hin i)).src.view.set := fun i =>
    (View.set_cast (v := src.view.slice (s.rowRect hg.axis' i)) _ _).symm
  refine wp_streamBatch EC 𝒱 c bd (qo := qo) (fo := fo)
    (rd := fun i => scatterRow c src dst hg sem he hsp hr i (rows (offs.view.read (Elt F) fo) hn hin i))
    ι (D := D) P (fun i => iprop((W i ∗ (offs.view.loc c ↦[{offs.view.emb (si.rowMajor.symm (i.cast hn.symm))}]{qo} fo))
          ∗ (src.view.loc c ↦[(src.view.slice (s.rowRect hg.axis' i)).set]{q} fs))) ?_ ?_ hN hj hu ?_
  · intro i x x' ρ ρ' h h'
    obtain ⟨_, _, rfl⟩ := Option.map_eq_some_iff.mp h
    obtain ⟨_, _, rfl⟩ := Option.map_eq_some_iff.mp h'
    rfl
  · intro i
    change (rowOf (s₀.size hg.axis) (offs.view.read (Elt F) fo (si.rowMajor.symm (i.cast hn.symm)))).map _ = _
    rw [rowOf_of_lt (hin _)]; rfl
  · intro i
    iintro ⟨#HP, ⟨Hw, He⟩, Hs⟩
    isplitl [He]; · iexact He
    iintro He
    iexists q, fs, iprop(R₀ i ∗ (offs.view.loc c ↦[{offs.view.emb (si.rowMajor.symm (i.cast hn.symm))}]{qo} fo))
    isplitl [Hs]
    · iapply (Entails.of_eq (congrArg (fun I => (src.view.loc c ↦[I]{q} fs : sProp 𝕄)) (hset i))) $$ Hs
    isplitl [Hw He]
    · iapply writeUpdate_frame
      isplitl [Hw]
      · iapply (hW i)
        isplitr; · iexact HP
        iexact Hw
      · iexact He
    · ipureintro
      exact (Entails.of_eq (by rw [← hset i])).trans (hD i)

/-! ## One array written by rows of several streams at once

The array's elements `I` are held in an invariant beside, per row write `t`, which of its elements are written (the
authority of a counter whose fragment travels with the write). Every write of the row `r t` writes the values of one fixed
array `T` there, so two writes of one row agree. Once all are through, the elements come out with `T`'s values on every row
written. -/

section Shared

variable (v : View sig c.2.kind sp s₀ e) (ax : Fin s₀.rank) {n : ℕ} (r : Fin n → Fin (s₀.size ax))
variable (I : Finset (Idx (v.loc c))) (T : Buf (Elt F) (v.loc c))

/-- A set of a row's elements, numbered; the empty set is number 0. -/
def code {ι : Type} [Fintype ι] (M : Finset ι) : ℕ :=
  open scoped Classical in if M = ∅ then 0 else (Fintype.equivFin (Finset ι) M).val + 1

theorem code_empty {ι : Type} [Fintype ι] : code (∅ : Finset ι) = 0 := if_pos rfl

theorem code_inj {ι : Type} [Fintype ι] {M M' : Finset ι} (h : code M = code M') : M = M' := by
  classical
  unfold code at h
  split at h <;> split at h
  · simp_all
  · omega
  · omega
  · exact (Fintype.equivFin (Finset ι)).injective (Fin.ext (by omega))

/-- The elements held, each write's record beside; or taken out, every write's fragment at its end in their place. -/
def sharedBody (γ : Fin n → ℕ) : sProp 𝕄 :=
  iprop((∃ (g : Buf (Elt F) (v.loc c)) (Ms : Fin n → Finset (s₀.rowShape ax).Idx), (v.loc c ↦[I]{fullShare} g)
      ∗ ⌜∀ t x, x ∈ Ms t → g ((v.slice (s₀.rowRect ax (r t))).emb x) = T ((v.slice (s₀.rowRect ax (r t))).emb x)⌝
      ∗ bigSep Finset.univ fun t => countAuth EC (γ t) (code (Ms t)))
    ∨ bigSep Finset.univ fun t => count EC (γ t) (code (Finset.univ : Finset (s₀.rowShape ax).Idx)))

instance sharedBody_storable [EC.LandsIn (upEmb : UEmb _ 𝕄)] (γ : Fin n → ℕ) :
    Storable (upEmb : UEmb _ 𝕄) (sharedBody EC c v ax r I T γ) := by
  unfold sharedBody count countAuth; infer_instance

theorem shared_alloc [Infinite Name] [EC.LandsIn (upEmb : UEmb _ 𝕄)] (g : Buf (Elt F) (v.loc c)) {E : Set Name} :
    (v.loc c ↦[I]{fullShare} g : sProp 𝕄)
      ⊢ |={E}=> iprop(∃ (γ : Fin n → ℕ) (κ : Name), inv κ (sharedBody EC c v ax r I T γ) ∗ bigSep Finset.univ fun t => count EC (γ t) 0) := by
  iintro Hv
  imod (counts_alloc_family EC (Finset.univ : Finset (Fin n))) $$ [] with ⟨%γ, Ha, Hc⟩; · iempintro
  imod (inv_alloc (P := sharedBody EC c v ax r I T γ) (E := E)) $$ [Hv Ha] with ⟨%κ, Hinv⟩
  · unfold sharedBody
    ileft; iexists g, fun _ => ∅
    isplitl [Hv]; · iexact Hv
    isplitr; · ipureintro; exact fun t x hx => absurd hx (Finset.notMem_empty x)
    simp only [code_empty]
    iexact Ha
  imodintro
  iexists γ, κ
  isplitl [Hinv] <;> iassumption

omit [Preorder Lvl] in
/-- A fragment in hand refutes that the elements are out. -/
theorem shared_out_false {γ : Fin n → ℕ} (t : Fin n) {p q : ℕ} :
    iprop((bigSep Finset.univ fun t => count EC (γ t) q) ∗ count EC (γ t) p) ⊢ (False : sProp 𝕄) := by
  iintro ⟨Hall, Hc⟩
  ihave H := (Transfers.bigSep_univ_out t (fun t => (count EC (γ t) q : sProp 𝕄))) $$ Hall
  icases H with ⟨Ht, -⟩
  iapply (count_count_false EC (γ := γ t) (m := q) (n := p))
  isplitl [Ht] <;> iassumption

/-- One row's write update against the invariant: from its fragment at nothing written to its fragment at all of it. -/
theorem shared_writeUpdate [EC.LandsIn (upEmb : UEmb _ 𝕄)] {γ : Fin n → ℕ} {κ : Name} (t : Fin n) (w : (s₀.rowRect ax (r t)).shape.Idx → Elt F e)
    (hI : (v.slice (s₀.rowRect ax (r t))).set ⊆ I)
    (hw : ∀ x, cast (congrArg (Elt F) (v.slice (s₀.rowRect ax (r t))).elt_eq.symm) (w x) = T ((v.slice (s₀.rowRect ax (r t))).emb x)) :
    iprop(inv κ (sharedBody EC c v ax r I T γ) ∗ count EC (γ t) 0)
      ⊢ writeUpdate c (v.slice (s₀.rowRect ax (r t))) w
          (count EC (γ t) (code (Finset.univ : Finset (s₀.rowShape ax).Idx))) := by
  unfold writeUpdate; rw [writeUpdateFrom_def]
  iintro ⟨#Hinv, Hc⟩
  iexists (fun M : Finset (s₀.rowRect ax (r t)).shape.Idx => (count EC (γ t) (code (ι := (s₀.rowShape ax).Idx) M) : sProp 𝕄))
  isplitl [Hc]; · simp only [code_empty]; iexact Hc
  isplitr
  · rw [writeSteps_def]
    imodintro
    iintro %M %M' Hc
    imod (inv_acc (Set.mem_univ κ)) $$ Hinv with ⟨Hb, Hclose⟩
    unfold sharedBody
    icases Hb with (⟨%g, %Ms, Hv, %hg, Ha⟩ | Hout)
    · imodintro
      rw [storeSpec_apply]
      iexists I, g
      isplitl [Hv]; · iexact Hv
      isplitr; · ipureintro; exact fun i hi => hI (View.setOn_subset_set _ _ hi)
      iintro Hv
      ihave H := (Transfers.bigSep_univ_out t (fun t => (countAuth EC (γ t) (code (Ms t)) : sProp 𝕄))) $$ Ha
      icases H with ⟨Hat, Ha⟩
      icombine Hat Hc gives %hM
      obtain rfl : M = Ms t := code_inj hM
      icombine Hat Hc as H
      imod (countAuth_count_update EC (code (Ms t ∪ M'))) $$ H with ⟨Hat, Hc⟩
      ihave Hc' := Hclose $$ [Hv Hat Ha]
      · ileft
        iexists _, Function.update Ms t (Ms t ∪ M')
        isplitl [Hv]; · iexact Hv
        isplitr
        · ipureintro
          intro t' x hx
          by_cases hmem : (v.slice (s₀.rowRect ax (r t'))).emb x ∈ (v.slice (s₀.rowRect ax (r t))).setOn M'
          · obtain ⟨y, hy, hyx⟩ := Finset.mem_map.mp hmem
            rw [← hyx, View.write_emb_of_mem _ _ hy]
            exact hw y
          · rw [View.write_of_not_mem _ _ _ hmem]
            by_cases htt : t' = t
            · subst htt
              rw [Function.update_self] at hx
              rcases Finset.mem_union.mp hx with hx | hx
              · exact hg t' x hx
              · exact absurd ((View.mem_setOn _).mpr hx) hmem
            · rw [Function.update_of_ne htt] at hx
              exact hg t' x hx
        · iapply (Transfers.bigSep_univ_in t (fun t' => (countAuth EC (γ t') (code (Function.update Ms t (Ms t ∪ M') t')) : sProp 𝕄)))
          isplitl [Hat]
          · rw [Function.update_self]; iexact Hat
          · iapply (Entails.of_eq (BI.bigSep_congr (s := Finset.univ.erase t) (Φ := fun t => (countAuth EC (γ t) (code (Ms t)) : sProp 𝕄)) fun t' ht' => by
              rw [Function.update_of_ne (Finset.ne_of_mem_erase ht')])) $$ Ha
      imod Hc'
      imodintro
      iexact Hc
    · iexfalso; iapply (shared_out_false EC t); isplitl [Hout] <;> iassumption
  · iintro H; iexact H

/-- Every row's write through, the elements come out, holding `T`'s values on every row written. -/
theorem shared_collect [EC.LandsIn (upEmb : UEmb _ 𝕄)] {γ : Fin n → ℕ} {κ : Name} (hn : 0 < n) {E : Set Name} (hE : κ ∈ E) :
    iprop(inv κ (sharedBody EC c v ax r I T γ) ∗ bigSep Finset.univ fun t => count EC (γ t) (code (Finset.univ : Finset (s₀.rowShape ax).Idx)))
      ⊢ (|={E}=> iprop(∃ g, (v.loc c ↦[I]{fullShare} g)
          ∗ ⌜∀ t x, g ((v.slice (s₀.rowRect ax (r t))).emb x) = T ((v.slice (s₀.rowRect ax (r t))).emb x)⌝) : sProp 𝕄) := by
  have hag : ∀ (Ms : Fin n → Finset (s₀.rowShape ax).Idx) t, iprop(countAuth EC (γ t) (code (Ms t))
      ∗ count EC (γ t) (code (Finset.univ : Finset (s₀.rowShape ax).Idx)))
      ⊢ (iprop(⌜Ms t = Finset.univ⌝ ∗ count EC (γ t) (code (Finset.univ : Finset (s₀.rowShape ax).Idx))) : sProp 𝕄) := fun Ms t => by
    iintro ⟨Ha, Hc⟩
    icombine Ha Hc gives %hM
    isplitr
    · ipureintro; exact (code_inj hM).symm
    · iexact Hc
  iintro ⟨Hinv, Hc⟩
  imod (inv_acc hE) $$ Hinv with ⟨Hb, Hclose⟩
  unfold sharedBody
  icases Hb with (⟨%g, %Ms, Hv, %hg, Ha⟩ | Hout)
  · ihave H := (Transfers.bigSep_sep_in _ _ _) $$ [Ha Hc]; · isplitl [Ha] <;> iassumption
    ihave H' := (show bigSep Finset.univ (fun t => iprop(countAuth EC (γ t) (code (Ms t)) ∗ count EC (γ t) (code (Finset.univ : Finset (s₀.rowShape ax).Idx))))
      ⊢ (bigSep Finset.univ (fun t => iprop(⌜Ms t = Finset.univ⌝ ∗ count EC (γ t) (code (Finset.univ : Finset (s₀.rowShape ax).Idx)))) : sProp 𝕄)
      from BI.bigSep_mono fun t _ => hag Ms t) $$ H
    ihave H'' := (BI.bigSep_pure_sep Finset.univ (fun t => Ms t = Finset.univ) _) $$ H'
    icases H'' with ⟨%hall, Hc⟩
    ihave Hc' := Hclose $$ [Hc]
    · iright; iexact Hc
    imod Hc'
    imodintro
    iexists g
    isplitl [Hv]; · iexact Hv
    ipureintro
    exact fun t x => hg t x (by rw [hall t (Finset.mem_univ t)]; exact Finset.mem_univ x)
  · iexfalso
    ihave H := (Transfers.bigSep_univ_out ⟨0, hn⟩ (fun t => (count EC (γ t) (code (Finset.univ : Finset (s₀.rowShape ax).Idx)) : sProp 𝕄))) $$ Hc
    icases H with ⟨Ht, -⟩
    iapply (shared_out_false EC (⟨0, hn⟩ : Fin n)); isplitl [Hout] <;> iassumption

end Shared

end Cert.Proof.BatchStream

end
-- ==== Proof.Words.lean ====
/-
  THE KERNEL'S WORD ARITHMETIC, in closed form. A list of `v` ids (`v ≤ 512`) is moved in `⌈v / 64⌉` windows of 64; the
  kernel computes that number by a floor division of words written out in full (`nch`). Every loop over windows runs
  that many times (`mainL`), the loop of the rest, which stands behind it, never (`remL`); a window's offsets are
  `64 · (windows before) + 64 · j` in the row buffer and `576 · list + 64 · j` in the lists. From these the four side
  conditions the body assumes of the list lengths follow.
-/
module

public import proofs.«01_k».proof.Proof.Gen.KernelIdeal

@[expose] public section

namespace Cert.Proof.Words

open Idealize.ShloMosaic Cert.KernelIdeal Cert.KernelIdeal.Gen

/-- The number of windows, as the kernel's words compute it: `⌊(v + 63) / 64⌋` by a division towards zero and its
    correction. -/
def nch (v : BitVec 32) : BitVec 32 :=
  Scalar.select
    (Scalar.andi
      (Scalar.cmpi .ne
        (Scalar.subi (Scalar.extui (Scalar.cmpi .sgt (Scalar.addi v 63#32) 0#32)) (Scalar.extui (Scalar.cmpi .slt (Scalar.addi v 63#32) 0#32)))
        (Scalar.subi (Scalar.extui (Scalar.cmpi .sgt 64#32 0#32)) (Scalar.extui (Scalar.cmpi .slt 64#32 0#32))))
      (Scalar.cmpi .ne (Scalar.remsi (Scalar.addi v 63#32) 64#32) 0#32))
    (Scalar.subi (Scalar.divsi (Scalar.addi v 63#32) 64#32) 1#32)
    (Scalar.divsi (Scalar.addi v 63#32) 64#32)

/-- The loop over the windows, -/
@[reducible] def mainL (v : BitVec 32) : Scf.Loop 32 :=
  ⟨0#32, Scalar.addi 0#32 (Scalar.muli (Scalar.divsi (Scalar.subi (nch v) 0#32) 1#32) 1#32), 1#32⟩
/-- and the loop after it. -/
@[reducible] def remL (v : BitVec 32) : Scf.Loop 32 :=
  ⟨Scalar.addi 0#32 (Scalar.muli (Scalar.divsi (Scalar.subi (nch v) 0#32) 1#32) 1#32), Scalar.addi 0#32 (Scalar.subi (nch v) 0#32), 1#32⟩

theorem words_fin : ∀ k : Fin 513, (nch (BitVec.ofNat 32 k)).toNat = (k.val + 63) / 64 ∧ (mainL (BitVec.ofNat 32 k)).trips = (k.val + 63) / 64
    ∧ (mainL (BitVec.ofNat 32 k)).OK ∧ (remL (BitVec.ofNat 32 k)).trips = 0 ∧ (remL (BitVec.ofNat 32 k)).OK := by
  decide +kernel

section Closed
variable {v : BitVec 32} (hv : v.toNat ≤ 512)
include hv

theorem words : (nch v).toNat = (v.toNat + 63) / 64 ∧ (mainL v).trips = (v.toNat + 63) / 64
    ∧ (mainL v).OK ∧ (remL v).trips = 0 ∧ (remL v).OK := by
  have h := words_fin ⟨v.toNat, by omega⟩
  simpa using h

theorem nch_eq : (nch v).toNat = (v.toNat + 63) / 64 := (words hv).1
theorem mainL_trips : (mainL v).trips = (v.toNat + 63) / 64 := (words hv).2.1
theorem mainL_ok : (mainL v).OK := (words hv).2.2.1
theorem remL_trips : (remL v).trips = 0 := (words hv).2.2.2.1
theorem remL_ok : (remL v).OK := (words hv).2.2.2.2

end Closed

/-- A window's offsets in the row buffer, from the word of its list's first row, -/
def rowOff (b : BitVec 32) (t : ℕ) : Fin 2 → ℕ := ![(Scalar.addi b (Scalar.muli (Scf.iv 0#32 1#32 t) 64#32)).toNat, 0]
/-- and in the lists. -/
def listOff (b : BitVec 32) (t : ℕ) : Fin 1 → ℕ := ![(Scalar.addi b (Scalar.muli (Scf.iv 0#32 1#32 t) 64#32)).toNat]

theorem winWord (b : BitVec 32) (t : ℕ) (hb : b.toNat ≤ 4096) (ht : t ≤ 64) :
    (Scalar.addi b (Scalar.muli (Scf.iv 0#32 1#32 t) 64#32)).toNat = b.toNat + 64 * t := by
  unfold Scalar.addi Scalar.muli IntOp.addi IntOp.muli Scf.iv
  simp only [BitVec.toNat_add, BitVec.toNat_mul, BitVec.toNat_ofNat]
  omega

theorem rowOff_eq (b : BitVec 32) (t : ℕ) (hb : b.toNat ≤ 4096) (ht : t ≤ 64) : rowOff b t = ![b.toNat + 64 * t, 0] := by
  rw [rowOff, winWord b t hb ht]
theorem listOff_eq (b : BitVec 32) (t : ℕ) (hb : b.toNat ≤ 4096) (ht : t ≤ 64) : listOff b t = ![b.toNat + 64 * t] := by
  rw [listOff, winWord b t hb ht]

/-- The first row of each list's windows in the row buffer, as the kernel computes it. -/
def base1 (a : BitVec 32) : BitVec 32 := Scalar.muli (nch a) 64#32
def base2 (a b : BitVec 32) : BitVec 32 := Scalar.muli (Scalar.addi (nch a) (nch b)) 64#32
def base3 (a b c : BitVec 32) : BitVec 32 := Scalar.muli (Scalar.addi (Scalar.addi (nch a) (nch b)) (nch c)) 64#32

theorem base1_eq {a : BitVec 32} (ha : a.toNat ≤ 512) : (base1 a).toNat = 64 * ((a.toNat + 63) / 64) := by
  unfold base1 Scalar.muli IntOp.muli
  simp only [BitVec.toNat_mul, BitVec.toNat_ofNat, nch_eq ha]
  omega
theorem base2_eq {a b : BitVec 32} (ha : a.toNat ≤ 512) (hb : b.toNat ≤ 512) :
    (base2 a b).toNat = 64 * ((a.toNat + 63) / 64 + (b.toNat + 63) / 64) := by
  unfold base2 Scalar.muli Scalar.addi IntOp.muli IntOp.addi
  simp only [BitVec.toNat_mul, BitVec.toNat_add, BitVec.toNat_ofNat, nch_eq ha, nch_eq hb]
  omega
theorem base3_eq {a b c : BitVec 32} (ha : a.toNat ≤ 512) (hb : b.toNat ≤ 512) (hc : c.toNat ≤ 512) :
    (base3 a b c).toNat = 64 * ((a.toNat + 63) / 64 + (b.toNat + 63) / 64 + (c.toNat + 63) / 64) := by
  unfold base3 Scalar.muli Scalar.addi IntOp.muli IntOp.addi
  simp only [BitVec.toNat_mul, BitVec.toNat_add, BitVec.toNat_ofNat, nch_eq ha, nch_eq hb, nch_eq hc]
  omega

/-- The word of the place `c` past list `b`'s `v` ids. -/
theorem padWord (b v : BitVec 32) (r : Fin 4) (hb : b.toNat ≤ 1728) (hv : v.toNat ≤ 512) :
    (Scalar.addi (Scalar.addi b v) (BitVec.ofNat 32 (16 * r.val))).toNat = b.toNat + v.toNat + 16 * r.val := by
  unfold Scalar.addi IntOp.addi
  simp only [BitVec.toNat_add, BitVec.toNat_ofNat]
  omega

theorem padOff_inb (b v : BitVec 32) (r : Fin 4) (hb : b.toNat ≤ 1728) (hv : v.toNat ≤ 512) (a : Fin 1) :
    (![(Scalar.addi (Scalar.addi b v) (BitVec.ofNat 32 (16 * r.val))).toNat] : Fin 1 → ℕ) a + S16.size a ≤ S2304.size a := by
  obtain rfl : a = 0 := Subsingleton.elim _ _
  show (Scalar.addi (Scalar.addi b v) (BitVec.ofNat 32 (16 * r.val))).toNat + 16 ≤ 2304
  rw [padWord b v r hb hv]; omega

theorem rowOff_inb (b v : BitVec 32) (hv : v.toNat ≤ 512) (hb : b.toNat + 64 * ((v.toNat + 63) / 64) ≤ 768) (t : Fin (mainL v).trips) (a : Fin 2) :
    rowOff b t a + S64x128.size a ≤ S768x128.size a := by
  have ht : t.val < (v.toNat + 63) / 64 := lt_of_lt_of_eq t.isLt (mainL_trips hv)
  rw [rowOff_eq b t (by omega) (by omega)]
  fin_cases a
  · show b.toNat + 64 * t.val + 64 ≤ 768; omega
  · show 0 + 128 ≤ 128; omega

theorem listOff_inb (b v : BitVec 32) (hv : v.toNat ≤ 512) (hb : b.toNat ≤ 1728) (t : Fin (mainL v).trips) (a : Fin 1) :
    listOff b t a + S64.size a ≤ S2304.size a := by
  have ht : t.val < (v.toNat + 63) / 64 := lt_of_lt_of_eq t.isLt (mainL_trips hv)
  rw [listOff_eq b t (by omega) (by omega)]
  obtain rfl : a = 0 := Subsingleton.elim _ _
  show b.toNat + 64 * t.val + 64 ≤ 2304; omega

/-- A loop over windows is checked by its bounds, and the loop after it by having no trip. -/
theorem chkLoops {v : BitVec 32} (hv : v.toNat ≤ 512) (b l : BitVec 32) (hb : b.toNat + 64 * ((v.toNat + 63) / 64) ≤ 768) (hl : l.toNat ≤ 1728)
    {o₁ : Fin (mainL v).trips → Fin 2 → ℕ} {o₂ : Fin (mainL v).trips → Fin 1 → ℕ} {o₃ : Fin (remL v).trips → Fin 2 → ℕ} {o₄ : Fin (remL v).trips → Fin 1 → ℕ}
    (h₁ : ∀ t, o₁ t = rowOff b t) (h₂ : ∀ t, o₂ t = listOff l t) {Q : Prop} (q : Q) :
    (mainL v).OK ∧ (∀ t a, o₁ t a + S64x128.size a ≤ S768x128.size a) ∧ (∀ t a, o₂ t a + S64.size a ≤ S2304.size a) ∧
    (remL v).OK ∧ (∀ t a, o₃ t a + S64x128.size a ≤ S768x128.size a) ∧ (∀ t a, o₄ t a + S64.size a ≤ S2304.size a) ∧ Q :=
  ⟨mainL_ok hv, fun t a => by rw [h₁]; exact rowOff_inb b v hv hb t a, fun t a => by rw [h₂]; exact listOff_inb l v hv hl t a,
    remL_ok hv, fun t => absurd (lt_of_lt_of_eq t.isLt (remL_trips hv)) (Nat.not_lt_zero _),
    fun t => absurd (lt_of_lt_of_eq t.isLt (remL_trips hv)) (Nat.not_lt_zero _), q⟩

theorem chkLoops' {v : BitVec 32} (hv : v.toNat ≤ 512) (b l : BitVec 32) (hb : b.toNat + 64 * ((v.toNat + 63) / 64) ≤ 768) (hl : l.toNat ≤ 1728)
    {o₁ : Fin (mainL v).trips → Fin 2 → ℕ} {o₂ : Fin (mainL v).trips → Fin 1 → ℕ} {o₃ : Fin (remL v).trips → Fin 2 → ℕ} {o₄ : Fin (remL v).trips → Fin 1 → ℕ}
    (h₁ : ∀ t, o₁ t = rowOff b t) (h₂ : ∀ t, o₂ t = listOff l t) :
    (mainL v).OK ∧ (∀ t a, o₁ t a + S64x128.size a ≤ S768x128.size a) ∧ (∀ t a, o₂ t a + S64.size a ≤ S2304.size a) ∧
    (remL v).OK ∧ (∀ t a, o₃ t a + S64x128.size a ≤ S768x128.size a) ∧ (∀ t a, o₄ t a + S64.size a ≤ S2304.size a) :=
  let h := chkLoops (o₃ := o₃) (o₄ := o₄) hv b l hb hl h₁ h₂ trivial
  ⟨h.1, h.2.1, h.2.2.1, h.2.2.2.1, h.2.2.2.2.1, h.2.2.2.2.2.1⟩

theorem chk4 {a : BitVec 32} (ha : a.toNat ≤ 512) : k0_chk4 a :=
  ⟨fun r x => padOff_inb 0#32 a r (by decide) ha x,
    chkLoops ha 0#32 0#32 (by show 0 + _ ≤ _; omega) (by decide) (fun _ => rfl) (fun _ => rfl) <|
    chkLoops ha 0#32 0#32 (by show 0 + _ ≤ _; omega) (by decide) (fun _ => rfl) (fun _ => rfl) <|
    chkLoops ha 0#32 0#32 (by show 0 + _ ≤ _; omega) (by decide) (fun _ => rfl) (fun _ => rfl) <|
    chkLoops' ha 0#32 0#32 (by show 0 + _ ≤ _; omega) (by decide) (fun _ => rfl) (fun _ => rfl)⟩

theorem chk6 {a b : BitVec 32} (h : a.toNat + b.toNat ≤ 512) : k0_chk6 a b :=
  have ha : a.toNat ≤ 512 := by omega
  have hb : b.toNat ≤ 512 := by omega
  have hs : (base1 a).toNat + 64 * ((b.toNat + 63) / 64) ≤ 768 := by rw [base1_eq ha]; omega
  ⟨fun r x => padOff_inb 576#32 b r (by decide) hb x,
    chkLoops hb (base1 a) 576#32 hs (by decide) (fun _ => rfl) (fun _ => rfl) <|
    chkLoops hb (base1 a) 576#32 hs (by decide) (fun _ => rfl) (fun _ => rfl) <|
    chkLoops hb (base1 a) 576#32 hs (by decide) (fun _ => rfl) (fun _ => rfl) <|
    chkLoops' hb (base1 a) 576#32 hs (by decide) (fun _ => rfl) (fun _ => rfl)⟩

theorem chk8 {a b c : BitVec 32} (h : a.toNat + b.toNat + c.toNat ≤ 512) : k0_chk8 a b c :=
  have hc : c.toNat ≤ 512 := by omega
  have hs : (base2 a b).toNat + 64 * ((c.toNat + 63) / 64) ≤ 768 := by rw [base2_eq (by omega) (by omega)]; omega
  ⟨fun r x => padOff_inb 1152#32 c r (by decide) hc x,
    chkLoops hc (base2 a b) 1152#32 hs (by decide) (fun _ => rfl) (fun _ => rfl) <|
    chkLoops hc (base2 a b) 1152#32 hs (by decide) (fun _ => rfl) (fun _ => rfl) <|
    chkLoops hc (base2 a b) 1152#32 hs (by decide) (fun _ => rfl) (fun _ => rfl) <|
    chkLoops' hc (base2 a b) 1152#32 hs (by decide) (fun _ => rfl) (fun _ => rfl)⟩

theorem chk10 {a b c d : BitVec 32} (h : a.toNat + b.toNat + c.toNat + d.toNat ≤ 512) : k0_chk10 a b c d :=
  have hd : d.toNat ≤ 512 := by omega
  have hs : (base3 a b c).toNat + 64 * ((d.toNat + 63) / 64) ≤ 768 := by rw [base3_eq (by omega) (by omega) (by omega)]; omega
  ⟨fun r x => padOff_inb 1728#32 d r (by decide) hd x,
    chkLoops hd (base3 a b c) 1728#32 hs (by decide) (fun _ => rfl) (fun _ => rfl) <|
    chkLoops hd (base3 a b c) 1728#32 hs (by decide) (fun _ => rfl) (fun _ => rfl) <|
    chkLoops hd (base3 a b c) 1728#32 hs (by decide) (fun _ => rfl) (fun _ => rfl) <|
    chkLoops' hd (base3 a b c) 1728#32 hs (by decide) (fun _ => rfl) (fun _ => rfl)⟩

end Cert.Proof.Words
-- ==== Proof.Group.lean ====
/-
  THE GROUPING, as mathematics. A tile's 512 rows carry ids `c r < 4`; the kernel visits them sixteen at a time and builds,
  for every id `k`, the list of the rows that carry it: row `r` goes to place `576 · c r + rank r`, its rank the number of
  earlier rows of the same id (`Nat.count`). `scan_count` gives the rank within the sixteen, the running counts the rest.
  Here: the scatter into tile memory read at one place (`storeIdx_of_none`, `storeIdx_of_one`), one step of the loop
  (`step_cnt`, `step_list`), the padding of the four lists (`Lst`, `pad_step`), and what the finished lists hold
  (`Lst.window`, `Lst.covers`).
-/
module

public import proofs.«01_k».proof.Proof.Gen.KernelIdeal.Skeleton
public import Mathlib.Data.Nat.Count

@[expose] public section

namespace Cert.Proof.Group

open Idealize.ShloMosaic Cert.KernelIdeal Cert.KernelIdeal.Gen

/-! ## The scatter into tile memory, at one place -/

section Store

theorem foldl_none {α β : Type} (p : α → Prop) [DecidablePred p] (v : α → β) : ∀ (l : List α) (b : β), (∀ k ∈ l, ¬ p k) →
    l.foldl (fun g k => if p k then v k else g) b = b
  | [], _, _ => rfl
  | k :: l, b, h => by
    rw [List.foldl_cons, if_neg (h k (by simp))]
    exact foldl_none p v l b fun k hk => h k (by simp [hk])

theorem foldl_one {α β : Type} (p : α → Prop) [DecidablePred p] (v : α → β) (k : α) (hp : p k) : ∀ (l : List α) (b : β), k ∈ l →
    (∀ k' ∈ l, p k' → k' = k) → l.foldl (fun g k => if p k then v k else g) b = v k
  | [], _, hk, _ => by simp at hk
  | k' :: l, b, hk, hu => by
    rw [List.foldl_cons]
    by_cases hl : k ∈ l
    · exact foldl_one p v k hp l _ hl fun k'' h'' => hu k'' (by simp [h''])
    · obtain rfl : k = k' := by simpa [hl] using hk
      rw [if_pos hp]
      exact foldl_none p v l _ fun k'' h'' hp'' => hl (hu k'' (by simp [h'']) hp'' ▸ h'')

variable {F : FTy → Type} [FloatOps F] {s : Shape} {e : EltTy} {d : Fin 1 → ℕ}
variable (f : Vec F s e) (idxs : Fin s.rank → IVec ⟨1, d⟩ 32) (v : Vec F ⟨1, d⟩ e) (mask : IVec ⟨1, d⟩ 1)
  (h : ∀ a x, (idxs a x).toNat < s.size a)

/-- The lanes that name place `j`. -/
def Names (j : s.Idx) (x : (⟨1, d⟩ : Shape).Idx) : Prop := mask x = 1 ∧ ∀ a, (j a).val = (idxs a x).toNat

instance (j : s.Idx) : DecidablePred (Names idxs mask j) := fun _ => inferInstanceAs (Decidable (_ ∧ _))

theorem storeIdx_fold (j : s.Idx) : storeIdx f idxs v mask false h j
    = (List.finRange (d 0)).foldl (fun g k => if Names idxs mask j (Shape.ofLane k) then v (Shape.ofLane k) else g) (f j) := by
  unfold storeIdx
  generalize List.finRange (d 0) = l
  induction l generalizing f with
  | nil => rfl
  | cons k l ih =>
    rw [List.foldl_cons, List.foldl_cons, ih]
    congr 1
    by_cases hm : mask (Shape.ofLane k) = 1
    · simp only [hm, if_true]
      by_cases hn : ∀ a, (j a).val = (idxs a (Shape.ofLane k)).toNat
      · rw [if_pos (show Names idxs mask j (Shape.ofLane k) from ⟨hm, hn⟩)]
        exact if_pos hn
      · rw [if_neg (show ¬ Names idxs mask j (Shape.ofLane k) from fun h => hn h.2)]
        exact if_neg hn
    · rw [if_neg (show ¬ Names idxs mask j (Shape.ofLane k) from fun h => hm h.1)]
      simp only [hm, if_false]

theorem storeIdx_of_none {j : s.Idx} (hn : ∀ x, ¬ Names idxs mask j x) : storeIdx f idxs v mask false h j = f j := by
  rw [storeIdx_fold]
  exact foldl_none _ _ _ _ fun k _ => hn _

theorem ofLane_self (x : (⟨1, d⟩ : Shape).Idx) : Shape.ofLane (x 0) = x := by
  funext a
  obtain rfl : a = 0 := Fin.eq_zero a
  rfl

theorem storeIdx_of_one {j : s.Idx} (x : (⟨1, d⟩ : Shape).Idx) (hx : Names idxs mask j x) (hu : ∀ x', Names idxs mask j x' → x' = x) :
    storeIdx f idxs v mask false h j = v x := by
  rw [storeIdx_fold]
  have := foldl_one (fun k : Fin (d 0) => Names idxs mask j (Shape.ofLane k)) (fun k => v (Shape.ofLane k)) (x 0)
    (by rw [ofLane_self]; exact hx) (List.finRange (d 0)) (f j) (List.mem_finRange _)
    (fun k' _ hk' => by have := hu _ hk'; rw [← this]; rfl)
  rw [this, ofLane_self]

end Store

/-! ## Ranks -/

theorem pos_eq (x : S16.Idx) : (S16.rowMajor x).val = (x 0).val := Shape.rowMajor_val_one x

theorem lane_ext {x y : S16.Idx} (h : (x 0).val = (y 0).val) : x = y := by
  funext a
  obtain rfl : a = 0 := Fin.eq_zero a
  exact Fin.ext h

variable (c : ℕ → ℕ) (base : ℕ)

/-- How many of the first `n` rows carry id `k`. -/
abbrev tot (n k : ℕ) : ℕ := Nat.count (fun s => c s = k) n
/-- How many rows before `r` carry `r`'s id. -/
abbrev rank (r : ℕ) : ℕ := tot c r (c r)

theorem tot_le (n k : ℕ) : tot c n k ≤ n := Nat.count_le _
theorem rank_le (r : ℕ) : rank c r ≤ r := Nat.count_le _
theorem rank_lt_tot {r n : ℕ} (h : r < n) : rank c r < tot c n (c r) :=
  Nat.count_strict_mono (p := fun s => c s = c r) rfl h
theorem rank_inj {r r' : ℕ} (hc : c r = c r') (h : rank c r = rank c r') : r = r' := by
  unfold rank at h; rw [hc] at h
  exact Nat.count_injective (p := fun s => c s = c r') hc rfl h

/-- Every rank below the number of rows with an id is some row's. -/
theorem exists_rank (k m : ℕ) : ∀ n, m < tot c n k → ∃ r < n, c r = k ∧ tot c r k = m
  | 0, h => absurd h (by simp [tot])
  | n + 1, h => by
    by_cases hlt : m < tot c n k
    · obtain ⟨r, hr, h⟩ := exists_rank k m n hlt
      exact ⟨r, by omega, h⟩
    · unfold tot at h hlt
      rw [Nat.count_succ] at h
      by_cases hk : c n = k
      · rw [if_pos hk] at h
        exact ⟨n, by omega, hk, by unfold tot; omega⟩
      · rw [if_neg hk] at h; omega

/-- The place of a row. -/
abbrev place (r : ℕ) : ℕ := 576 * c r + rank c r

theorem place_inj {r r' : ℕ} (hr : r < 512) (hr' : r' < 512) (h : place c r = place c r') : r = r' := by
  have h1 := rank_le c r
  have h2 := rank_le c r'
  unfold place at h
  have hc : c r = c r' := by omega
  exact rank_inj c hc (by rw [hc] at h; omega)

/-! ## The running counts and the lists -/

/-- After `n` rows the count of every id, -/
def Cnt (n : ℕ) (f : S16.Idx → BitVec 32) : Prop := ∀ j, f j = BitVec.ofNat 32 (tot c n (j 0).val)
/-- and every one of them at its place. -/
def Grp (n : ℕ) (L : S2304.Idx → BitVec 32) : Prop := ∀ r < n, ∀ j, (j 0).val = place c r → L j = BitVec.ofNat 32 (base + r)

theorem Cnt.zero {f : S16.Idx → BitVec 32} (h : ∀ j, f j = 0#32) : Cnt c 0 f := fun j => by rw [h]; simp [tot]
theorem Grp.zero (L : S2304.Idx → BitVec 32) : Grp c base 0 L := fun _ h => absurd h (Nat.not_lt_zero _)

section Step

variable {F : FTy → Type} [FloatOps F] (g : ℕ) (hg : g < 32) (hc : ∀ r, c r < 4)
variable (v : Vec F S16 .i32) (hv : ∀ x : S16.Idx, v x = BitVec.ofNat 32 (c (16 * g + (x 0).val)))
include hc hv

theorem v_toNat (x : S16.Idx) : BitVec.toNat (v x) = c (16 * g + (x 0).val) := by
  rw [hv x, BitVec.toNat_ofNat, Nat.mod_eq_of_lt]
  have := hc (16 * g + (x 0).val); omega

theorem v_eq_iff (x y : S16.Idx) : v x = v y ↔ c (16 * g + (x 0).val) = c (16 * g + (y 0).val) := by
  constructor
  · intro h; rw [← v_toNat c g hc v hv x, h, v_toNat c g hc v hv y]
  · intro h; rw [hv x, hv y, h]

theorem chk1 : k0_chk1 v := by
  have h : ∀ a x, ((![v] : Fin 1 → IVec S16 32) a x).toNat < S16.size a := fun a x => by
    obtain rfl : a = 0 := Fin.eq_zero a
    show BitVec.toNat (v x) < 16
    rw [v_toNat c g hc v hv x]; have := hc (16 * g + (x 0).val); omega
  exact ⟨h, h⟩

/-- The number of lanes up to `x` with `x`'s id. -/
theorem card_lanes (x : S16.Idx) :
    (Finset.univ.filter fun j : S16.Idx => (S16.rowMajor j).val ≤ (S16.rowMajor x).val ∧ (k0_pay5 : IVec S16 1) j = 1 ∧ v j = v x).card
      = Nat.count (fun k => c (16 * g + k) = c (16 * g + (x 0).val)) ((x 0).val + 1) := by
  rw [Nat.count_eq_card_filter_range]
  refine Finset.card_bij (fun j _ => (j 0).val) ?_ ?_ ?_
  · intro j hj
    simp only [Finset.mem_filter, Finset.mem_univ, true_and, Finset.mem_range, pos_eq] at hj ⊢
    exact ⟨by omega, (v_eq_iff c g hc v hv _ _).mp hj.2.2⟩
  · intro j _ j' _ h
    exact lane_ext h
  · intro k hk
    simp only [Finset.mem_filter, Finset.mem_range] at hk
    have hx : (x 0).val < 16 := (x 0).isLt
    have h16 : k < 16 := by omega
    refine ⟨Shape.ofLane (d := ![16]) ⟨k, h16⟩, ?_, rfl⟩
    simp only [Finset.mem_filter, Finset.mem_univ, true_and, pos_eq]
    refine ⟨?_, rfl, (v_eq_iff c g hc v hv _ _).mpr hk.2⟩
    show k ≤ _; omega

omit hc hv [FloatOps F] in
theorem basis : extractAt ![0] (extractStridedSlice S1 ![0] ((scanCount k0_pay3 k0_pay2).2 : IVec S16 32) slices_S16_o0_S1) inpos_S1_p0 = 1#32 := by
  show BitVec.ofNat 32 _ = 1#32
  congr 1

/-- A lane's rank among all rows so far: the running count of its id and its rank among the sixteen. -/
theorem pay7_eq {f : Vec F S16 .i32} (hf : Cnt c (16 * g) f) (h1 : ∀ a x, ((![v] : Fin 1 → IVec S16 32) a x).toNat < S16.size a) (x : S16.Idx) :
    (k0_pay7 v (loadIdx f ![v] h1) : IVec S16 32) x = BitVec.ofNat 32 (rank c (16 * g + (x 0).val)) := by
  have e : (k0_pay7 v (loadIdx f ![v] h1) : IVec S16 32) x
      = loadIdx f ![v] h1 x + (BitVec.ofNat 32 (Finset.univ.filter fun j : S16.Idx => (S16.rowMajor j).val ≤ (S16.rowMajor x).val ∧ (k0_pay5 : IVec S16 1) j = 1 ∧ v j = v x).card
        - extractAt ![0] (extractStridedSlice S1 ![0] ((scanCount k0_pay3 k0_pay2).2 : IVec S16 32) slices_S16_o0_S1) inpos_S1_p0) := rfl
  have e1 : loadIdx f ![v] h1 x = BitVec.ofNat 32 (tot c (16 * g) (c (16 * g + (x 0).val))) := by
    show f (idxAt ![v] h1 x) = _
    rw [hf]
    congr 2
    exact v_toNat c g hc v hv x
  rw [e, e1, basis, card_lanes c g hc v hv x, Nat.count_succ, if_pos rfl]
  have e2 : rank c (16 * g + (x 0).val) = tot c (16 * g) (c (16 * g + (x 0).val)) + Nat.count (fun k => c (16 * g + k) = c (16 * g + (x 0).val)) (x 0).val :=
    Nat.count_add _ _ _
  rw [e2]
  generalize tot c (16 * g) (c (16 * g + (x 0).val)) = p
  generalize Nat.count (fun k => c (16 * g + k) = c (16 * g + (x 0).val)) (x 0).val = q
  rw [BitVec.ofNat_add, BitVec.ofNat_add]
  show _ + (BitVec.ofNat 32 q + 1#32 - 1#32) = _
  rw [BitVec.add_sub_cancel]

include hg in
/-- The place a lane's row is written to. -/
theorem pay8_toNat {f : Vec F S16 .i32} (hf : Cnt c (16 * g) f) (h1 : ∀ a x, ((![v] : Fin 1 → IVec S16 32) a x).toNat < S16.size a) (x : S16.Idx) :
    ((k0_pay8 v (loadIdx f ![v] h1) : IVec S16 32) x).toNat = place c (16 * g + (x 0).val) := by
  have e : (k0_pay8 v (loadIdx f ![v] h1) : IVec S16 32) x = v x * 576#32 + (k0_pay7 v (loadIdx f ![v] h1) : IVec S16 32) x := rfl
  rw [e, pay7_eq c g hc v hv hf h1 x, hv x]
  have hx : (x 0).val < 16 := (x 0).isLt
  have := rank_le c (16 * g + (x 0).val)
  have := hc (16 * g + (x 0).val)
  rw [BitVec.toNat_add, BitVec.toNat_mul]
  simp only [BitVec.toNat_ofNat]
  unfold place
  omega

include hg in
theorem chk2 {f : Vec F S16 .i32} (hf : Cnt c (16 * g) f) (h1 : ∀ a x, ((![v] : Fin 1 → IVec S16 32) a x).toNat < S16.size a) :
    k0_chk2 (k0_pay8 v (loadIdx f ![v] h1)) := by
  intro a x
  obtain rfl : a = 0 := Fin.eq_zero a
  show ((k0_pay8 v (loadIdx f ![v] h1) : IVec S16 32) x).toNat < 2304
  rw [pay8_toNat c g hg hc v hv hf h1 x]
  have hx : (x 0).val < 16 := (x 0).isLt
  have := rank_le c (16 * g + (x 0).val)
  have := hc (16 * g + (x 0).val)
  unfold place; omega

/-- The mask marks a lane with no later lane of its id. -/
theorem pay6_iff (x : S16.Idx) : (k0_pay6 v : IVec S16 1) x = 1 ↔ ∀ y : S16.Idx, (x 0).val < (y 0).val → c (16 * g + (y 0).val) ≠ c (16 * g + (x 0).val) := by
  unfold k0_pay6 scanCount
  dsimp only
  constructor
  · intro h y hy he
    split at h
    · rename_i hh
      exact hh.2 y (by rw [pos_eq, pos_eq]; exact hy) ⟨rfl, (v_eq_iff c g hc v hv _ _).mpr he⟩
    · exact absurd h (by decide)
  · intro h
    rw [if_pos]
    exact ⟨rfl, fun j hj hh => h j (by rwa [pos_eq, pos_eq] at hj) ((v_eq_iff c g hc v hv _ _).mp hh.2)⟩

/-- One step's counts. -/
theorem step_cnt {f : Vec F S16 .i32} (hf : Cnt c (16 * g) f) (h1 h3 : ∀ a x, ((![v] : Fin 1 → IVec S16 32) a x).toNat < S16.size a) :
    Cnt c (16 * (g + 1)) (storeIdx f ![v] (k0_pay9 v (loadIdx f ![v] h1) : IVec S16 32) (k0_pay6 v) false h3) := by
  intro j
  have hnames : ∀ x, Names (s := S16) (d := ![16]) ![v] (k0_pay6 v) j x ↔ (j 0).val = c (16 * g + (x 0).val) ∧ (k0_pay6 v : IVec S16 1) x = 1 := by
    intro x
    constructor
    · rintro ⟨hm, hx⟩
      exact ⟨(hx 0).trans (v_toNat c g hc v hv x), hm⟩
    · rintro ⟨hj, hm⟩
      refine ⟨hm, fun a => ?_⟩
      obtain rfl : a = 0 := Fin.eq_zero a
      exact hj.trans (v_toNat c g hc v hv x).symm
  have hadd : tot c (16 * (g + 1)) (j 0).val = tot c (16 * g) (j 0).val + Nat.count (fun k => c (16 * g + k) = (j 0).val) 16 := by
    rw [Nat.mul_add]; exact Nat.count_add _ _ _
  by_cases hex : ∃ k < 16, c (16 * g + k) = (j 0).val
  · -- the last lane of this id
    obtain ⟨k, ⟨hk, hck⟩, hmax⟩ : ∃ k, (k < 16 ∧ c (16 * g + k) = (j 0).val) ∧ ∀ k', k' < 16 → c (16 * g + k') = (j 0).val → k' ≤ k := by
      obtain ⟨k, hk, hmax⟩ := Finset.exists_max_image ((Finset.range 16).filter fun k => c (16 * g + k) = (j 0).val) id
        (by obtain ⟨k, hk, h⟩ := hex; exact ⟨k, by simp [hk, h]⟩)
      simp only [Finset.mem_filter, Finset.mem_range] at hk hmax
      exact ⟨k, hk, fun k' h1 h2 => hmax k' ⟨h1, h2⟩⟩
    have hx : Names (s := S16) (d := ![16]) ![v] (k0_pay6 v) j (Shape.ofLane (d := ![16]) ⟨k, hk⟩) := by
      refine (hnames _).mpr ⟨hck.symm, (pay6_iff c g hc v hv _).mpr fun y hy he => ?_⟩
      have hy16 : (y 0).val < 16 := (y 0).isLt
      exact absurd (hmax (y 0).val hy16 (he.trans hck)) (Nat.not_le.mpr hy)
    rw [storeIdx_of_one f ![v] _ _ h3 _ hx (fun x' hx' => ?_)]
    · show (k0_pay7 v (loadIdx f ![v] h1) : IVec S16 32) _ + 1#32 = _
      rw [pay7_eq c g hc v hv hf h1, show (1#32 : BitVec 32) = BitVec.ofNat 32 1 from rfl, ← BitVec.ofNat_add]
      congr 1
      show Nat.count (fun s => c s = c (16 * g + k)) (16 * g + k) + 1 = _
      rw [hck, hadd]
      have : Nat.count (fun k => c (16 * g + k) = (j 0).val) 16 = Nat.count (fun k => c (16 * g + k) = (j 0).val) k + 1 := by
        obtain ⟨t, ht⟩ : ∃ t, 16 = k + 1 + t := ⟨16 - (k + 1), by omega⟩
        rw [show Nat.count (fun k => c (16 * g + k) = (j 0).val) 16 = Nat.count (fun k => c (16 * g + k) = (j 0).val) (k + 1 + t) from congrArg _ ht,
          Nat.count_add, Nat.count_succ, if_pos hck]
        rw [Nat.add_eq_left, Nat.count_iff_forall_not]
        intro n hn h
        have := hmax (k + 1 + n) (by omega) h
        omega
      rw [this, Nat.count_add]
      rfl
    · obtain ⟨hj', hm'⟩ := (hnames x').mp hx'
      have hx16 : (x' 0).val < 16 := (x' 0).isLt
      have h1' := hmax (x' 0).val hx16 hj'.symm
      refine lane_ext (le_antisymm h1' ?_)
      by_contra hlt
      exact (pay6_iff c g hc v hv x').mp hm' (Shape.ofLane (d := ![16]) ⟨k, hk⟩) (Nat.not_le.mp hlt) (hck.trans hj')
  · rw [storeIdx_of_none f ![v] _ _ h3 (fun x hx => hex ⟨(x 0).val, (x 0).isLt, ((hnames x).mp hx).1.symm⟩), hf j, hadd]
    congr 1
    rw [Nat.left_eq_add, Nat.count_iff_forall_not]
    exact fun n hn h => hex ⟨n, hn, h⟩

include hg in
/-- One step's lists. -/
theorem step_list {f : Vec F S16 .i32} (hf : Cnt c (16 * g) f) {L : Vec F S2304 .i32} (hL : Grp c base (16 * g) L)
    (w : IVec S16 32) (hw : ∀ x, w x = BitVec.ofNat 32 (base + (16 * g + (x 0).val)))
    (h1 : ∀ a x, ((![v] : Fin 1 → IVec S16 32) a x).toNat < S16.size a)
    (h2 : ∀ a x, ((![k0_pay8 v (loadIdx f ![v] h1)] : Fin 1 → IVec S16 32) a x).toNat < S2304.size a) :
    Grp c base (16 * (g + 1)) (storeIdx L ![k0_pay8 v (loadIdx f ![v] h1)] (w : Vec F S16 .i32) (fun _ => 1#1) false h2) := by
  intro r hr j hj
  have hnames : ∀ x, Names (s := S2304) (d := ![16]) ![k0_pay8 v (loadIdx f ![v] h1)] (fun _ => 1#1) j x ↔ (j 0).val = place c (16 * g + (x 0).val) := by
    intro x
    constructor
    · rintro ⟨-, hx⟩
      exact (hx 0).trans (pay8_toNat c g hg hc v hv hf h1 x)
    · intro hj
      refine ⟨rfl, fun a => ?_⟩
      obtain rfl : a = 0 := Fin.eq_zero a
      exact hj.trans (pay8_toNat c g hg hc v hv hf h1 x).symm
  by_cases hlt : r < 16 * g
  · rw [storeIdx_of_none, hL r hlt j hj]
    intro x hx
    have hx16 : (x 0).val < 16 := (x 0).isLt
    have := place_inj c (by omega) (by omega) (hj.symm.trans ((hnames x).mp hx))
    omega
  · obtain ⟨k, rfl⟩ := Nat.exists_eq_add_of_le (Nat.not_lt.mp hlt)
    have hk : k < 16 := by omega
    rw [storeIdx_of_one _ _ _ _ _ (Shape.ofLane (d := ![16]) ⟨k, hk⟩) ((hnames _).mpr hj) (fun x' hx' => ?_)]
    · exact hw _
    · have hx16 : (x' 0).val < 16 := (x' 0).isLt
      have := place_inj c (by omega) (by omega) (hj.symm.trans ((hnames x').mp hx'))
      refine lane_ext (show (x' 0).val = k by omega)

end Step

/-! ## The padding -/

/-- A word that names a row of id `k`, if there is one. -/
def Good (k : ℕ) (w : BitVec 32) : Prop := 0 < tot c 512 k → ∃ r < 512, c r = k ∧ w = BitVec.ofNat 32 (base + r)

/-- The place of the `t`-th store of sixteen behind the lists. -/
abbrev padAt (t : ℕ) : ℕ := 576 * (t / 4) + tot c 512 (t / 4) + 16 * (t % 4)

/-- The lists complete, the first `t` stores behind them done. -/
def Lst (t : ℕ) (L : S2304.Idx → BitVec 32) : Prop :=
  Grp c base 512 L ∧ ∀ u < t, ∀ j, padAt c u ≤ (j 0).val → (j 0).val < padAt c u + 16 → Good c base (u / 4) (L j)

theorem Lst.zero {L : S2304.Idx → BitVec 32} (h : Grp c base 512 L) : Lst c base 0 L := ⟨h, fun _ hu => absurd hu (Nat.not_lt_zero _)⟩

/-- The word at the last place of list `k` is good. -/
theorem good_last {L : S2304.Idx → BitVec 32} (h : Grp c base 512 L) (k : ℕ) (j : S2304.Idx)
    (hj : 0 < tot c 512 k → (j 0).val = 576 * k + (tot c 512 k - 1)) : Good c base k (L j) := by
  intro hpos
  obtain ⟨r, hr, hcr, hrank⟩ := exists_rank c k (tot c 512 k - 1) 512 (by omega)
  refine ⟨r, hr, hcr, h r hr j ?_⟩
  rw [hj hpos, ← hcr]
  show _ = 576 * c r + tot c r (c r)
  rw [hcr, hrank]

/-- One store of sixteen good words. -/
theorem pad_step (hc : ∀ r, c r < 4) {t : ℕ} (ht : t < 16) {L L' : S2304.Idx → BitVec 32} (h : Lst c base t L)
    (hin : ∀ j : S2304.Idx, padAt c t ≤ (j 0).val → (j 0).val < padAt c t + 16 → Good c base (t / 4) (L' j))
    (hout : ∀ j : S2304.Idx, ¬ (padAt c t ≤ (j 0).val ∧ (j 0).val < padAt c t + 16) → L' j = L j) : Lst c base (t + 1) L' := by
  have htot := tot_le c 512
  refine ⟨fun r hr j hj => ?_, fun u hu j h1 h2 => ?_⟩
  · rw [hout j, h.1 r hr j hj]
    rintro ⟨h1, h2⟩
    have hr1 := rank_lt_tot c hr
    have hr2 := htot (c r)
    have := htot (t / 4)
    rw [hj] at h1 h2
    unfold place padAt at *
    have hk : c r = t / 4 := by omega
    rw [hk] at h1 hr1
    omega
  · by_cases hut : u = t
    · subst hut; exact hin j h1 h2
    · rw [hout j]
      · exact h.2 u (by omega) j h1 h2
      · rintro ⟨h3, h4⟩
        have h5 := htot (t / 4)
        have h6 := htot (u / 4)
        unfold padAt at *
        have hk : u / 4 = t / 4 := by omega
        rw [hk] at h1 h2
        omega

/-- Every place of a window of list `k` names a row of id `k`; -/
theorem Lst.window {L : S2304.Idx → BitVec 32} (h : Lst c base 16 L) {k m : ℕ} (hk : k < 4) (hm : m < 64 * ((tot c 512 k + 63) / 64))
    (j : S2304.Idx) (hj : (j 0).val = 576 * k + m) : ∃ r < 512, c r = k ∧ L j = BitVec.ofNat 32 (base + r) := by
  by_cases hlt : m < tot c 512 k
  · -- an entry of the list proper
    obtain ⟨r, hr, hcr, hrank⟩ := exists_rank c k m 512 hlt
    refine ⟨r, hr, hcr, h.1 r hr j ?_⟩
    rw [hj]
    show _ = 576 * c r + tot c r (c r)
    rw [hcr, hrank]
  · have hle := tot_le c 512 k
    have hpos : 0 < tot c 512 k := by omega
    refine h.2 (4 * k + (m - tot c 512 k) / 16) (by omega) j ?_ ?_ (by
      rwa [show (4 * k + (m - tot c 512 k) / 16) / 4 = k by omega]) |> fun ⟨r, hr, hcr, hw⟩ => ⟨r, hr, hcr.trans (by omega), hw⟩
    · unfold padAt
      rw [show (4 * k + (m - tot c 512 k) / 16) / 4 = k by omega]
      omega
    · unfold padAt
      rw [show (4 * k + (m - tot c 512 k) / 16) / 4 = k by omega]
      omega

/-- and every row is at its place. -/
theorem Lst.covers {L : S2304.Idx → BitVec 32} {t : ℕ} (h : Lst c base t L) {r : ℕ} (hr : r < 512) (j : S2304.Idx) (hj : (j 0).val = place c r) :
    L j = BitVec.ofNat 32 (base + r) := h.1 r hr j hj

/-- The four lists hold all the rows. -/
theorem tot_sum (hc : ∀ r, c r < 4) (n : ℕ) : tot c n 0 + tot c n 1 + tot c n 2 + tot c n 3 = n := by
  induction n with
  | zero => rfl
  | succ n ih =>
    unfold tot at ih ⊢
    simp only [Nat.count_succ]
    have := hc n
    rcases (show c n = 0 ∨ c n = 1 ∨ c n = 2 ∨ c n = 3 by omega) with h | h | h | h <;> simp [h] <;> omega

end Cert.Proof.Group
-- ==== Proof.Common.lean ====
/-
  WHAT EVERY PART OF THE RUN SPEAKS OF: the program as the launch sees it, the resource algebra, the buffers as one tile
  addresses them, and those buffers cut into rows and elements numbered by naturals.
-/
module

public import proofs.«01_k».proof.Defs
public import proofs.«01_k».proof.Proof.BatchStream
public import proofs.«01_k».proof.Proof.Words
public import proofs.«01_k».proof.Proof.Group
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none

/-! ## The resource algebra: the handshakes' rounds, the transfers' counters -/

abbrev UH : Type := URounds (GSem nD τ sig) ℕ
abbrev UU : Type := UH × Counters

local notation "𝕄" => MT nD τ sig (HIx 1) (Elt F) ℕ UU ℕ

/-! ## The buffers, as a tile addresses them -/

abbrev idV : Memref sig .scVector .hbm S16384 .i32 := Memref.whole main_v0_scv
abbrev oV : Memref sig .scVector .hbm S16384x128 .f32 := Memref.whole main_v1_scv
abbrev cV : Memref sig .scVector .vmem S512 .i32 := Memref.whole cc0_scratch0
abbrev lV : Memref sig .scVector .vmem S2304 .i32 := Memref.whole cc0_scratch1
abbrev nV : Memref sig .scVector .vmem S16 .i32 := Memref.whole cc0_scratch2
abbrev rV : Memref sig .scVector .vmem S768x128 .f32 := Memref.whole cc0_scratch3

/-- A whole array of 16384 rows, as the streams name it: the rectangle of all of it. -/
abbrev allRows (m : Memref sig .scVector .hbm S16384x128 .f32) : Memref sig .scVector .hbm S16384x128 .f32 :=
  m.slice (Rect.unit (s := S16384x128) ![0, 0] S16384x128.size inb_S16384x128_S16384x128_0_0) (fun _ => rfl)

/-- A window of 64 rows of the row buffer, -/
abbrev rowWin (off : Fin 2 → ℕ) (inb : ∀ a, off a + S64x128.size a ≤ S768x128.size a) : Memref sig .scVector .vmem S64x128 .f32 :=
  rV.slice (Rect.unit (s := S768x128) off S64x128.size inb) (fun _ => rfl)
/-- and of 64 places of the lists. -/
abbrev listWin (off : Fin 1 → ℕ) (inb : ∀ a, off a + S64.size a ≤ S2304.size a) : Memref sig .scVector .vmem S64 .i32 :=
  lV.slice (Rect.unit (s := S2304) off S64.size inb) (fun _ => rfl)

/-- Row `n` of the row buffer, -/
def rowSet (n : ℕ) : Finset S768x128.Idx := Finset.univ.filter fun x => (x 0).val = n
/-- and place `n` of the lists. -/
def eltSet (n : ℕ) : Finset S2304.Idx := Finset.univ.filter fun x => (x 0).val = n

theorem mem_rowSet {n : ℕ} {x : S768x128.Idx} : x ∈ rowSet n ↔ (x 0).val = n := by simp [rowSet]
theorem mem_eltSet {n : ℕ} {x : S2304.Idx} : x ∈ eltSet n ↔ (x 0).val = n := by simp [eltSet]

theorem rows_cover : (Finset.Ico 0 768).biUnion rowSet = Finset.univ := by
  ext x
  simp only [Finset.mem_univ, Finset.mem_biUnion, Finset.mem_Ico, iff_true]
  exact ⟨(x 0).val, ⟨Nat.zero_le _, (x 0).isLt⟩, mem_rowSet.mpr rfl⟩
theorem elts_cover : (Finset.Ico 0 2304).biUnion eltSet = Finset.univ := by
  ext x
  simp only [Finset.mem_univ, Finset.mem_biUnion, Finset.mem_Ico, iff_true]
  exact ⟨(x 0).val, ⟨Nat.zero_le _, (x 0).isLt⟩, mem_eltSet.mpr rfl⟩

/-! ## Products over an interval -/

theorem ico_split {Φ : ℕ → sProp 𝕄} {a b c : ℕ} (hab : a ≤ b) (hbc : b ≤ c) :
    bigSep (Finset.Ico a c) Φ = iprop(bigSep (Finset.Ico a b) Φ ∗ bigSep (Finset.Ico b c) Φ) := by
  rw [← Finset.Ico_union_Ico_eq_Ico hab hbc, BI.bigSep_union (Finset.Ico_disjoint_Ico_consecutive a b c)]
  rfl

theorem ico_fin {Φ : ℕ → sProp 𝕄} (a o : ℕ) :
    bigSep (Finset.Ico a (a + o)) Φ = bigSep Finset.univ fun i : Fin o => Φ (a + i.val) := by
  have hinj : Function.Injective fun i : Fin o => a + i.val := fun i j h => Fin.ext (by simpa using h)
  have hset : (Finset.univ.map ⟨fun i : Fin o => a + i.val, hinj⟩ : Finset ℕ) = Finset.Ico a (a + o) := by
    ext x
    simp only [Finset.mem_map, Finset.mem_univ, true_and, Function.Embedding.coeFn_mk, Finset.mem_Ico]
    constructor
    · rintro ⟨i, rfl⟩; have := i.isLt; omega
    · intro h; exact ⟨⟨x - a, by omega⟩, by simp only; omega⟩
  rw [← hset, BI.bigSep_map]
  rfl

theorem ico_shift {Φ : ℕ → sProp 𝕄} (a o : ℕ) :
    bigSep (Finset.Ico a (a + o)) Φ = bigSep (Finset.Ico 0 o) fun i => Φ (a + i) := by
  rw [ico_fin, show Finset.Ico 0 o = Finset.Ico 0 (0 + o) by rw [Nat.zero_add], ico_fin]
  exact BI.bigSep_congr fun i _ => by rw [Nat.zero_add]

/-! ## The buffers cut into rows and places; a share into pieces -/

variable (d : Dev nD) (c : Fin τ.nSC) (s : Fin τ.nSub)

abbrev rLoc : Loc nD τ sig := (rV).view.loc (V d c s)
abbrev lLoc : Loc nD τ sig := (lV).view.loc (V d c s)
abbrev nLoc : Loc nD τ sig := (nV).view.loc (V d c s)
abbrev cLoc : Loc nD τ sig := (cV).view.loc (V d c s)
abbrev oLoc' : Loc nD τ sig := (oV).view.loc (V d c s)

/-- Row `n` of the row buffer, at `f`, -/
abbrev rowPts (f : Buf (Elt F) (rLoc d c s)) (n : ℕ) : sProp 𝕄 := rLoc d c s ↦[rowSet n]{fullShare} f
/-- and place `n` of the lists, at `L`. -/
abbrev eltPts (L : Buf (Elt F) (lLoc d c s)) (n : ℕ) : sProp 𝕄 := lLoc d c s ↦[eltSet n]{fullShare} L

theorem rows_cut (f : Buf (Elt F) (rLoc d c s)) :
    (rLoc d c s ↦{fullShare} f : sProp 𝕄) = bigSep (Finset.Ico 0 768) (rowPts d c s f) := by
  unfold rowPts
  rw [← pointsTo_biUnion (ℓ := rLoc d c s) (Finset.Ico 0 768) rowSet fun n _ n' _ h => Finset.disjoint_left.mpr fun x hx hx' =>
    h ((mem_rowSet.mp hx).symm.trans (mem_rowSet.mp hx')), rows_cover]
  try rfl

theorem list_cut (L : Buf (Elt F) (lLoc d c s)) :
    (lLoc d c s ↦{fullShare} L : sProp 𝕄) = bigSep (Finset.Ico 0 2304) (eltPts d c s L) := by
  unfold eltPts
  rw [← pointsTo_biUnion (ℓ := lLoc d c s) (Finset.Ico 0 2304) eltSet fun n _ n' _ h => Finset.disjoint_left.mpr fun x hx hx' =>
    h ((mem_eltSet.mp hx).symm.trans (mem_eltSet.mp hx')), elts_cover]
  try rfl

/-- Piece `i` of a share cut in 1024. -/
def piece1024 (q : PosShare TreeShare) (i : ℕ) : PosShare TreeShare := pieceOf q 1024 (by decide) ⟨i % 1024, Nat.mod_lt _ (by decide)⟩

theorem pieces_cut {ℓ : Loc nD τ sig} (I : Finset (Idx ℓ)) (f : Buf (Elt F) ℓ) (q : PosShare TreeShare) :
    (ℓ ↦[I]{q} f : sProp 𝕄) = bigSep (Finset.Ico 0 1024) fun i => ℓ ↦[I]{piece1024 q i} f := by
  rw [pointsTo_piecesOf (o := 1024) I f (by decide) q, show Finset.Ico 0 1024 = Finset.Ico 0 (0 + 1024) from rfl, ico_fin]
  refine BI.bigSep_congr fun i _ => ?_
  unfold piece1024
  rw [show (⟨(0 + i.val) % 1024, Nat.mod_lt _ (by decide)⟩ : Fin 1024) = i from Fin.ext (by have := i.isLt; simp only; omega)]

/-! ## A window's rows and places among the whole buffer's -/

section Geometry
variable {B : ℕ} {off : Fin 2 → ℕ} {inb : ∀ a, off a + S64x128.size a ≤ S768x128.size a}
  {lof : Fin 1 → ℕ} {linb : ∀ a, lof a + S64.size a ≤ S2304.size a}

theorem rowWin_emb_zero (h : off = ![B, 0]) (i : Fin 64) (x : (S64x128.rowShape (0 : Fin 2)).Idx) :
    ((((rowWin off inb).view.slice (S64x128.rowRect 0 i)).emb x : S768x128.Idx) 0).val = B + i.val := by
  subst h
  show (![B, 0] : Fin 2 → ℕ) 0 + 1 * ((if (0 : Fin 2) = 0 then i.val else 0) + 1 * (x (0 : Fin 2)).val) = B + i.val
  have : (x (0 : Fin 2)).val = 0 := Nat.lt_one_iff.mp (x (0 : Fin 2)).isLt
  simp [this]

theorem rowWin_emb_one (h : off = ![B, 0]) (i : Fin 64) (x : (S64x128.rowShape (0 : Fin 2)).Idx) :
    ((((rowWin off inb).view.slice (S64x128.rowRect 0 i)).emb x : S768x128.Idx) 1).val = (x (1 : Fin 2)).val := by
  subst h
  show (![B, 0] : Fin 2 → ℕ) 1 + 1 * ((if (1 : Fin 2) = 0 then i.val else 0) + 1 * (x (1 : Fin 2)).val) = (x (1 : Fin 2)).val
  simp

theorem rowWin_set (h : off = ![B, 0]) (i : Fin 64) :
    ((rowWin off inb).view.slice (S64x128.rowRect 0 i)).set = rowSet (B + i.val) := by
  ext y
  constructor
  · intro hy
    obtain ⟨x, -, rfl⟩ := Finset.mem_map.mp hy
    exact mem_rowSet.mpr (rowWin_emb_zero h i x)
  · intro hy
    have hy0 := mem_rowSet.mp hy
    refine Finset.mem_map.mpr ⟨fun | 0 => ⟨0, Nat.one_pos⟩ | 1 => ⟨((show S768x128.Idx from y) 1).val, ((show S768x128.Idx from y) 1).isLt⟩, Finset.mem_univ _, ?_⟩
    refine funext fun a => Fin.ext ?_
    match a with
    | 0 => exact (rowWin_emb_zero h i _).trans hy0.symm
    | 1 => exact rowWin_emb_one h i _

theorem listWin_emb (h : lof = ![B]) (i : Fin 64) (hn : S64.numel = 64) :
    (((listWin lof linb).view.emb (S64.rowMajor.symm (i.cast hn.symm)) : S2304.Idx) 0).val = B + i.val := by
  subst h
  show (![B] : Fin 1 → ℕ) 0 + 1 * ((S64.rowMajor.symm (i.cast hn.symm)) 0).val = B + i.val
  have e := congrArg Fin.val (S64.rowMajor.apply_symm_apply (i.cast hn.symm))
  have e' := (Shape.rowMajor_val_one (d := ![64]) (S64.rowMajor.symm (i.cast hn.symm))).symm.trans e
  simp only [Matrix.cons_val_zero, Nat.one_mul]
  rw [e']; rfl

theorem listWin_set (h : lof = ![B]) (i : Fin 64) (hn : S64.numel = 64) :
    ({(listWin lof linb).view.emb (S64.rowMajor.symm (i.cast hn.symm))} : Finset S2304.Idx) = eltSet (B + i.val) := by
  ext y
  rw [Finset.mem_singleton, mem_eltSet]
  constructor
  · rintro rfl; exact listWin_emb h i hn
  · intro hy
    refine funext fun a => Fin.ext ?_
    obtain rfl : a = 0 := Subsingleton.elim _ _
    exact hy.trans (listWin_emb h i hn).symm

theorem allRows_emb (m : Memref sig .scVector .hbm S16384x128 .f32) (x : S16384x128.Idx) : (allRows m).view.emb x = m.view.emb x := by
  show m.view.emb _ = _
  congr 1
  refine funext fun a => Fin.ext ?_
  show (![0, 0] : Fin 2 → ℕ) a + 1 * (x a).val = (x a).val
  match a with
  | 0 => simp
  | 1 => simp

end Geometry

end Cert.Proof.Tile

end
-- ==== Proof.Streams.lean ====
/-
  THE LOOPS OVER WINDOWS. List `k`'s ids lie in places `lb …` of the lists, its rows go to rows `b …` of the row buffer;
  window `j` is the 64 of them from `64 · j`. A loop firing gathers hands one window's rows, places and pieces of the table
  to the list's batch per trip; a loop firing scatters hands its windows' rows and places to the one batch of all the
  scatters; a draining loop waits for one window's units per trip. Each kind is stated once, for any loop of that many trips.
-/
module

public import proofs.«01_k».proof.Proof.Common

@[expose] public section

noncomputable section

namespace Cert.Proof.Tile

open Cert.KernelIdeal Cert.KernelIdeal.Gen
open Idealize.ShloMosaic
open Idealize.ShloMosaic.SparseCore (S V T rows scatterRowPayload)
open Idealize.ShloMosaic.SparseCore.Cfg (HIx)
open Idealize.ShloMosaic.Transfers (Batch MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (c : Fin τ.nSC) (s : Fin τ.nSub)

/-! ## A loop by an invariant -/

/-- The weakest precondition of what a tile runs. -/
abbrev twp {α : Type} (p : Prog (TpuEff nD τ sig (Elt F) Λ₀ (Proc.scVector c s)) α) (Q : α → sProp 𝕄) : sProp 𝕄 :=
  wp frame (wpE (defs₀ (F := F)) 𝒱₀ (V d c s) none) Set.univ p Q

theorem twp_ret {α : Type} {Q : α → sProp 𝕄} {a : α} : Q a ⊢ twp d c s (Prog.ret a) Q := by
  iintro H
  unfold twp; rw [wp_ret]; imodintro
  iexact H

theorem loop_inv {L : Scf.Loop 32} {σ α : Type} {ok : L.OK} {init : σ}
    {body : Fin L.trips → σ → Prog (TpuEff nD τ sig (Elt F) Λ₀ (Proc.scVector c s)) σ}
    {kk : σ → Prog (TpuEff nD τ sig (Elt F) Λ₀ (Proc.scVector c s)) α} {Q : α → sProp 𝕄} (I : ℕ → sProp 𝕄) (n : ℕ) (hn : L.trips = n)
    (hbody : ∀ (t : Fin L.trips) (acc : σ), t.val < n → I t.val ⊢ twp d c s (body t acc) (fun _ => I (t.val + 1))) :
    I 0 ⊢ iprop((∀ acc, I n -∗ twp d c s (kk acc) Q) -∗ twp d c s (L.for ok init body >>= kk) Q) := by
  subst hn
  exact Scf.wp_for_bind frame (wpE (defs₀ (F := F)) 𝒱₀ (V d c s) none) Set.univ L.lb L.ub L.st ok init body (fun j _ => I j)
    (fun t acc => hbody t acc t.isLt)

/-- A loop of no trips. -/
theorem loop_none {L : Scf.Loop 32} {σ α : Type} {ok : L.OK} {init : σ}
    {body : Fin L.trips → σ → Prog (TpuEff nD τ sig (Elt F) Λ₀ (Proc.scVector c s)) σ}
    {kk : σ → Prog (TpuEff nD τ sig (Elt F) Λ₀ (Proc.scVector c s)) α} {Q : α → sProp 𝕄} (hn : L.trips = 0) :
    (iprop(∀ acc, twp d c s (kk acc) Q) : sProp 𝕄) ⊢ twp d c s (L.for ok init body >>= kk) Q := by
  iintro H
  iapply (loop_inv d c s (fun _ => iprop(emp)) 0 hn fun t acc h => absurd h (Nat.not_lt_zero _)) $$ []
  · iempintro
  iintro %acc -
  iapply H

/-! ## What is owed, kept through waits -/

/-- The tile owes `O` and has waited for what it had and for its own cells. -/
def OW (O : CellTallies nD τ sig (HIx 1)) (W : Waits sig (HIx 1)) : sProp 𝕄 :=
  iprop(∃ W', ⌜∀ p ∈ W', p ∈ W ∨ p.2 = none⌝ ∗ owes (V d c s) O W')

theorem OW_insert {O : CellTallies nD τ sig (HIx 1)} {W W' : Waits sig (HIx 1)} (h : ∀ p ∈ W', p ∈ W ∨ p.2 = none) (sm : SemLoc sig) :
    (owes (V d c s) O (insert (sm, (none : HIx 1)) W') : sProp 𝕄) ⊢ OW d c s O W := by
  unfold OW
  iintro H
  iexists _; isplitr
  swap; · iexact H
  ipureintro; intro p hp
  rcases Finset.mem_insert.mp hp with hp | hp
  · exact .inr (hp ▸ rfl)
  · exact h p hp

/-! ## What a row and a window credit -/

theorem credit_row : sig.dmaCredit .scVector (Kind.table .scVector .vmem) (cc0_scratch3 : Ref sig .scVector).idx (S64x128.rowShape (0 : Fin 2)) .f32 = 4096 := by decide
theorem credit_win : sig.dmaCredit .scVector (Kind.table .scVector .vmem) (cc0_scratch3 : Ref sig .scVector).idx S64x128 .f32 = 64 * 4096 := by decide
theorem credit_out : sig.dmaCredit .scVector (Kind.table .scVector .hbm) (main_v1_scv : Ref sig .scVector).idx (S16384x128.rowShape (0 : Fin 2)) .f32 = 4096 := by decide

/-! ## Gathers -/

section Gather

variable (b lb n : ℕ) (src : Memref sig .scVector .hbm S16384x128 .f32) (fs : Buf (Elt F) (src.view.loc (V d c s)))
  (q : PosShare TreeShare) (L : Buf (Elt F) (lLoc d c s))

/-- Entry `i` of list's gathers: its row of the row buffer at `f`, its place, its piece of the table. -/
def gRes (f : Buf (Elt F) (rLoc d c s)) (i : ℕ) : sProp 𝕄 :=
  iprop((rowPts d c s f (b + i) ∗ eltPts d c s L (lb + i)) ∗ src.view.loc (V d c s) ↦[src.view.set]{piece1024 q i} fs)

instance gRes_storable (f : Buf (Elt F) (rLoc d c s)) (i : ℕ) : Storable (upEmb : UEmb _ 𝕄) (gRes d c s b lb src fs q L f i) := by
  unfold gRes; infer_instance

/-- What the list's `64 · n` places name: rows of the table, which are the rows `G` has. -/
def Names (G : Buf (Elt F) (rLoc d c s)) : Prop :=
  ∀ i, i < 64 * n → ∀ y : S2304.Idx, (y 0).val = lb + i → (show BitVec 32 from L y).toNat < 16384
    ∧ ∀ (x : S768x128.Idx) (z : S16384x128.Idx), (x 0).val = b + i → (z 0).val = (show BitVec 32 from L y).toNat → (z 1).val = (x 1).val →
      src.view.read (Elt F) fs z = G x

variable {b lb n src fs q L}
variable {sem : DmaSem sig} {f₀ G : Buf (Elt F) (rLoc d c s)}

section Window
variable {j : ℕ} (hj : j < n) {off : Fin 2 → ℕ} {inb : ∀ a, off a + S64x128.size a ≤ S768x128.size a} {lof : Fin 1 → ℕ}
  {linb : ∀ a, lof a + S64.size a ≤ S2304.size a}

theorem listWin_word (h : lof = ![lb + 64 * j]) (x : S64.Idx) : (((listWin lof linb).view.emb x : S2304.Idx) 0).val = lb + (64 * j + (x 0).val) := by
  subst h
  show (![lb + 64 * j] : Fin 1 → ℕ) 0 + 1 * (x 0).val = _
  simp only [Matrix.cons_val_zero]; omega

include hj in
/-- A window's words name rows of the table. -/
theorem names_in (hlof : lof = ![lb + 64 * j]) (hL : Names d c s b lb n src fs L G) (x : S64.Idx) :
    (show BitVec 32 from (listWin lof linb).view.read (Elt F) L x).toNat < 16384 := by
  have hx : (x 0).val < 64 := (x 0).isLt
  exact (hL (64 * j + (x 0).val) (by omega) _ (listWin_word hlof x)).1

include hj in
/-- A row of a window, the gather's row landed on it, is `G`'s. -/
theorem gather_row (hoff : off = ![b + 64 * j, 0]) (hlof : lof = ![lb + 64 * j]) (hL : Names d c s b lb n src fs L G)
    (hin : ∀ x : S64.Idx, (show BitVec 32 from (listWin lof linb).view.read (Elt F) L x).toNat < 16384) (i : Fin 64) :
    (rLoc d c s ↦[((rowWin off inb).view.slice (S64x128.rowRect 0 i)).set]{fullShare}
        (((rowWin off inb).view.slice (S64x128.rowRect 0 i)).write (Elt F) f₀ (fun x => src.view.read (Elt F) fs
          (gathers_S16384x128_S64x128.rowIdx (rows ((listWin lof linb).view.read (Elt F) L) rfl hin i) x)) Finset.univ) : sProp 𝕄)
      = rowPts d c s G (b + (64 * j + i.val)) := by
  have hset := rowWin_set (inb := inb) hoff i
  rw [Nat.add_assoc] at hset
  unfold rowPts
  rw [← hset]
  refine pointsTo_congr fun y hy => ?_
  obtain ⟨x, -, rfl⟩ := Finset.mem_map.mp hy
  refine (View.write_emb_of_mem _ _ (Finset.mem_univ x)).trans ((cast_eq _ _).trans ?_)
  have hi : 64 * j + i.val < 64 * n := by have := i.isLt; omega
  have hy0 : (((listWin lof linb).view.emb (S64.rowMajor.symm (i.cast rfl)) : S2304.Idx) 0).val = lb + (64 * j + i.val) :=
    (listWin_emb hlof i rfl).trans (Nat.add_assoc _ _ _)
  have hx0 := (rowWin_emb_zero (inb := inb) hoff i x).trans (Nat.add_assoc _ _ _)
  have hx1 := rowWin_emb_one (inb := inb) hoff i x
  have hz0 := congrArg Fin.val (Shape.Gathers.rowIdx_axis gathers_S16384x128_S64x128 (rows ((listWin lof linb).view.read (Elt F) L) rfl hin i) x)
  have hz1 := Shape.Gathers.rowIdx_of_ne gathers_S16384x128_S64x128 (rows ((listWin lof linb).view.read (Elt F) L) rfl hin i) x (1 : Fin 2) (by decide)
  exact (hL (64 * j + i.val) hi _ hy0).2 _ _ hx0 hz0 (hz1.trans hx1.symm)

end Window

/-- One window's gather fired. -/
theorem gather_fire {α : Type} {Q : α → sProp 𝕄} {k : PUnit → Prog (TpuEff nD τ sig (Elt F) Λ₀ (Proc.scVector c s)) α} {j : ℕ} (hj : j < n)
    {off : Fin 2 → ℕ} {inb : ∀ a, off a + S64x128.size a ≤ S768x128.size a} {lof : Fin 1 → ℕ} {linb : ∀ a, lof a + S64.size a ≤ S2304.size a}
    (hoff : off = ![b + 64 * j, 0]) (hlof : lof = ![lb + 64 * j]) {hsrc : src.view.WordExact} {hr : S16384x128.StreamRows 0}
    (hL : Names d c s b lb n src fs L G) :
    iprop(bigSep (Finset.Ico (64 * j) (64 * n)) (gRes d c s b lb src fs q L f₀)
        ∗ Batch countersEmb (V d c s) (.dma sem) (none : HIx 1) 4096 (fun t : Fin (64 * n) => gRes d c s b lb src fs q L G t.val) (64 * j) 0)
      ⊢ iprop((iprop(bigSep (Finset.Ico (64 * (j + 1)) (64 * n)) (gRes d c s b lb src fs q L f₀)
            ∗ Batch countersEmb (V d c s) (.dma sem) (none : HIx 1) 4096 (fun t : Fin (64 * n) => gRes d c s b lb src fs q L G t.val) (64 * (j + 1)) 0)
          -∗ twp d c s (k ⟨⟩) Q)
        -∗ twp d c s (SparseCore.enqueueIndirectGather rfl src (rowWin off inb) gathers_S16384x128_S64x128 (listWin lof linb) rfl sem hsrc rfl (Or.inl rfl) hr >>= k) Q) := by
  have hin := names_in d c s hj hlof (linb := linb) hL
  have he : ∀ i : Fin 64, (lLoc d c s ↦[{(listWin lof linb).view.emb (S64.rowMajor.symm (i.cast rfl))}]{fullShare} L : sProp 𝕄)
      = eltPts d c s L (lb + (64 * j + i.val)) := fun i =>
    congrArg (fun I => (lLoc d c s ↦[I]{fullShare} L : sProp 𝕄)) ((listWin_set hlof i rfl).trans (by rw [Nat.add_assoc]))
  have hr₀ : ∀ (i : Fin 64) (f : Buf (Elt F) (rLoc d c s)), (rLoc d c s ↦[((rowWin off inb).view.slice (S64x128.rowRect 0 i)).set]{fullShare} f : sProp 𝕄)
      = rowPts d c s f (b + (64 * j + i.val)) := fun i f =>
    congrArg (fun I => (rLoc d c s ↦[I]{fullShare} f : sProp 𝕄)) ((rowWin_set hoff i).trans (by rw [Nat.add_assoc]))
  have hrow := fun i : Fin 64 => gather_row d c s (f₀ := f₀) hj hoff (inb := inb) hlof (linb := linb) hL hin i
  rw [ico_split (a := 64 * j) (b := 64 * j + 64) (c := 64 * n) (by omega) (by omega), ico_fin,
    show 64 * (j + 1) = 64 * j + 64 by omega]
  iintro ⟨⟨Hin, Hrest⟩, HB⟩ Hk
  iapply (BatchStream.wp_gatherBatch countersEmb 𝒱₀ (V d c s) none (src := src) (dst := rowWin off inb) (hg := gathers_S16384x128_S64x128)
    (offs := listWin lof linb) (qo := fullShare) (q := fun i : Fin 64 => piece1024 q (64 * j + i.val)) (fs := fs) (fd := f₀) (fo := L)
    (none : HIx 1) (N := 4096) (n := 64 * n) (j := 64 * j) (u := 0) (D := fun t : Fin (64 * n) => gRes d c s b lb src fs q L G t.val)
    (fun i => credit_row) hin (by show 64 * j + 64 ≤ 64 * n; omega) (Nat.zero_le _) ?hD) $$ [Hin HB]
  case hD =>
    intro i
    unfold gRes
    iintro ⟨⟨H1, H2⟩, H3⟩
    isplitl [H1 H2]
    · isplitl [H1]
      · iapply (Entails.of_eq (hrow i)); iexact H1
      · iapply (Entails.of_eq (he i)); iexact H2
    · iexact H3
  · isplitl [Hin]
    · iapply (Entails.of_eq (BI.bigSep_congr fun (i : Fin 64) _ => show gRes d c s b lb src fs q L f₀ (64 * j + i.val) = _ from by
        unfold gRes; rw [← hr₀ i f₀, ← he i]; rfl)) $$ Hin
    · iexact HB
  iintro HB
  iapply Hk
  isplitl [Hrest]; · iexact Hrest
  iexact HB

/-- A loop firing a list's gathers. -/
theorem gather_loop {Lp : Scf.Loop 32} {α : Type} {ok : Lp.OK} {init : BitVec 32}
    {body : Fin Lp.trips → BitVec 32 → Prog (TpuEff nD τ sig (Elt F) Λ₀ (Proc.scVector c s)) (BitVec 32)}
    {kk : BitVec 32 → Prog (TpuEff nD τ sig (Elt F) Λ₀ (Proc.scVector c s)) α} {Q : α → sProp 𝕄} (hn : Lp.trips = n)
    (off : Fin Lp.trips → Fin 2 → ℕ) (inb : ∀ t a, off t a + S64x128.size a ≤ S768x128.size a)
    (lof : Fin Lp.trips → Fin 1 → ℕ) (linb : ∀ t a, lof t a + S64.size a ≤ S2304.size a)
    (hoff : ∀ t : Fin Lp.trips, t.val < n → off t = ![b + 64 * t.val, 0]) (hlof : ∀ t : Fin Lp.trips, t.val < n → lof t = ![lb + 64 * t.val])
    (hsrc : src.view.WordExact) (hr : S16384x128.StreamRows 0) (hL : Names d c s b lb n src fs L G)
    (hbody : ∀ t acc, body t acc = (SparseCore.enqueueIndirectGather rfl src (rowWin (off t) (inb t)) gathers_S16384x128_S64x128
      (listWin (lof t) (linb t)) rfl sem hsrc rfl (Or.inl rfl) hr >>= fun _ => pure 0#32)) :
    iprop(bigSep (Finset.Ico 0 (64 * n)) (gRes d c s b lb src fs q L f₀)
        ∗ Batch countersEmb (V d c s) (.dma sem) (none : HIx 1) 4096 (fun t : Fin (64 * n) => gRes d c s b lb src fs q L G t.val) 0 0)
      ⊢ iprop((∀ acc, Batch countersEmb (V d c s) (.dma sem) (none : HIx 1) 4096 (fun t : Fin (64 * n) => gRes d c s b lb src fs q L G t.val) (64 * n) 0
          -∗ twp d c s (kk acc) Q)
        -∗ twp d c s (Lp.for ok init body >>= kk) Q) := by
  iintro H Hk
  iapply (loop_inv d c s (fun j => iprop(bigSep (Finset.Ico (64 * j) (64 * n)) (gRes d c s b lb src fs q L f₀)
      ∗ Batch countersEmb (V d c s) (.dma sem) (none : HIx 1) 4096 (fun t : Fin (64 * n) => gRes d c s b lb src fs q L G t.val) (64 * j) 0)) n hn ?hb) $$ [H]
  case hb =>
    intro t acc ht
    rw [hbody]
    iintro H
    iapply (gather_fire d c s ht (hoff t ht) (hlof t ht) hL) $$ H
    iintro H
    simp only [Prog.pure_eq_ret]
    iapply (twp_ret d c s)
    iexact H
  · iexact H
  iintro %acc ⟨-, HB⟩
  iapply Hk
  iexact HB

end Gather

/-! ## Waits -/

section Drain

variable {N n : ℕ} {sem : DmaSem sig} {O : CellTallies nD τ sig (HIx 1)} {W : Waits sig (HIx 1)}

/-- One window's units waited for, whatever the two buffers the wait names, as long as it credits a window. -/
theorem drain_one {D : Fin N → sProp 𝕄} {α : Type} {Q : α → sProp 𝕄} {k : PUnit → Prog (TpuEff nD τ sig (Elt F) Λ₀ (Proc.scVector c s)) α} {j : ℕ} (hj : j < n)
    {base : ℕ} (hN : base + 64 * n ≤ N)
    {sp sp' : Space} {s₁ s₂ : Shape} {e₁ e₂ : EltTy} {srcw : Memref sig .scVector sp' s₁ e₁} {dstw : Memref sig .scVector sp s₂ e₂} {hsrc : srcw.view.WordExact} {hdst : dstw.view.WordExact}
    (hcr : dstw.view.dmaCredit = 64 * 4096) :
    iprop(MayWaits (V d c s) (none : HIx 1) O ∗ Batch countersEmb (V d c s) (.dma sem) (none : HIx 1) 4096 D N (4096 * (base + 64 * j)) ∗ OW d c s O W)
      ⊢ iprop((iprop(Batch countersEmb (V d c s) (.dma sem) (none : HIx 1) 4096 D N (4096 * (base + 64 * (j + 1))) ∗ OW d c s O W) -∗ twp d c s (k ⟨⟩) Q)
        -∗ twp d c s (.op (.waitDma2 sem srcw dstw hsrc hdst) k) Q) := by
  have hOW : OW d c s O W = iprop(∃ W', ⌜∀ p ∈ W', p ∈ W ∨ p.2 = none⌝ ∗ owes (V d c s) O W' : sProp 𝕄) := rfl
  iintro ⟨Hmw, HB, HOW⟩ Hk
  ihave HOW' := (Entails.of_eq hOW) $$ HOW
  icases HOW' with ⟨%W', %hW', HO⟩
  iapply (Transfers.wp_waitBatchMulO countersEmb 𝒱₀ (V d c s) none (none : HIx 1) 64 hcr (D := D) (j := N) (u := 4096 * (base + 64 * j)) (by omega) (O := O) (W := W')) $$ [HB HO Hmw]
  · isplitl [HB]; · iexact HB
    isplitl [HO]; · iexact HO
    iapply (MayWaits.elim (SemLoc.dma sem)) $$ Hmw
  iintro ⟨HB, HO⟩
  iapply Hk
  rw [show 4096 * (base + 64 * (j + 1)) = 4096 * (base + 64 * j) + 64 * 4096 by omega]
  isplitl [HB]; · iexact HB
  iapply (OW_insert d c s hW' (SemLoc.dma sem)) $$ HO

/-- A loop of such waits. -/
theorem drain_loop {D : Fin N → sProp 𝕄} {Lp : Scf.Loop 32} {α : Type} {ok : Lp.OK} {init : BitVec 32}
    {body : Fin Lp.trips → BitVec 32 → Prog (TpuEff nD τ sig (Elt F) Λ₀ (Proc.scVector c s)) (BitVec 32)}
    {kk : BitVec 32 → Prog (TpuEff nD τ sig (Elt F) Λ₀ (Proc.scVector c s)) α} {Q : α → sProp 𝕄} (hn : Lp.trips = n)
    {base : ℕ} (hN : base + 64 * n ≤ N)
    {sp sp' : Space} {s₁ s₂ : Shape} {e₁ e₂ : EltTy} (srcw : Fin Lp.trips → Memref sig .scVector sp' s₁ e₁) (dstw : Fin Lp.trips → Memref sig .scVector sp s₂ e₂)
    (hsrc : ∀ t, (srcw t).view.WordExact) (hdst : ∀ t, (dstw t).view.WordExact)
    (hcr : ∀ t, (dstw t).view.dmaCredit = 64 * 4096)
    (hbody : ∀ t acc, body t acc = .op (.waitDma2 sem (srcw t) (dstw t) (hsrc t) (hdst t)) fun _ => pure 0#32) :
    iprop(MayWaits (V d c s) (none : HIx 1) O ∗ Batch countersEmb (V d c s) (.dma sem) (none : HIx 1) 4096 D N (4096 * base) ∗ OW d c s O W)
      ⊢ iprop((∀ acc, iprop(Batch countersEmb (V d c s) (.dma sem) (none : HIx 1) 4096 D N (4096 * (base + 64 * n)) ∗ OW d c s O W) -∗ twp d c s (kk acc) Q)
        -∗ twp d c s (Lp.for ok init body >>= kk) Q) := by
  iintro ⟨#Hmw, HB, HO⟩ Hk
  iapply (loop_inv d c s (fun j => iprop(MayWaits (V d c s) (none : HIx 1) O
      ∗ Batch countersEmb (V d c s) (.dma sem) (none : HIx 1) 4096 D N (4096 * (base + 64 * j)) ∗ OW d c s O W)) n hn ?hb) $$ [HB HO]
  case hb =>
    intro t acc ht
    rw [hbody]
    iintro ⟨#Hmw, HB, HO⟩
    iapply (drain_one d c s ht hN (hcr t)) $$ [HB HO]
    · isplitr; · iexact Hmw
      isplitl [HB] <;> iassumption
    iintro ⟨HB, HO⟩
    simp only [Prog.pure_eq_ret]
    iapply (twp_ret d c s)
    isplitr; · iexact Hmw
    isplitl [HB] <;> iassumption
  · isplitr; · iexact Hmw
    isplitl [HB]; · iexact HB
    iexact HO
  iintro %acc ⟨-, HB, HO⟩
  iapply Hk
  isplitl [HB] <;> iassumption

end Drain

/-! ## Scatters -/

section Scatter

/-- Row `n` of the result. -/
def outSet (n : ℕ) : Finset S16384x128.Idx := Finset.univ.filter fun x => (x 0).val = n
theorem mem_outSet {n : ℕ} {x : S16384x128.Idx} : x ∈ outSet n ↔ (x 0).val = n := by simp [outSet]

theorem outRow_emb_zero (n : Fin 16384) (x : (S16384x128.rowShape (0 : Fin 2)).Idx) :
    ((((allRows oV).view.slice (S16384x128.rowRect 0 n)).emb x : S16384x128.Idx) 0).val = n.val := by
  show (![0, 0] : Fin 2 → ℕ) 0 + 1 * ((if (0 : Fin 2) = 0 then n.val else 0) + 1 * (x (0 : Fin 2)).val) = n.val
  have : (x (0 : Fin 2)).val = 0 := Nat.lt_one_iff.mp (x (0 : Fin 2)).isLt
  simp [this]
theorem outRow_emb_one (n : Fin 16384) (x : (S16384x128.rowShape (0 : Fin 2)).Idx) :
    ((((allRows oV).view.slice (S16384x128.rowRect 0 n)).emb x : S16384x128.Idx) 1).val = (x (1 : Fin 2)).val := by
  show (![0, 0] : Fin 2 → ℕ) 1 + 1 * ((if (1 : Fin 2) = 0 then n.val else 0) + 1 * (x (1 : Fin 2)).val) = (x (1 : Fin 2)).val
  simp

variable (N b n : ℕ) (lp : ℕ → ℕ) (γ : ℕ → ℕ) (r : ℕ → Fin 16384) (L : Buf (Elt F) (lLoc d c s)) (G : Buf (Elt F) (rLoc d c s))
  (I : Finset S16384x128.Idx) (Tgt : Buf (Elt F) (oLoc' d c s))

/-- Entry `T` of the scatters, its write counted at `m`: the count, its place, its row. -/
def sRes (m : ℕ) (T : ℕ) : sProp 𝕄 :=
  iprop((count countersEmb (γ T) m ∗ eltPts d c s L (lp T)) ∗ rowPts d c s G T)

instance sRes_storable (m T : ℕ) : Storable (upEmb : UEmb _ 𝕄) (sRes d c s lp γ L G m T) := by
  unfold sRes count; infer_instance

/-- A row wholly written, as its write counts. -/
abbrev full : ℕ := BatchStream.code (Finset.univ : Finset (S16384x128.rowShape (0 : Fin 2)).Idx)

/-- The result's rows this tile writes, shared among the `N` writes. -/
abbrev shared : sProp 𝕄 :=
  BatchStream.sharedBody countersEmb (V d c s) (allRows oV).view (0 : Fin 2) (fun T : Fin N => r T.val) I Tgt fun T : Fin N => γ T.val

/-- What entries `b …` name: a row of the tile's, whose values in the target are the entry's row of the buffer. -/
def Sends : Prop :=
  ∀ T, b ≤ T → T < b + 64 * n → (∀ y : S2304.Idx, (y 0).val = lp T → (show BitVec 32 from L y).toNat = (r T).val)
    ∧ (∀ z : S16384x128.Idx, (z 0).val = (r T).val → z ∈ I)
    ∧ ∀ (x : S768x128.Idx) (z : S16384x128.Idx), (x 0).val = T → (z 0).val = (r T).val → (z 1).val = (x 1).val → G x = Tgt z

variable {N b n lp γ r L G I Tgt}
variable {sem : DmaSem sig} {κ : ℕ}

/-- One row's write update, from the shared rows. -/
theorem scatter_update {T : Fin N} {ρ : Fin 16384} (hρ : ρ = r T.val) (w : (S16384x128.rowShape (0 : Fin 2)).Idx → Elt F .f32)
    (hI : ∀ z : S16384x128.Idx, (z 0).val = (r T.val).val → z ∈ I)
    (hw : ∀ (x : (S16384x128.rowShape (0 : Fin 2)).Idx) (z : S16384x128.Idx), (z 0).val = (r T.val).val → (z 1).val = (x (1 : Fin 2)).val → w x = Tgt z) :
    iprop(inv κ (shared d c s N γ r I Tgt) ∗ count countersEmb (γ T.val) 0)
      ⊢ writeUpdate (V d c s) ((allRows oV).view.slice (S16384x128.rowRect (0 : Fin 2) ρ)) w (count countersEmb (γ T.val) full : sProp 𝕄) := by
  subst hρ
  refine BatchStream.shared_writeUpdate countersEmb (V d c s) (allRows oV).view (0 : Fin 2) (fun T : Fin N => r T.val) I Tgt
    (γ := fun T : Fin N => γ T.val) T w ?_ ?_
  · intro z hz
    obtain ⟨x, -, rfl⟩ := Finset.mem_map.mp hz
    exact hI _ (outRow_emb_zero _ x)
  · intro x
    exact (cast_eq _ _).trans (hw x _ (outRow_emb_zero _ x) (outRow_emb_one _ x))

theorem idxEquiv_symm_val {s s' : Shape} (h : s = s') (x : s'.Idx) (a : ℕ) (ha : a < s.rank) (ha' : a < s'.rank) :
    (((Shape.idxEquiv h).symm x) ⟨a, ha⟩).val = (x ⟨a, ha'⟩).val := by subst h; rfl

/-- A row's payload is the row buffer's row. -/
theorem scatter_payload {j : ℕ} {off : Fin 2 → ℕ} {inb : ∀ a, off a + S64x128.size a ≤ S768x128.size a} (hoff : off = ![b + 64 * j, 0]) (i : Fin 64)
    (x : (S16384x128.rowShape (0 : Fin 2)).Idx) :
    ∃ y : S768x128.Idx, (y 0).val = b + 64 * j + i.val ∧ (y 1).val = (x (1 : Fin 2)).val
      ∧ scatterRowPayload (F := F) (V d c s) (rowWin off inb) gathers_S16384x128_S64x128 G i x = G y := by
  have h := gathers_S16384x128_S64x128.rowShape_eq
  refine ⟨((rowWin off inb).view.slice (S64x128.rowRect 0 i)).emb ((Shape.idxEquiv h).symm x), rowWin_emb_zero hoff i _, ?_, ?_⟩
  · exact (rowWin_emb_one hoff i _).trans (idxEquiv_symm_val h x 1 (by decide) (by decide))
  · exact cast_eq _ _

/-- One window's scatter fired. -/
theorem scatter_fire {α : Type} {Q : α → sProp 𝕄} {k : PUnit → Prog (TpuEff nD τ sig (Elt F) Λ₀ (Proc.scVector c s)) α} {j lb : ℕ} (hj : j < n)
    (hN : b + 64 * n ≤ N)
    {off : Fin 2 → ℕ} {inb : ∀ a, off a + S64x128.size a ≤ S768x128.size a} {lof : Fin 1 → ℕ} {linb : ∀ a, lof a + S64.size a ≤ S2304.size a}
    (hoff : off = ![b + 64 * j, 0]) (hlof : lof = ![lb + 64 * j]) (hlp : ∀ i, i < 64 * n → lp (b + i) = lb + i) {hr : S16384x128.StreamRows 0}
    (hS : Sends d c s b n lp r L G I Tgt) :
    iprop(inv κ (shared d c s N γ r I Tgt) ∗ bigSep (Finset.Ico (b + 64 * j) (b + 64 * n)) (sRes d c s lp γ L G 0)
        ∗ Batch countersEmb (V d c s) (.dma sem) (none : HIx 1) 4096 (fun T : Fin N => sRes d c s lp γ L G full T.val) (b + 64 * j) 0)
      ⊢ iprop((iprop(bigSep (Finset.Ico (b + 64 * (j + 1)) (b + 64 * n)) (sRes d c s lp γ L G 0)
            ∗ Batch countersEmb (V d c s) (.dma sem) (none : HIx 1) 4096 (fun T : Fin N => sRes d c s lp γ L G full T.val) (b + 64 * (j + 1)) 0)
          -∗ twp d c s (k ⟨⟩) Q)
        -∗ twp d c s (SparseCore.enqueueIndirectScatter rfl (rowWin off inb) (allRows oV) gathers_S16384x128_S64x128 (listWin lof linb) rfl sem rfl (Or.inl rfl) hr >>= k) Q) := by
  have hT : ∀ i : Fin 64, b + 64 * j + i.val = b + (64 * j + i.val) := fun i => Nat.add_assoc _ _ _
  have hi : ∀ i : Fin 64, 64 * j + i.val < 64 * n := fun i => by have := i.isLt; omega
  have hlt : ∀ i : Fin 64, b + 64 * j + i.val < N := fun i => by have := hi i; omega
  have hS' := fun i : Fin 64 => hS (b + 64 * j + i.val) (by omega) (by have := hi i; omega)
  have hlp' : ∀ i : Fin 64, lp (b + 64 * j + i.val) = lb + 64 * j + i.val := fun i => by rw [hT, hlp _ (hi i), Nat.add_assoc]
  have hword : ∀ i : Fin 64, (show BitVec 32 from (listWin lof linb).view.read (Elt F) L (S64.rowMajor.symm (i.cast rfl))).toNat = (r (b + 64 * j + i.val)).val :=
    fun i => (hS' i).1 _ ((listWin_emb hlof i rfl).trans (hlp' i).symm)
  have hin : ∀ x, (show BitVec 32 from (listWin lof linb).view.read (Elt F) L x).toNat < 16384 := by
    intro x
    obtain ⟨i, rfl⟩ := S64.rowMajor.symm.surjective x
    exact lt_of_eq_of_lt (hword i) (r _).isLt
  have hρ : ∀ i : Fin 64, rows (z := 16384) ((listWin lof linb).view.read (Elt F) L) rfl hin i = r (b + 64 * j + i.val) := fun i => Fin.ext (hword i)
  have he : ∀ i : Fin 64, (lLoc d c s ↦[{(listWin lof linb).view.emb (S64.rowMajor.symm (i.cast rfl))}]{fullShare} L : sProp 𝕄)
      = eltPts d c s L (lp (b + 64 * j + i.val)) := fun i =>
    congrArg (fun I => (lLoc d c s ↦[I]{fullShare} L : sProp 𝕄)) ((listWin_set hlof i rfl).trans (by rw [hlp']))
  have hr₀ : ∀ i : Fin 64, (rLoc d c s ↦[((rowWin off inb).view.slice (S64x128.rowRect 0 i)).set]{fullShare} G : sProp 𝕄)
      = rowPts d c s G (b + 64 * j + i.val) := fun i =>
    congrArg (fun I => (rLoc d c s ↦[I]{fullShare} G : sProp 𝕄)) (rowWin_set hoff i)
  rw [ico_split (a := b + 64 * j) (b := b + 64 * j + 64) (c := b + 64 * n) (by omega) (by omega), ico_fin,
    show b + 64 * (j + 1) = b + 64 * j + 64 by omega]
  iintro ⟨#Hinv, ⟨Hin, Hrest⟩, HB⟩ Hk
  iapply (BatchStream.wp_scatterBatch countersEmb 𝒱₀ (V d c s) none (src := rowWin off inb) (dst := allRows oV) (hg := gathers_S16384x128_S64x128)
    (offs := listWin lof linb) (q := fullShare) (qo := fullShare) (fs := G) (fo := L)
    (none : HIx 1) (N := 4096) (n := N) (j := b + 64 * j) (u := 0) (D := fun T : Fin N => sRes d c s lp γ L G full T.val)
    (inv κ (shared d c s N γ r I Tgt)) (fun i : Fin 64 => count countersEmb (γ (b + 64 * j + i.val)) 0)
    (fun i : Fin 64 => count countersEmb (γ (b + 64 * j + i.val)) full)
    hin (fun i => credit_out) (by show b + 64 * j + 64 ≤ N; omega) (Nat.zero_le _) ?hW ?hD) $$ [Hin HB]
  case hW =>
    intro i
    refine scatter_update d c s (T := ⟨b + 64 * j + i.val, hlt i⟩) (hρ i) _ (hS' i).2.1 ?_
    intro x z hz0 hz1
    obtain ⟨y, hy0, hy1, hy⟩ := scatter_payload d c s (G := G) (inb := inb) hoff i x
    exact hy.trans ((hS' i).2.2 y z hy0 hz0 (hz1.trans hy1.symm))
  case hD =>
    intro i
    unfold sRes
    iintro ⟨⟨H1, H2⟩, H3⟩
    isplitl [H1 H2]
    · isplitl [H1]; · iexact H1
      iapply (Entails.of_eq (he i)); iexact H2
    · iapply (Entails.of_eq (hr₀ i)); iexact H3
  · isplitr; · iexact Hinv
    isplitl [Hin]
    · iapply (Entails.of_eq (BI.bigSep_congr fun (i : Fin 64) _ => show sRes d c s lp γ L G 0 (b + 64 * j + i.val) = _ from by
        unfold sRes; rw [← hr₀ i, ← he i]; rfl)) $$ Hin
    · iexact HB
  iintro HB
  iapply Hk
  isplitl [Hrest]; · iexact Hrest
  iexact HB

/-- A loop firing a list's scatters. -/
theorem scatter_loop {Lp : Scf.Loop 32} {α : Type} {ok : Lp.OK} {init : BitVec 32}
    {body : Fin Lp.trips → BitVec 32 → Prog (TpuEff nD τ sig (Elt F) Λ₀ (Proc.scVector c s)) (BitVec 32)}
    {kk : BitVec 32 → Prog (TpuEff nD τ sig (Elt F) Λ₀ (Proc.scVector c s)) α} {Q : α → sProp 𝕄} (hn : Lp.trips = n) {lb : ℕ}
    (hN : b + 64 * n ≤ N)
    (off : Fin Lp.trips → Fin 2 → ℕ) (inb : ∀ t a, off t a + S64x128.size a ≤ S768x128.size a)
    (lof : Fin Lp.trips → Fin 1 → ℕ) (linb : ∀ t a, lof t a + S64.size a ≤ S2304.size a)
    (hoff : ∀ t : Fin Lp.trips, t.val < n → off t = ![b + 64 * t.val, 0]) (hlof : ∀ t : Fin Lp.trips, t.val < n → lof t = ![lb + 64 * t.val])
    (hlp : ∀ i, i < 64 * n → lp (b + i) = lb + i) (hr : S16384x128.StreamRows 0) (hS : Sends d c s b n lp r L G I Tgt)
    (hbody : ∀ t acc, body t acc = (SparseCore.enqueueIndirectScatter rfl (rowWin (off t) (inb t)) (allRows oV) gathers_S16384x128_S64x128
      (listWin (lof t) (linb t)) rfl sem rfl (Or.inl rfl) hr >>= fun _ => pure 0#32)) :
    iprop(inv κ (shared d c s N γ r I Tgt) ∗ bigSep (Finset.Ico b (b + 64 * n)) (sRes d c s lp γ L G 0)
        ∗ Batch countersEmb (V d c s) (.dma sem) (none : HIx 1) 4096 (fun T : Fin N => sRes d c s lp γ L G full T.val) b 0)
      ⊢ iprop((∀ acc, Batch countersEmb (V d c s) (.dma sem) (none : HIx 1) 4096 (fun T : Fin N => sRes d c s lp γ L G full T.val) (b + 64 * n) 0
          -∗ twp d c s (kk acc) Q)
        -∗ twp d c s (Lp.for ok init body >>= kk) Q) := by
  iintro ⟨#Hinv, H, HB⟩ Hk
  iapply (loop_inv d c s (fun j => iprop(inv κ (shared d c s N γ r I Tgt) ∗ bigSep (Finset.Ico (b + 64 * j) (b + 64 * n)) (sRes d c s lp γ L G 0)
      ∗ Batch countersEmb (V d c s) (.dma sem) (none : HIx 1) 4096 (fun T : Fin N => sRes d c s lp γ L G full T.val) (b + 64 * j) 0)) n hn ?hb) $$ [H HB]
  case hb =>
    intro t acc ht
    rw [hbody]
    iintro ⟨#Hinv, H, HB⟩
    iapply (scatter_fire d c s ht hN (hoff t ht) (hlof t ht) hlp hS) $$ [H HB]
    · isplitr; · iexact Hinv
      isplitl [H] <;> iassumption
    iintro ⟨H, HB⟩
    simp only [Prog.pure_eq_ret]
    iapply (twp_ret d c s)
    isplitr; · iexact Hinv
    isplitl [H] <;> iassumption
  · isplitr; · iexact Hinv
    isplitl [H]; · iexact H
    iexact HB
  iintro %acc ⟨-, -, HB⟩
  iapply Hk
  iexact HB

end Scatter

end Cert.Proof.Tile

end
-- ==== Proof.Grouping.lean ====
/-
  THE GROUPING, run by one tile: its 512 ids fetched, the four counters zeroed, and sixteen ids per trip sorted into the four
  lists. Afterwards the counters hold the four lengths and the lists every row of the tile at its place.
-/
module

public import proofs.«01_k».proof.Proof.Streams

@[expose] public section

noncomputable section

namespace Cert.Proof.Tile

open Cert.KernelIdeal Cert.KernelIdeal.Gen
open Cert.Proof.Group (Cnt Grp Lst tot)
open Idealize.ShloMosaic
open Idealize.ShloMosaic.SparseCore (S V T)
open Idealize.ShloMosaic.SparseCore.Cfg (HIx)
open Idealize.ShloMosaic.Transfers (Batch MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Where the tile sits -/

variable (d : Dev nD) (i : grid0.Coords)

/-- The tile's SparseCore, -/
abbrev ci : Fin τ.nSC := (i 0).castLE hcore0
/-- its place in it, -/
abbrev si : Fin τ.nSub := (i 1).castLE hsub0
/-- and the first of its rows. -/
abbrev rowBase : ℕ := 1024 * (i 1).val + 512 * (i 0).val

theorem rowBase_le : rowBase i + 512 ≤ 16384 := by
  have h0 : (i 0).val < 2 := (i 0).isLt
  have h1 : (i 1).val < 16 := (i 1).isLt
  unfold rowBase; omega

/-- The four tables. -/
abbrev t0V : Memref sig .scVector .hbm S16384x128 .f32 := Memref.whole main_arg0_scv
abbrev t1V : Memref sig .scVector .hbm S16384x128 .f32 := Memref.whole main_arg1_scv
abbrev t2V : Memref sig .scVector .hbm S16384x128 .f32 := Memref.whole main_arg2_scv
abbrev t3V : Memref sig .scVector .hbm S16384x128 .f32 := Memref.whole main_arg3_scv
theorem trip_lt (t : Fin k0_t1_loop.trips) : t.val < 32 := lt_of_lt_of_eq t.isLt (by decide)

theorem off2_eq (t : Fin k0_t1_loop.trips) : k0_off2 t = ![16 * t.val] := by
  have := trip_lt t
  revert t
  decide

theorem pay4_eq (t : Fin k0_t1_loop.trips) (x : S16.Idx) :
    (k0_pay4 i t : IVec S16 32) x = BitVec.ofNat 32 (rowBase i + (16 * t.val + (x 0).val)) := by
  have h0 : (i 0).val < 2 := (i 0).isLt
  have h1 : (i 1).val < 16 := (i 1).isLt
  have hx : (x 0).val < 16 := (x 0).isLt
  have ht := trip_lt t
  have e : (k0_pay4 i t : IVec S16 32) x
      = ((BitVec.ofNat 32 (i 1).val * 2#32 + BitVec.ofNat 32 (i 0).val) * 512#32 + (Scf.iv 0#32 1#32 t) * 16#32) + BitVec.ofNat 32 (0 * 16 + (x 0).val) := rfl
  rw [e]
  apply BitVec.eq_of_toNat_eq
  simp only [BitVec.toNat_add, BitVec.toNat_mul, BitVec.toNat_ofNat, Scf.iv, rowBase]
  omega

/-! ## Loads and stores of a scratch held whole -/

section Whole

variable (c : Fin τ.nSC) (s : Fin τ.nSub) {α : Type}

theorem idx_unit {sh : Shape} {off : Fin sh.rank → ℕ} {size : Fin sh.rank → ℕ} (inb : ∀ a, off a + size a ≤ sh.size a)
    (x : (Rect.unit (s := sh) off size inb).toLoadRect.shape.Idx) (a : Fin sh.rank) :
    (((Rect.unit (s := sh) off size inb).toLoadRect.idx x) a).val = off a + (x a).val := by
  rw [LoadRect.idx_apply]
  show off a + 1 * (x a).val = _
  rw [Nat.one_mul]

theorem load_ids {Q : α → sProp 𝕄} {off : Fin 1 → ℕ} {inb : ∀ a, off a + S16.size a ≤ S512.size a} {hl : (cV).view.LoadsAt (Rect.unit (s := S512) off S16.size inb).toLoadRect}
    {k : Vec F S16 .i32 → Prog (TpuEff nD τ sig (Elt F) Λ₀ (Proc.scVector c s)) α} (C : Buf (Elt F) (cLoc d c s)) :
    (cLoc d c s ↦{fullShare} C : sProp 𝕄)
      ⊢ iprop(((cLoc d c s ↦{fullShare} C) -∗ twp d c s (k (fun x => C ((Rect.unit (s := S512) off S16.size inb).toLoadRect.idx x))) Q)
        -∗ twp d c s (.op (.load cV (Rect.unit (s := S512) off S16.size inb).toLoadRect hl) k) Q) := by
  have hr : cV.view.readAt (Elt F) (Rect.unit (s := S512) off S16.size inb).toLoadRect C
      = fun x => C ((Rect.unit (s := S512) off S16.size inb).toLoadRect.idx x) := by
    funext x; rw [View.readAt_apply]; rfl
  iintro H Hk
  iapply (wp_load 𝒱₀ (V d c s) none Set.univ (m := cV) (S := Finset.univ) (Finset.subset_univ _)) $$ H
  iintro H
  rw [hr]
  iapply Hk $$ H

theorem load_cnt {Q : α → sProp 𝕄} {off : Fin 1 → ℕ} {inb : ∀ a, off a + S16.size a ≤ S16.size a} {hl : (nV).view.LoadsAt (Rect.unit (s := S16) off S16.size inb).toLoadRect}
    {k : Vec F S16 .i32 → Prog (TpuEff nD τ sig (Elt F) Λ₀ (Proc.scVector c s)) α} (f : Buf (Elt F) (nLoc d c s)) :
    (nLoc d c s ↦{fullShare} f : sProp 𝕄)
      ⊢ iprop(((nLoc d c s ↦{fullShare} f) -∗ twp d c s (k (fun x => f ((Rect.unit (s := S16) off S16.size inb).toLoadRect.idx x))) Q)
        -∗ twp d c s (.op (.load nV (Rect.unit (s := S16) off S16.size inb).toLoadRect hl) k) Q) := by
  have hr : nV.view.readAt (Elt F) (Rect.unit (s := S16) off S16.size inb).toLoadRect f
      = fun x => f ((Rect.unit (s := S16) off S16.size inb).toLoadRect.idx x) := by
    funext x; rw [View.readAt_apply]; rfl
  iintro H Hk
  iapply (wp_load 𝒱₀ (V d c s) none Set.univ (m := nV) (S := Finset.univ) (Finset.subset_univ _)) $$ H
  iintro H
  rw [hr]
  iapply Hk $$ H

theorem load_list {Q : α → sProp 𝕄} {off : Fin 1 → ℕ} {inb : ∀ a, off a + S16.size a ≤ S2304.size a} {hl : (lV).view.LoadsAt (Rect.unit (s := S2304) off S16.size inb).toLoadRect}
    {k : Vec F S16 .i32 → Prog (TpuEff nD τ sig (Elt F) Λ₀ (Proc.scVector c s)) α} (L : Buf (Elt F) (lLoc d c s)) :
    (lLoc d c s ↦{fullShare} L : sProp 𝕄)
      ⊢ iprop(((lLoc d c s ↦{fullShare} L) -∗ twp d c s (k (fun x => L ((Rect.unit (s := S2304) off S16.size inb).toLoadRect.idx x))) Q)
        -∗ twp d c s (.op (.load lV (Rect.unit (s := S2304) off S16.size inb).toLoadRect hl) k) Q) := by
  have hr : lV.view.readAt (Elt F) (Rect.unit (s := S2304) off S16.size inb).toLoadRect L
      = fun x => L ((Rect.unit (s := S2304) off S16.size inb).toLoadRect.idx x) := by
    funext x; rw [View.readAt_apply]; rfl
  iintro H Hk
  iapply (wp_load 𝒱₀ (V d c s) none Set.univ (m := lV) (S := Finset.univ) (Finset.subset_univ _)) $$ H
  iintro H
  rw [hr]
  iapply Hk $$ H

theorem gather_cnt {Q : α → sProp 𝕄} {t : Shape} {idxs : Fin 1 → IVec t 32} {h : ∀ a x, (idxs a x).toNat < S16.size a} {hl : (nV).view.Loads}
    {k : Vec F t .i32 → Prog (TpuEff nD τ sig (Elt F) Λ₀ (Proc.scVector c s)) α} (f : Buf (Elt F) (nLoc d c s)) :
    (nLoc d c s ↦{fullShare} f : sProp 𝕄)
      ⊢ iprop(((nLoc d c s ↦{fullShare} f) -∗ twp d c s (k (loadIdx (s := S16) (f : Vec F S16 .i32) idxs h)) Q)
        -∗ twp d c s (SparseCore.vectorLoadIdx nV idxs h hl >>= k) Q) := by
  have e := SparseCore.wp_vectorLoadIdx (F := F) (defs := defs₀ (F := F)) 𝒱₀ (V d c s) none Set.univ (base := nV) (idxs := idxs) (h := h) (hl := hl)
    (k := k) (Q := Q) (S := Finset.univ) (q := fullShare) (f := f) (Finset.subset_univ _)
  have hr : (nV.access (.whole S16)).read (Elt F) f = f := Memref.read_access_whole (Elt F) cc0_scratch2 f
  rwa [hr] at e

theorem gather_list {Q : α → sProp 𝕄} {t : Shape} {idxs : Fin 1 → IVec t 32} {h : ∀ a x, (idxs a x).toNat < S2304.size a} {hl : (lV).view.Loads}
    {k : Vec F t .i32 → Prog (TpuEff nD τ sig (Elt F) Λ₀ (Proc.scVector c s)) α} (f : Buf (Elt F) (lLoc d c s)) :
    (lLoc d c s ↦{fullShare} f : sProp 𝕄)
      ⊢ iprop(((lLoc d c s ↦{fullShare} f) -∗ twp d c s (k (loadIdx (s := S2304) (f : Vec F S2304 .i32) idxs h)) Q)
        -∗ twp d c s (SparseCore.vectorLoadIdx lV idxs h hl >>= k) Q) := by
  have e := SparseCore.wp_vectorLoadIdx (F := F) (defs := defs₀ (F := F)) 𝒱₀ (V d c s) none Set.univ (base := lV) (idxs := idxs) (h := h) (hl := hl)
    (k := k) (Q := Q) (S := Finset.univ) (q := fullShare) (f := f) (Finset.subset_univ _)
  have hr : (lV.access (.whole S2304)).read (Elt F) f = f := Memref.read_access_whole (Elt F) cc0_scratch1 f
  rwa [hr] at e

theorem scatter_cnt {Q : α → sProp 𝕄} {n : Fin 1 → ℕ} {idxs : Fin 1 → IVec ⟨1, n⟩ 32} {v : Vec F ⟨1, n⟩ .i32} {mask : IVec ⟨1, n⟩ 1}
    {h : ∀ a x, (idxs a x).toNat < S16.size a} {hs : (nV.access (.whole S16)).Stores Finset.univ}
    {k : PUnit → Prog (TpuEff nD τ sig (Elt F) Λ₀ (Proc.scVector c s)) α} (f : Buf (Elt F) (nLoc d c s)) :
    (nLoc d c s ↦{fullShare} f : sProp 𝕄)
      ⊢ iprop(((nLoc d c s ↦{fullShare} (storeIdx (s := S16) (f : Vec F S16 .i32) idxs v mask false h)) -∗ twp d c s (k ⟨⟩) Q)
        -∗ twp d c s (SparseCore.vectorStoreIdx nV idxs v mask false h hs >>= k) Q) := by
  have e := SparseCore.wp_vectorStoreIdx (F := F) (defs := defs₀ (F := F)) 𝒱₀ (V d c s) none Set.univ (base := nV) (idxs := idxs) (v := v) (mask := mask)
    (add := false) (h := h) (hs := hs) (k := k) (Q := Q) (f := f)
  have hr : (nV.access (.whole S16)).read (Elt F) f = f := Memref.read_access_whole (Elt F) cc0_scratch2 f
  rw [hr] at e
  have hw : ∀ w, (nV.access (.whole S16)).write (Elt F) f w Finset.univ = w := fun w => Memref.write_access_whole_univ (Elt F) cc0_scratch2 f w
  rw [hw] at e
  have hset : (nV.access (.whole S16)).set = Finset.univ := Memref.set_access_whole cc0_scratch2
  rwa [hset] at e

theorem scatter_list {Q : α → sProp 𝕄} {n : Fin 1 → ℕ} {idxs : Fin 1 → IVec ⟨1, n⟩ 32} {v : Vec F ⟨1, n⟩ .i32} {mask : IVec ⟨1, n⟩ 1}
    {h : ∀ a x, (idxs a x).toNat < S2304.size a} {hs : (lV.access (.whole S2304)).Stores Finset.univ}
    {k : PUnit → Prog (TpuEff nD τ sig (Elt F) Λ₀ (Proc.scVector c s)) α} (f : Buf (Elt F) (lLoc d c s)) :
    (lLoc d c s ↦{fullShare} f : sProp 𝕄)
      ⊢ iprop(((lLoc d c s ↦{fullShare} (storeIdx (s := S2304) (f : Vec F S2304 .i32) idxs v mask false h)) -∗ twp d c s (k ⟨⟩) Q)
        -∗ twp d c s (SparseCore.vectorStoreIdx lV idxs v mask false h hs >>= k) Q) := by
  have e := SparseCore.wp_vectorStoreIdx (F := F) (defs := defs₀ (F := F)) 𝒱₀ (V d c s) none Set.univ (base := lV) (idxs := idxs) (v := v) (mask := mask)
    (add := false) (h := h) (hs := hs) (k := k) (Q := Q) (f := f)
  have hr : (lV.access (.whole S2304)).read (Elt F) f = f := Memref.read_access_whole (Elt F) cc0_scratch1 f
  rw [hr] at e
  have hw : ∀ w, (lV.access (.whole S2304)).write (Elt F) f w Finset.univ = w := fun w => Memref.write_access_whole_univ (Elt F) cc0_scratch1 f w
  rw [hw] at e
  have hset : (lV.access (.whole S2304)).set = Finset.univ := Memref.set_access_whole cc0_scratch1
  rwa [hset] at e

/-- A store of sixteen places: what it writes, and what it leaves. -/
theorem store_cnt {Q : α → sProp 𝕄} {off : Fin 1 → ℕ} {inb : ∀ a, off a + S16.size a ≤ S16.size a} {w : Vec F S16 .i32}
    {hx : (nV.access (Rect.unit (s := S16) off S16.size inb)).Stores Finset.univ} {hm}
    {k : PUnit → Prog (TpuEff nD τ sig (Elt F) Λ₀ (Proc.scVector c s)) α} (f : Buf (Elt F) (nLoc d c s)) :
    (nLoc d c s ↦{fullShare} f : sProp 𝕄)
      ⊢ iprop((∀ f' : Buf (Elt F) (nLoc d c s), ⌜∀ x : S16.Idx, f' ((nV.access (Rect.unit (s := S16) off S16.size inb)).emb x) = w x⌝ -∗ (nLoc d c s ↦{fullShare} f') -∗ twp d c s (k ⟨⟩) Q)
        -∗ twp d c s (.op (.store nV (Rect.unit (s := S16) off S16.size inb) w Finset.univ hx hm) k) Q) := by
  iintro H Hk
  iapply (wp_store 𝒱₀ (V d c s) none Set.univ (m := nV) (r := Rect.unit (s := S16) off S16.size inb) (Mk := Finset.univ) (S := Finset.univ) (Finset.subset_univ _)) $$ H
  iintro H
  iapply Hk $$ %_ [] H
  ipureintro; intro x
  exact View.write_emb_of_mem _ _ (Finset.mem_univ x)

theorem store_list {Q : α → sProp 𝕄} {off : Fin 1 → ℕ} {inb : ∀ a, off a + S16.size a ≤ S2304.size a} {w : Vec F S16 .i32}
    {hx : (lV.access (Rect.unit (s := S2304) off S16.size inb)).Stores Finset.univ} {hm}
    {k : PUnit → Prog (TpuEff nD τ sig (Elt F) Λ₀ (Proc.scVector c s)) α} (f : Buf (Elt F) (lLoc d c s)) :
    (lLoc d c s ↦{fullShare} f : sProp 𝕄)
      ⊢ iprop((∀ f' : Buf (Elt F) (lLoc d c s),
            ⌜(∀ x : S16.Idx, f' ((Rect.unit (s := S2304) off S16.size inb).emb x) = w x)
              ∧ ∀ j : S2304.Idx, (∀ x : S16.Idx, (Rect.unit (s := S2304) off S16.size inb).emb x ≠ j) → f' j = f j⌝
            -∗ (lLoc d c s ↦{fullShare} f') -∗ twp d c s (k ⟨⟩) Q)
        -∗ twp d c s (.op (.store lV (Rect.unit (s := S2304) off S16.size inb) w Finset.univ hx hm) k) Q) := by
  iintro H Hk
  iapply (wp_store 𝒱₀ (V d c s) none Set.univ (m := lV) (r := Rect.unit (s := S2304) off S16.size inb) (Mk := Finset.univ) (S := Finset.univ) (Finset.subset_univ _)) $$ H
  iintro H
  iapply Hk $$ %_ [] H
  ipureintro
  constructor
  · intro x
    exact View.write_emb_of_mem (v := lV.access (Rect.unit (s := S2304) off S16.size inb)) _ _ (Finset.mem_univ x)
  · intro j hj
    refine View.write_of_not_mem _ _ _ ?_
    intro hmem
    obtain ⟨x, -, hx⟩ := Finset.mem_map.mp hmem
    exact hj x hx

end Whole

/-! ## One trip of the grouping -/

variable (cc : ℕ → ℕ)

/-- `n` rows sorted: the fetched ids, the counters, the lists. -/
def Sorted (C : Buf (Elt F) (cLoc d (ci i) (si i))) (n : ℕ) : sProp 𝕄 :=
  iprop((cLoc d (ci i) (si i) ↦{fullShare} C)
    ∗ (∃ f : Buf (Elt F) (nLoc d (ci i) (si i)), ⌜Cnt cc n f⌝ ∗ (nLoc d (ci i) (si i) ↦{fullShare} f))
    ∗ (∃ L : Buf (Elt F) (lLoc d (ci i) (si i)), ⌜Grp cc (rowBase i) n L⌝ ∗ (lLoc d (ci i) (si i) ↦{fullShare} L)))

/-- The fetched ids are the rows'. -/
def Ids (C : S512.Idx → BitVec 32) : Prop := ∀ x : S512.Idx, C x = BitVec.ofNat 32 (cc (x 0).val)

theorem group_trip (hc : ∀ r, cc r < 4) {C : Buf (Elt F) (cLoc d (ci i) (si i))} (hC : Ids cc C) (t : Fin k0_t1_loop.trips) (acc : Unit) :
    Sorted d i cc C (16 * t.val) ⊢ twp d (ci i) (si i)
      (k0_t1_body i t0V (Memref.isWhole_whole _) t1V (Memref.isWhole_whole _) t2V (Memref.isWhole_whole _) t3V (Memref.isWhole_whole _)
        idV (Memref.isWhole_whole _) oV (Memref.isWhole_whole _) cV (Memref.isWhole_whole _) lV (Memref.isWhole_whole _) nV (Memref.isWhole_whole _)
        rV (Memref.isWhole_whole _) cc0_scratch4 cc0_scratch5 cc0_scratch6 cc0_scoped0 t acc)
      (fun _ => Sorted d i cc C (16 * (t.val + 1))) := by
  have ht := trip_lt t
  unfold k0_t1_body Sorted
  simp only [Prog.lift, Prog.bind_op, Prog.bind_ret, Prog.pure_eq_ret]
  iintro ⟨HC, ⟨%f, %hf, Hf⟩, %L, %hL, HL⟩
  iapply (load_ids d (ci i) (si i) C) $$ HC
  iintro HC
  have hv : ∀ x : S16.Idx, (fun x => C ((Rect.unit (s := S512) (k0_off2 t) S16.size (k0_off2_inb t)).toLoadRect.idx x) : Vec F S16 .i32) x
      = BitVec.ofNat 32 (cc (16 * t.val + (x 0).val)) := fun x => by
    refine (hC _).trans ?_
    rw [idx_unit, show k0_off2 t 0 = 16 * t.val from congrFun (off2_eq t) 0]
  generalize (fun x => C ((Rect.unit (s := S512) (k0_off2 t) S16.size (k0_off2_inb t)).toLoadRect.idx x) : Vec F S16 .i32) = v at hv
  have h1 := Group.chk1 cc t.val hc v hv
  unfold twp
  rw [wp_assume_of _ _ _ _ h1]
  iapply (gather_cnt d (ci i) (si i) f) $$ Hf
  iintro Hf
  have h2 := Group.chk2 cc t.val ht hc v hv hf h1.1
  unfold twp
  rw [wp_assume_of _ _ _ _ h2]
  iapply (scatter_list d (ci i) (si i) L) $$ HL
  iintro HL
  iapply (scatter_cnt d (ci i) (si i) f) $$ Hf
  iintro Hf
  iapply (twp_ret d (ci i) (si i))
  isplitl [HC]; · iexact HC
  isplitl [Hf]
  · iexists _; isplitr
    swap; · iexact Hf
    ipureintro
    exact Group.step_cnt cc t.val hc v hv hf _ _
  · iexists _; isplitr
    swap; · iexact HL
    ipureintro
    exact Group.step_list cc (rowBase i) t.val ht hc v hv hf hL _ (pay4_eq i t) _ _

/-! ## The first part of the tile's program -/

abbrev idLoc : Loc nD τ sig := (idV).view.loc (V d (ci i) (si i))

/-- The tile's window of the ids. -/
abbrev idWin : Memref sig .scVector .hbm S512 .i32 :=
  idV.slice (Rect.unit (s := S16384) (k0_off1 i) S512.size (k0_off1_inb i)) (fun _ => rfl)

/-- The ids, as the tile's rows have them. -/
def IdsAt (iv : Buf (Elt F) (idLoc d i)) : Prop := ∀ x : S512.Idx, iv ((idWin i).view.emb x) = BitVec.ofNat 32 (cc (x 0).val)

theorem fetched {iv : Buf (Elt F) (idLoc d i)} (h : IdsAt d i cc iv) (f : Buf (Elt F) (cLoc d (ci i) (si i))) :
    Ids cc ((cV).view.write (Elt F) f ((idWin i).view.read (Elt F) iv) Finset.univ) := fun x =>
  (congrFun (View.write_whole_univ cc0_scratch0 f ((idWin i).view.read (Elt F) iv)) x).trans ((View.read_apply _ _).trans ((cast_eq _ _).trans (h x)))

theorem whole_emb (j : S16.Idx) : (nV.access (Rect.unit (s := S16) ![0] S16.size inb_S16_S16_0)).emb j = j := by
  funext a
  obtain rfl : a = 0 := Fin.eq_zero a
  apply Fin.ext
  show ((Rect.unit (s := S16) ![0] S16.size inb_S16_S16_0).emb j 0).val = _
  rw [Rect.emb_apply]
  show 0 + 1 * (j 0).val = _
  omega

/-- The four lengths, taken out of the counters. -/
theorem word0 (v : Vec F S16 .i32) (h : ∀ (k : ℕ) (j : S16.Idx), (j 0).val = k → v j = BitVec.ofNat 32 (tot cc 512 k)) :
    extractAt ![0] (k0_pay10 v) inpos_S1_p0 = BitVec.ofNat 32 (tot cc 512 0) := h 0 _ rfl
theorem word1 (v : Vec F S16 .i32) (h : ∀ (k : ℕ) (j : S16.Idx), (j 0).val = k → v j = BitVec.ofNat 32 (tot cc 512 k)) :
    extractAt ![0] (k0_pay11 v) inpos_S1_p0 = BitVec.ofNat 32 (tot cc 512 1) := h 1 _ rfl
theorem word2 (v : Vec F S16 .i32) (h : ∀ (k : ℕ) (j : S16.Idx), (j 0).val = k → v j = BitVec.ofNat 32 (tot cc 512 k)) :
    extractAt ![0] (k0_pay12 v) inpos_S1_p0 = BitVec.ofNat 32 (tot cc 512 2) := h 2 _ rfl
theorem word3 (v : Vec F S16 .i32) (h : ∀ (k : ℕ) (j : S16.Idx), (j 0).val = k → v j = BitVec.ofNat 32 (tot cc 512 k)) :
    extractAt ![0] (k0_pay13 v) inpos_S1_p0 = BitVec.ofNat 32 (tot cc 512 3) := h 3 _ rfl

theorem part1 {β : Type} (hc : ∀ r, cc r < 4) {q : PosShare TreeShare} {iv : Buf (Elt F) (idLoc d i)} (hiv : IdsAt d i cc iv)
    {O : CellTallies nD τ sig (HIx 1)} {W : Waits sig (HIx 1)} {Q : β → sProp 𝕄}
    {kk : (Σ' (v13 : BitVec 32) (k0_hw4 : k0_chk4 v13) (v15 : BitVec 32) (k0_hw6 : k0_chk6 v13 v15) (v17 : BitVec 32) (k0_hw8 : k0_chk8 v13 v15 v17) (v19 : BitVec 32) (k0_hw10 : k0_chk10 v13 v15 v17 v19) (v20 : BitVec 32) (c64_i32 : BitVec 32) (v21 : BitVec 32) (v26 : BitVec 32), BitVec 32) → Prog (TpuEff nD τ sig (Elt F) Λ₀ (Proc.scVector (ci i) (si i))) β} :
    iprop(MayWaits (V d (ci i) (si i)) (none : HIx 1) O ∗ (idLoc d i ↦[(idWin i).view.set]{q} iv)
        ∗ (∃ C : Buf (Elt F) (cLoc d (ci i) (si i)), cLoc d (ci i) (si i) ↦{fullShare} C)
        ∗ (∃ f : Buf (Elt F) (nLoc d (ci i) (si i)), nLoc d (ci i) (si i) ↦{fullShare} f)
        ∗ (∃ L : Buf (Elt F) (lLoc d (ci i) (si i)), lLoc d (ci i) (si i) ↦{fullShare} L)
        ∗ semVal (V d (ci i) (si i), SemLoc.dma cc0_scoped0.sem) 0
        ∗ OW d (ci i) (si i) O W)
      ⊢ iprop((∀ (a : BitVec 32) (ha : k0_chk4 a) (b : BitVec 32) (hb : k0_chk6 a b) (e : BitVec 32) (he : k0_chk8 a b e) (g : BitVec 32) (hg : k0_chk10 a b e g),
            ⌜a = BitVec.ofNat 32 (tot cc 512 0) ∧ b = BitVec.ofNat 32 (tot cc 512 1) ∧ e = BitVec.ofNat 32 (tot cc 512 2) ∧ g = BitVec.ofNat 32 (tot cc 512 3)⌝
            -∗ iprop((idLoc d i ↦[(idWin i).view.set]{q} iv)
              ∗ (∃ C : Buf (Elt F) (cLoc d (ci i) (si i)), cLoc d (ci i) (si i) ↦{fullShare} C)
              ∗ (∃ f : Buf (Elt F) (nLoc d (ci i) (si i)), nLoc d (ci i) (si i) ↦{fullShare} f)
              ∗ (∃ L : Buf (Elt F) (lLoc d (ci i) (si i)), ⌜Lst cc (rowBase i) 0 L⌝ ∗ (lLoc d (ci i) (si i) ↦{fullShare} L))
              ∗ semVal (V d (ci i) (si i), SemLoc.dma cc0_scoped0.sem) 0
              ∗ OW d (ci i) (si i) O W)
            -∗ twp d (ci i) (si i) (kk ⟨a, ha, b, hb, e, he, g, hg, Scalar.addi a 63#32, 64#32, Scalar.divsi (Scalar.addi a 63#32) 64#32,
                Scalar.subi (Scalar.extui (Scalar.cmpi .sgt (Scalar.addi a 63#32) 0#32)) (Scalar.extui (Scalar.cmpi .slt (Scalar.addi a 63#32) 0#32)), 0#32⟩) Q)
        -∗ twp d (ci i) (si i)
          (k0_part1_skel i t0V (Memref.isWhole_whole _) t1V (Memref.isWhole_whole _) t2V (Memref.isWhole_whole _) t3V (Memref.isWhole_whole _)
            idV (Memref.isWhole_whole _) oV (Memref.isWhole_whole _) cV (Memref.isWhole_whole _) lV (Memref.isWhole_whole _) nV (Memref.isWhole_whole _)
            rV (Memref.isWhole_whole _) cc0_scratch4 cc0_scratch5 cc0_scratch6 cc0_scoped0 >>= kk) Q) := by
  unfold k0_part1_skel OW
  iintro ⟨Hmw, Hi, ⟨%C, HC⟩, ⟨%f, Hf⟩, ⟨%L, HL⟩, Hsem, %W', %hW', HO⟩ Hk
  simp only [Prog.lift, Prog.bind_assoc, Prog.bind_op, Prog.bind_ret, Prog.pure_eq_ret]
  ihave Hi := (show (idLoc d i ↦[(idWin i).view.set]{q} iv : sProp 𝕄) ⊢ ((idWin i).view.loc (V d (ci i) (si i)) ↦[(idWin i).view.set]{q} iv) from .rfl) $$ Hi
  ihave HC := (show (cLoc d (ci i) (si i) ↦{fullShare} C : sProp 𝕄) ⊢ ((cV).view.loc (V d (ci i) (si i)) ↦{fullShare} C) from .rfl) $$ HC
  unfold twp
  sl_exec
  iapply (load_cnt d (ci i) (si i) f) $$ Hf
  iintro Hf
  iapply (store_cnt d (ci i) (si i) f) $$ Hf
  iintro %f0 %hf0 Hf
  have hz : Cnt cc 0 f0 := Cnt.zero cc fun j => by
    have := hf0 j
    rwa [show (nV.access (Rect.unit (s := S16) ![0] S16.size inb_S16_S16_0)).emb j = j from whole_emb j] at this
  iapply (loop_inv d (ci i) (si i) (fun n => Sorted d i cc ((cV).view.write (Elt F) C ((idWin i).view.read (Elt F) iv) Finset.univ) (16 * n)) 32 (by decide)
    fun t acc _ => group_trip d i cc hc (fetched d i cc hiv C) t acc) $$ [HC Hf HL]
  · unfold Sorted
    isplitl [HC]; · iexact HC
    isplitl [Hf]
    · iexists f0; isplitr
      · ipureintro; exact hz
      · iexact Hf
    · iexists L; isplitr
      · ipureintro; exact Grp.zero cc (rowBase i) L
      · iexact HL
  iintro %_ HS
  unfold Sorted
  icases HS with ⟨HC, ⟨%f1, %hf1, Hf⟩, %L1, %hL1, HL⟩
  iapply (load_cnt d (ci i) (si i) f1) $$ Hf
  iintro Hf
  have hload : ∀ (k : ℕ) (j : S16.Idx), (j 0).val = k → (fun x => f1 ((Rect.unit (s := S16) ![0] S16.size inb_S16_S16_0).toLoadRect.idx x) : Vec F S16 .i32) j
      = BitVec.ofNat 32 (tot cc 512 k) := fun k j hj => by
    refine (hf1 _).trans ?_
    rw [idx_unit]
    show BitVec.ofNat 32 (tot cc 512 (0 + (j 0).val)) = _
    rw [hj, Nat.zero_add]
  generalize (fun x => f1 ((Rect.unit (s := S16) ![0] S16.size inb_S16_S16_0).toLoadRect.idx x) : Vec F S16 .i32) = v at hload
  have ea := word0 cc v hload
  have eb := word1 cc v hload
  have ee := word2 cc v hload
  have eg := word3 cc v hload
  have hs := Group.tot_sum cc hc 512
  have toN : ∀ k, (BitVec.ofNat 32 (tot cc 512 k)).toNat = tot cc 512 k := fun k => by
    rw [BitVec.toNat_ofNat, Nat.mod_eq_of_lt]
    have := Group.tot_le cc 512 k; omega
  have h4 : k0_chk4 (extractAt ![0] (k0_pay10 v) inpos_S1_p0) := Words.chk4 (by rw [ea, toN]; omega)
  have h6 : k0_chk6 (extractAt ![0] (k0_pay10 v) inpos_S1_p0) (extractAt ![0] (k0_pay11 v) inpos_S1_p0) := Words.chk6 (by rw [ea, eb, toN, toN]; omega)
  have h8 : k0_chk8 (extractAt ![0] (k0_pay10 v) inpos_S1_p0) (extractAt ![0] (k0_pay11 v) inpos_S1_p0) (extractAt ![0] (k0_pay12 v) inpos_S1_p0) :=
    Words.chk8 (by rw [ea, eb, ee, toN, toN, toN]; omega)
  have h10 : k0_chk10 (extractAt ![0] (k0_pay10 v) inpos_S1_p0) (extractAt ![0] (k0_pay11 v) inpos_S1_p0) (extractAt ![0] (k0_pay12 v) inpos_S1_p0)
      (extractAt ![0] (k0_pay13 v) inpos_S1_p0) := Words.chk10 (by rw [ea, eb, ee, eg, toN, toN, toN, toN]; omega)
  unfold twp
  rw [wp_assume_of _ _ _ _ h4, wp_assume_of _ _ _ _ h6, wp_assume_of _ _ _ _ h8, wp_assume_of _ _ _ _ h10]
  iapply Hk $$ %_ %h4 %_ %h6 %_ %h8 %_ %h10 []
  · ipureintro; exact ⟨ea, eb, ee, eg⟩
  isplitl [Hi]; · iexact Hi
  isplitl [HC]; · iexists _; iexact HC
  isplitl [Hf]; · iexists _; iexact Hf
  isplitl [HL]
  · iexists L1; isplitr
    · ipureintro; exact Lst.zero cc (rowBase i) hL1
    · iexact HL
  isplitl [Hsem]; · iexact Hsem
  iexists _; isplitr
  swap; · iexact HO
  ipureintro; intro p hp
  rcases Finset.mem_insert.mp hp with hp | hp
  · exact .inr (hp ▸ rfl)
  · exact hW' p hp

end Cert.Proof.Tile

end
-- ==== Proof.Padding.lean ====
/-
  THE PADDING, run by one tile: behind each list sixty-four places are filled with the list's last row, so that a window
  of sixty-four begun inside the list names rows of the list only.
-/
module

public import proofs.«01_k».proof.Proof.Grouping

@[expose] public section

noncomputable section

namespace Cert.Proof.Tile

open Cert.KernelIdeal Cert.KernelIdeal.Gen
open Cert.Proof.Group (Cnt Grp Lst tot Good padAt)
open Idealize.ShloMosaic
open Idealize.ShloMosaic.SparseCore (S V T)
open Idealize.ShloMosaic.SparseCore.Cfg (HIx)
open Idealize.ShloMosaic.Transfers (Batch MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords) (cc : ℕ → ℕ)

/-- The word of the last place of a list of `v` ids kept from place `b` (of `b` itself, if it has none). -/
theorem lastWord (b v : BitVec 32) (hb : b.toNat ≤ 1728) (hv : v.toNat ≤ 512) :
    (Scalar.addi b (Scalar.maxsi (Scalar.subi v 1#32) 0#32)).toNat = b.toNat + (v.toNat - 1) := by
  unfold Scalar.addi Scalar.maxsi Scalar.subi IntOp.addi IntOp.maxsi IntOp.subi
  by_cases h0 : v.toNat = 0
  · obtain rfl : v = 0#32 := BitVec.eq_of_toNat_eq h0
    rw [show (if (0#32).slt (0#32 - 1#32) then 0#32 - 1#32 else 0#32) = 0#32 from by decide]
    simp
  · have h1 : (v - 1#32).toNat = v.toNat - 1 := by
      rw [BitVec.toNat_sub]; simp only [BitVec.toNat_ofNat]; omega
    by_cases h2 : v.toNat = 1
    · obtain rfl : v = 1#32 := BitVec.eq_of_toNat_eq h2
      rw [show (if (0#32).slt (1#32 - 1#32) then 1#32 - 1#32 else 0#32) = 0#32 from by decide]
      simp
    · rw [if_pos (by
        rw [BitVec.slt_eq_decide, decide_eq_true_eq, BitVec.toInt_eq_toNat_of_lt (x := v - 1#32) (by rw [h1]; omega), h1]
        show (0 : ℤ) < _; omega), BitVec.toNat_add, h1]
      omega

/-- The lists, their first `t` stores of padding done. -/
def Padded (t : ℕ) : sProp 𝕄 :=
  iprop(∃ L : Buf (Elt F) (lLoc d (ci i) (si i)), ⌜Lst cc (rowBase i) t L⌝ ∗ (lLoc d (ci i) (si i) ↦{fullShare} L))

/-- A store of sixteen words behind a list (the load before it is not used). -/
theorem pad_store {α : Type} {Q : α → sProp 𝕄} (hc : ∀ r, cc r < 4) {t : ℕ} (ht : t < 16) {off : Fin 1 → ℕ} {inb inb' : ∀ a, off a + S16.size a ≤ S2304.size a}
    (hoff : off 0 = padAt cc t) {w : Vec F S16 .i32} (hw : ∀ x : S16.Idx, Good cc (rowBase i) (t / 4) (w x))
    {hl : (lV).view.LoadsAt (Rect.unit (s := S2304) off S16.size inb).toLoadRect}
    {hx : (lV.access (Rect.unit (s := S2304) off S16.size inb')).Stores Finset.univ} {hm}
    {k : PUnit → Prog (TpuEff nD τ sig (Elt F) Λ₀ (Proc.scVector (ci i) (si i))) α} :
    Padded d i cc t
      ⊢ iprop((Padded d i cc (t + 1) -∗ twp d (ci i) (si i) (k ⟨⟩) Q)
        -∗ twp d (ci i) (si i) (.op (.load lV (Rect.unit (s := S2304) off S16.size inb).toLoadRect hl) fun _ =>
            .op (.store lV (Rect.unit (s := S2304) off S16.size inb') w Finset.univ hx hm) k) Q) := by
  unfold Padded
  iintro ⟨%L, %hL, HL⟩ Hk
  iapply (load_list d (ci i) (si i) L) $$ HL
  iintro HL
  iapply (store_list d (ci i) (si i) L) $$ HL
  iintro %L' %hL' HL
  iapply Hk
  iexists L'; isplitr
  swap; · iexact HL
  ipureintro
  have hemb : ∀ x : S16.Idx, ((Rect.unit (s := S2304) off S16.size inb').emb x 0).val = padAt cc t + (x 0).val := fun x => by
    rw [Rect.emb_apply, ← hoff]
    show off 0 + 1 * (x 0).val = _
    rw [Nat.one_mul]
  refine Group.pad_step cc (rowBase i) hc ht hL ?_ ?_
  · intro j h1 h2
    let x : S16.Idx := fun a => ⟨(j 0).val - padAt cc t, by obtain rfl : a = 0 := Fin.eq_zero a; show _ < 16; omega⟩
    have hx : (Rect.unit (s := S2304) off S16.size inb').emb x = j := by
      funext a
      obtain rfl : a = 0 := Fin.eq_zero a
      apply Fin.ext
      rw [hemb]
      show padAt cc t + ((j 0).val - padAt cc t) = (j 0).val
      omega
    rw [← hx, hL'.1 x]
    exact hw x
  · intro j hj
    refine hL'.2 j fun x hx => hj ?_
    rw [← hx, hemb]
    have : (x 0).val < 16 := (x 0).isLt
    omega

/-- The sixteen copies of a list's last word. -/
theorem pad_load {α : Type} {Q : α → sProp 𝕄} {t k : ℕ} {v : IVec S16 32} (hv : ∀ x : S16.Idx, (v x).toNat = 576 * k + (tot cc 512 k - 1))
    {h : ∀ a x, ((![v] : Fin 1 → IVec S16 32) a x).toNat < S2304.size a} {hl : (lV).view.Loads}
    {kk : Vec F S16 .i32 → Prog (TpuEff nD τ sig (Elt F) Λ₀ (Proc.scVector (ci i) (si i))) α} :
    Padded d i cc t
      ⊢ iprop((∀ w : Vec F S16 .i32, ⌜∀ x : S16.Idx, Good cc (rowBase i) k (w x)⌝ -∗ Padded d i cc t -∗ twp d (ci i) (si i) (kk w) Q)
        -∗ twp d (ci i) (si i) (SparseCore.vectorLoadIdx lV ![v] h hl >>= kk) Q) := by
  unfold Padded
  iintro ⟨%L, %hL, HL⟩ Hk
  iapply (gather_list d (ci i) (si i) L) $$ HL
  iintro HL
  iapply Hk $$ %_ []
  · ipureintro; intro x
    exact Group.good_last cc (rowBase i) hL.1 k _ fun _ => hv x
  iexists L; isplitr
  · ipureintro; exact hL
  · iexact HL

/-- Where the padding goes: the word of the place and its number. -/
theorem padWord_eq (hc : ∀ r, cc r < 4) {k : ℕ} (hk : k < 4) (r : Fin 4) {v : BitVec 32} (hv : v = BitVec.ofNat 32 (tot cc 512 k)) :
    (Scalar.addi (Scalar.addi (BitVec.ofNat 32 (576 * k)) v) (BitVec.ofNat 32 (16 * r.val))).toNat = padAt cc (4 * k + r.val) := by
  have ht := Group.tot_le cc 512 k
  have hr := r.isLt
  have hb : (BitVec.ofNat 32 (576 * k)).toNat = 576 * k := by rw [BitVec.toNat_ofNat]; omega
  have hvn : v.toNat = tot cc 512 k := by rw [hv, BitVec.toNat_ofNat]; omega
  rw [Words.padWord _ _ r (by rw [hb]; omega) (by rw [hvn]; omega), hb, hvn]
  show _ = 576 * ((4 * k + r.val) / 4) + tot cc 512 ((4 * k + r.val) / 4) + 16 * ((4 * k + r.val) % 4)
  rw [show (4 * k + r.val) / 4 = k by omega, show (4 * k + r.val) % 4 = r.val by omega]

/-- The index of a list's last word. -/
theorem lastWord_eq {k : ℕ} (hk : k < 4) {v : BitVec 32} (hv : v = BitVec.ofNat 32 (tot cc 512 k)) :
    (Scalar.addi (BitVec.ofNat 32 (576 * k)) (Scalar.maxsi (Scalar.subi v 1#32) 0#32)).toNat = 576 * k + (tot cc 512 k - 1) := by
  have ht := Group.tot_le cc 512 k
  have hb : (BitVec.ofNat 32 (576 * k)).toNat = 576 * k := by rw [BitVec.toNat_ofNat]; omega
  have hvn : v.toNat = tot cc 512 k := by rw [hv, BitVec.toNat_ofNat]; omega
  rw [lastWord _ _ (by rw [hb]; omega) (by rw [hvn]; omega), hb, hvn]

theorem lastWord_lt {k : ℕ} (hk : k < 4) {w : BitVec 32} (hw : w.toNat = 576 * k + (tot cc 512 k - 1)) (a : Fin 1) (x : S16.Idx) :
    ((![(broadcast S16 w : IVec S16 32)] : Fin 1 → IVec S16 32) a x).toNat < S2304.size a := by
  have ht := Group.tot_le cc 512 k
  obtain rfl : a = 0 := Fin.eq_zero a
  show w.toNat < 2304
  rw [hw]; omega

/-! ## The parts of the program that do it -/

theorem part2 {β : Type} {Q : β → sProp 𝕄} (v15 v17 v20 c64 v21 v26 c0 : BitVec 32)
    {kk : (Σ' (v37 : BitVec 32) (v55 : BitVec 32) (v57 : BitVec 32) (v68 : BitVec 1), BitVec 32) → Prog (TpuEff nD τ sig (Elt F) Λ₀ (Proc.scVector (ci i) (si i))) β} :
    (iprop(∀ v37 v55 v57 v68 v69, twp d (ci i) (si i) (kk ⟨v37, v55, v57, v68, v69⟩) Q) : sProp 𝕄)
      ⊢ twp d (ci i) (si i)
          (k0_part2_skel i t0V (Memref.isWhole_whole _) t1V (Memref.isWhole_whole _) t2V (Memref.isWhole_whole _) t3V (Memref.isWhole_whole _)
            idV (Memref.isWhole_whole _) oV (Memref.isWhole_whole _) cV (Memref.isWhole_whole _) lV (Memref.isWhole_whole _) nV (Memref.isWhole_whole _)
            rV (Memref.isWhole_whole _) cc0_scratch4 cc0_scratch5 cc0_scratch6 cc0_scoped0 v15 v17 v20 c64 v21 v26 c0 >>= kk) Q := by
  unfold k0_part2_skel
  simp only [Prog.pure_eq_ret, Prog.bind_ret]
  iintro H
  iapply H

theorem part3 {β : Type} {Q : β → sProp 𝕄} (hc : ∀ r, cc r < 4) {v13 : BitVec 32} (h13 : v13 = BitVec.ofNat 32 (tot cc 512 0)) (hw4 : k0_chk4 v13)
    (v19 v37 v55 v57 : BitVec 32) (v68 : BitVec 1) (v69 : BitVec 32)
    {kk : (Σ' (v73 : BitVec 32) (v91 : BitVec 32) (v92 : BitVec 32) (v94 : BitVec 32) (v97 : BitVec 32) (v102 : Vec F S16 .i32) (v107 : BitVec 32), BitVec 32) → Prog (TpuEff nD τ sig (Elt F) Λ₀ (Proc.scVector (ci i) (si i))) β} :
    Padded d i cc 0
      ⊢ iprop((∀ v73 v91 v92 v94 v97 (w : Vec F S16 .i32) v107 c16, ⌜∀ x : S16.Idx, Good cc (rowBase i) 0 (w x)⌝ -∗ Padded d i cc 1
            -∗ twp d (ci i) (si i) (kk ⟨v73, v91, v92, v94, v97, w, v107, c16⟩) Q)
        -∗ twp d (ci i) (si i)
          (k0_part3_skel i t0V (Memref.isWhole_whole _) t1V (Memref.isWhole_whole _) t2V (Memref.isWhole_whole _) t3V (Memref.isWhole_whole _)
            idV (Memref.isWhole_whole _) oV (Memref.isWhole_whole _) cV (Memref.isWhole_whole _) lV (Memref.isWhole_whole _) nV (Memref.isWhole_whole _)
            rV (Memref.isWhole_whole _) cc0_scratch4 cc0_scratch5 cc0_scratch6 cc0_scoped0 v13 hw4 v19 v37 v55 v57 v68 v69 >>= kk) Q) := by
  unfold k0_part3_skel
  simp only [Prog.lift, Prog.bind_assoc, Prog.bind_op, Prog.bind_ret, Prog.pure_eq_ret]
  iintro HP Hk
  have hw0 : (Scalar.addi 0#32 (Scalar.maxsi (Scalar.subi v13 1#32) 0#32)).toNat = 576 * 0 + (tot cc 512 0 - 1) := lastWord_eq cc (by decide) h13
  have hk0 : k0_chk3 (broadcast S16 (Scalar.addi 0#32 (Scalar.maxsi (Scalar.subi v13 1#32) 0#32))) := lastWord_lt cc (by decide) hw0
  unfold twp
  rw [wp_assume_of _ _ _ _ hk0]
  iapply (pad_load d i cc (k := 0) fun _ => hw0) $$ HP
  iintro %w0 %good0 HP
  iapply (pad_store d i cc hc (t := 0) (by decide) (padWord_eq cc hc (k := 0) (by decide) 0 h13) good0) $$ HP
  iintro HP
  iapply Hk $$ %_ %_ %_ %_ %_ %w0 %_ %_ [] HP
  ipureintro; exact good0

theorem part4 {β : Type} {Q : β → sProp 𝕄} (hc : ∀ r, cc r < 4) {v13 v15 : BitVec 32} (h13 : v13 = BitVec.ofNat 32 (tot cc 512 0)) (h15 : v15 = BitVec.ofNat 32 (tot cc 512 1))
    (hw4 : k0_chk4 v13) (hw6 : k0_chk6 v13 v15) (v17 : BitVec 32) {w : Vec F S16 .i32} (hgood : ∀ x : S16.Idx, Good cc (rowBase i) 0 (w x)) (v107 c16 : BitVec 32)
    {kk : (Σ' (v141 : BitVec 32), BitVec 32) → Prog (TpuEff nD τ sig (Elt F) Λ₀ (Proc.scVector (ci i) (si i))) β} :
    Padded d i cc 1
      ⊢ iprop((Padded d i cc 8 -∗ twp d (ci i) (si i) (kk ⟨Scalar.maxsi (Scalar.subi v17 1#32) 0#32, 1152#32⟩) Q)
        -∗ twp d (ci i) (si i)
          (k0_part4_skel i t0V (Memref.isWhole_whole _) t1V (Memref.isWhole_whole _) t2V (Memref.isWhole_whole _) t3V (Memref.isWhole_whole _)
            idV (Memref.isWhole_whole _) oV (Memref.isWhole_whole _) cV (Memref.isWhole_whole _) lV (Memref.isWhole_whole _) nV (Memref.isWhole_whole _)
            rV (Memref.isWhole_whole _) cc0_scratch4 cc0_scratch5 cc0_scratch6 cc0_scoped0 v13 hw4 v15 hw6 v17 w v107 c16 >>= kk) Q) := by
  unfold k0_part4_skel
  simp only [Prog.lift, Prog.bind_assoc, Prog.bind_op, Prog.bind_ret, Prog.pure_eq_ret]
  iintro HP Hk
  iapply (pad_store d i cc hc (t := 1) (by decide) (padWord_eq cc hc (k := 0) (by decide) 1 h13) hgood) $$ HP
  iintro HP
  iapply (pad_store d i cc hc (t := 2) (by decide) (padWord_eq cc hc (k := 0) (by decide) 2 h13) hgood) $$ HP
  iintro HP
  iapply (pad_store d i cc hc (t := 3) (by decide) (padWord_eq cc hc (k := 0) (by decide) 3 h13) hgood) $$ HP
  iintro HP
  have hw1 : (Scalar.addi 576#32 (Scalar.maxsi (Scalar.subi v15 1#32) 0#32)).toNat = 576 * 1 + (tot cc 512 1 - 1) := lastWord_eq cc (by decide) h15
  have hk1 : k0_chk5 (broadcast S16 (Scalar.addi 576#32 (Scalar.maxsi (Scalar.subi v15 1#32) 0#32))) := lastWord_lt cc (by decide) hw1
  unfold twp
  rw [wp_assume_of _ _ _ _ hk1]
  iapply (pad_load d i cc (k := 1) fun _ => hw1) $$ HP
  iintro %w1 %good1 HP
  iapply (pad_store d i cc hc (t := 4) (by decide) (padWord_eq cc hc (k := 1) (by decide) 0 h15) good1) $$ HP
  iintro HP
  iapply (pad_store d i cc hc (t := 5) (by decide) (padWord_eq cc hc (k := 1) (by decide) 1 h15) good1) $$ HP
  iintro HP
  iapply (pad_store d i cc hc (t := 6) (by decide) (padWord_eq cc hc (k := 1) (by decide) 2 h15) good1) $$ HP
  iintro HP
  iapply (pad_store d i cc hc (t := 7) (by decide) (padWord_eq cc hc (k := 1) (by decide) 3 h15) good1) $$ HP
  iintro HP
  iapply Hk $$ HP

theorem part5 {β : Type} {Q : β → sProp 𝕄} (hc : ∀ r, cc r < 4) {v13 v15 v17 v19 : BitVec 32} (h17 : v17 = BitVec.ofNat 32 (tot cc 512 2)) (h19 : v19 = BitVec.ofNat 32 (tot cc 512 3))
    (hw8 : k0_chk8 v13 v15 v17) (hw10 : k0_chk10 v13 v15 v17 v19)
    {kk : Vec F S16 .i32 → Prog (TpuEff nD τ sig (Elt F) Λ₀ (Proc.scVector (ci i) (si i))) β} :
    Padded d i cc 8
      ⊢ iprop((∀ w : Vec F S16 .i32, ⌜∀ x : S16.Idx, Good cc (rowBase i) 3 (w x)⌝ -∗ Padded d i cc 14 -∗ twp d (ci i) (si i) (kk w) Q)
        -∗ twp d (ci i) (si i)
          (k0_part5_skel i t0V (Memref.isWhole_whole _) t1V (Memref.isWhole_whole _) t2V (Memref.isWhole_whole _) t3V (Memref.isWhole_whole _)
            idV (Memref.isWhole_whole _) oV (Memref.isWhole_whole _) cV (Memref.isWhole_whole _) lV (Memref.isWhole_whole _) nV (Memref.isWhole_whole _)
            rV (Memref.isWhole_whole _) cc0_scratch4 cc0_scratch5 cc0_scratch6 cc0_scoped0 v13 v15 v17 hw8 v19 hw10 (Scalar.maxsi (Scalar.subi v17 1#32) 0#32) 1152#32 >>= kk) Q) := by
  unfold k0_part5_skel
  simp only [Prog.lift, Prog.bind_assoc, Prog.bind_op, Prog.bind_ret, Prog.pure_eq_ret]
  iintro HP Hk
  have hw2 : (Scalar.addi 1152#32 (Scalar.maxsi (Scalar.subi v17 1#32) 0#32)).toNat = 576 * 2 + (tot cc 512 2 - 1) := lastWord_eq cc (by decide) h17
  have hk2 : k0_chk7 (broadcast S16 (Scalar.addi 1152#32 (Scalar.maxsi (Scalar.subi v17 1#32) 0#32))) := lastWord_lt cc (by decide) hw2
  unfold twp
  rw [wp_assume_of _ _ _ _ hk2]
  iapply (pad_load d i cc (k := 2) fun _ => hw2) $$ HP
  iintro %w2 %good2 HP
  iapply (pad_store d i cc hc (t := 8) (by decide) (padWord_eq cc hc (k := 2) (by decide) 0 h17) good2) $$ HP
  iintro HP
  iapply (pad_store d i cc hc (t := 9) (by decide) (padWord_eq cc hc (k := 2) (by decide) 1 h17) good2) $$ HP
  iintro HP
  iapply (pad_store d i cc hc (t := 10) (by decide) (padWord_eq cc hc (k := 2) (by decide) 2 h17) good2) $$ HP
  iintro HP
  iapply (pad_store d i cc hc (t := 11) (by decide) (padWord_eq cc hc (k := 2) (by decide) 3 h17) good2) $$ HP
  iintro HP
  have hw3 : (Scalar.addi 1728#32 (Scalar.maxsi (Scalar.subi v19 1#32) 0#32)).toNat = 576 * 3 + (tot cc 512 3 - 1) := lastWord_eq cc (by decide) h19
  have hk3 : k0_chk9 (broadcast S16 (Scalar.addi 1728#32 (Scalar.maxsi (Scalar.subi v19 1#32) 0#32))) := lastWord_lt cc (by decide) hw3
  unfold twp
  rw [wp_assume_of _ _ _ _ hk3]
  iapply (pad_load d i cc (k := 3) fun _ => hw3) $$ HP
  iintro %w3 %good3 HP
  iapply (pad_store d i cc hc (t := 12) (by decide) (padWord_eq cc hc (k := 3) (by decide) 0 h19) good3) $$ HP
  iintro HP
  iapply (pad_store d i cc hc (t := 13) (by decide) (padWord_eq cc hc (k := 3) (by decide) 1 h19) good3) $$ HP
  iintro HP
  iapply Hk $$ %w3 [] HP
  ipureintro; exact good3

end Cert.Proof.Tile

end
-- ==== Proof.Plan.lean ====
/-
  WHERE EVERYTHING LIES ONCE THE LISTS ARE MADE. List `k`'s windows are `nn k` many, its rows go to rows `bb k …` of the row
  buffer. Position `T` of the row buffer goes with place `lp T` of the lists; the word there names a row of this tile, and the
  row buffer's row is to be that row of the target. So a position's row, place and count travel together (`sRes`), and a
  list's gathers and scatters take the positions `bb k … bb k + 64 · nn k`.
-/
module

public import proofs.«01_k».proof.Proof.Padding

@[expose] public section

noncomputable section

namespace Cert.Proof.Tile

open Cert.KernelIdeal Cert.KernelIdeal.Gen
open Cert.Proof.Group
open Idealize.ShloMosaic
open Idealize.ShloMosaic.SparseCore (S V T)
open Idealize.ShloMosaic.SparseCore.Cfg (HIx)
open Idealize.ShloMosaic.Transfers (Batch MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Positions and places -/

section Numbers
variable (cc : ℕ → ℕ)

/-- The windows of list `k`. -/
def nn (k : ℕ) : ℕ := (tot cc 512 k + 63) / 64
/-- The position its rows begin at. -/
def bb : ℕ → ℕ
  | 0 => 0
  | k + 1 => bb k + 64 * nn cc k
/-- A position's place in the lists. -/
def lp (T : ℕ) : ℕ :=
  if T < bb cc 1 then T else if T < bb cc 2 then 576 + (T - bb cc 1) else if T < bb cc 3 then 1152 + (T - bb cc 2) else 1728 + (T - bb cc 3)

theorem bb_one : bb cc 1 = 64 * nn cc 0 := Nat.zero_add _
theorem bb_two : bb cc 2 = bb cc 1 + 64 * nn cc 1 := rfl
theorem bb_three : bb cc 3 = bb cc 2 + 64 * nn cc 2 := rfl
theorem bb_four : bb cc 4 = bb cc 3 + 64 * nn cc 3 := rfl

theorem nn_le (k : ℕ) : nn cc k ≤ 8 := by
  have := tot_le cc 512 k
  unfold nn; omega

theorem bb_le (hc : ∀ r, cc r < 4) : bb cc 4 ≤ 768 := by
  have h := tot_sum cc hc 512
  rw [bb_four, bb_three, bb_two, bb_one]; unfold nn; omega

theorem bb_pos (hc : ∀ r, cc r < 4) : 0 < bb cc 4 := by
  have h := tot_sum cc hc 512
  rw [bb_four, bb_three, bb_two, bb_one]; unfold nn; omega

theorem lp_at {k i : ℕ} (hk : k < 4) (hi : i < 64 * nn cc k) : lp cc (bb cc k + i) = 576 * k + i := by
  have h1 := bb_one cc; have h2 := bb_two cc; have h3 := bb_three cc
  have h0 : bb cc 0 = 0 := rfl
  unfold lp
  obtain rfl | rfl | rfl | rfl : k = 0 ∨ k = 1 ∨ k = 2 ∨ k = 3 := by omega
  · rw [if_pos (by omega)]; omega
  · rw [if_neg (by omega), if_pos (by omega)]; omega
  · rw [if_neg (by omega), if_neg (by omega), if_pos (by omega)]; omega
  · rw [if_neg (by omega), if_neg (by omega), if_neg (by omega)]; omega

theorem list_of {T : ℕ} (hT : T < bb cc 4) : ∃ k < 4, ∃ i < 64 * nn cc k, T = bb cc k + i := by
  have h1 := bb_one cc; have h2 := bb_two cc; have h3 := bb_three cc; have h4 := bb_four cc
  have h0 : bb cc 0 = 0 := rfl
  by_cases c1 : T < bb cc 1
  · exact ⟨0, by decide, T, by omega, by omega⟩
  by_cases c2 : T < bb cc 2
  · exact ⟨1, by decide, T - bb cc 1, by omega, by omega⟩
  by_cases c3 : T < bb cc 3
  · exact ⟨2, by decide, T - bb cc 2, by omega, by omega⟩
  · exact ⟨3, by decide, T - bb cc 3, by omega, by omega⟩

theorem lt_of_list {k i : ℕ} (hk : k < 4) (hi : i < 64 * nn cc k) : bb cc k + i < bb cc 4 := by
  have h1 := bb_one cc; have h2 := bb_two cc; have h3 := bb_three cc; have h4 := bb_four cc
  have h0 : bb cc 0 = 0 := rfl
  obtain rfl | rfl | rfl | rfl : k = 0 ∨ k = 1 ∨ k = 2 ∨ k = 3 := by omega
  all_goals omega

theorem lp_lt {T : ℕ} (hT : T < bb cc 4) : lp cc T < 2304 := by
  obtain ⟨k, hk, i, hi, rfl⟩ := list_of cc hT
  have := nn_le cc k
  rw [lp_at cc hk hi]; omega

theorem lp_inj {T T' : ℕ} (hT : T < bb cc 4) (hT' : T' < bb cc 4) (h : lp cc T = lp cc T') : T = T' := by
  obtain ⟨k, hk, i, hi, rfl⟩ := list_of cc hT
  obtain ⟨k', hk', i', hi', rfl⟩ := list_of cc hT'
  have := nn_le cc k; have := nn_le cc k'
  rw [lp_at cc hk hi, lp_at cc hk' hi'] at h
  obtain rfl : k = k' := by omega
  omega

end Numbers

/-! ## What the words name -/

section Named
variable (d : Dev nD) (c : Fin τ.nSC) (s : Fin τ.nSub) (cc : ℕ → ℕ) (base : ℕ)

/-- Place `n` of the lists, as an index. -/
def plc (n : ℕ) : S2304.Idx := fun a => ⟨n % 2304, by obtain rfl : a = 0 := Subsingleton.elim _ _; exact Nat.mod_lt n (by decide)⟩

theorem eq_plc {n : ℕ} (hn : n < 2304) {y : S2304.Idx} (hy : (y 0).val = n) : y = plc n := funext fun a => Fin.ext (by
  obtain rfl : a = 0 := Subsingleton.elim _ _
  exact hy.trans (Nat.mod_eq_of_lt hn).symm)

/-- The row position `T`'s word names. -/
def rowOf (L : Buf (Elt F) (lLoc d c s)) (T : ℕ) : Fin 16384 :=
  ⟨(show BitVec 32 from L (plc (lp cc T))).toNat % 16384, Nat.mod_lt _ (by decide)⟩

/-- The row buffer, all gathered. -/
def bufOf (L : Buf (Elt F) (lLoc d c s)) (Tgt : Buf (Elt F) (oLoc' d c s)) : Buf (Elt F) (rLoc d c s) :=
  show S768x128.Idx → Elt F .f32 from fun x => Tgt (show S16384x128.Idx from fun | 0 => rowOf d c s cc L (x 0).val | 1 => x 1)

/-- The tile's rows of the result. -/
def tileRows : Finset S16384x128.Idx := Finset.univ.filter fun z => base ≤ (z 0).val ∧ (z 0).val < base + 512

theorem mem_tileRows {z : S16384x128.Idx} : z ∈ tileRows base ↔ base ≤ (z 0).val ∧ (z 0).val < base + 512 := by simp [tileRows]

variable {cc base}
variable {L : Buf (Elt F) (lLoc d c s)} {Tgt : Buf (Elt F) (oLoc' d c s)}

theorem word_at (hL : Lst cc base 16 L) (hb : base + 512 ≤ 16384) {k i : ℕ} (hk : k < 4) (hi : i < 64 * nn cc k) :
    ∃ ρ, ρ < 512 ∧ cc ρ = k ∧ (∀ y : S2304.Idx, (y 0).val = 576 * k + i → (show BitVec 32 from L y).toNat = base + ρ)
      ∧ (rowOf d c s cc L (bb cc k + i)).val = base + ρ := by
  have hn := nn_le cc k
  have hlp := lp_at cc hk hi
  have hlt : 576 * k + i < 2304 := by omega
  obtain ⟨ρ, hρ, hcρ, hw⟩ := Lst.window cc base hL (k := k) (m := i) hk hi (plc (576 * k + i)) (Nat.mod_eq_of_lt hlt)
  have hw' : ∀ y : S2304.Idx, (y 0).val = 576 * k + i → (show BitVec 32 from L y).toNat = base + ρ := by
    intro y hy
    obtain rfl := eq_plc hlt hy
    refine (congrArg BitVec.toNat hw).trans ?_
    rw [BitVec.toNat_ofNat]; omega
  refine ⟨ρ, hρ, hcρ, hw', ?_⟩
  unfold rowOf
  show _ % 16384 = _
  rw [hlp, hw' _ (Nat.mod_eq_of_lt hlt)]
  omega

theorem names_of (hL : Lst cc base 16 L) (hb : base + 512 ≤ 16384) {k : ℕ} (hk : k < 4) {src : Memref sig .scVector .hbm S16384x128 .f32}
    {fs : Buf (Elt F) (src.view.loc (V d c s))}
    (hT : ∀ ρ, ρ < 512 → cc ρ = k → ∀ z : S16384x128.Idx, (z 0).val = base + ρ → src.view.read (Elt F) fs z = Tgt z) :
    Names d c s (bb cc k) (576 * k) (nn cc k) src fs L (bufOf d c s cc L Tgt) := by
  intro i hi y hy
  obtain ⟨ρ, hρ, hcρ, hw, hr⟩ := word_at d c s hL hb hk hi
  refine ⟨by rw [hw y hy]; omega, fun x z hx hz0 hz1 => ?_⟩
  have hz : (z 0).val = base + ρ := hz0.trans (hw y hy)
  refine (hT ρ hρ hcρ z hz).trans ?_
  unfold bufOf
  refine congrArg Tgt (funext fun a => Fin.ext ?_)
  match a with
  | 0 => exact hz.trans (by rw [← hr, ← hx])
  | 1 => exact hz1

theorem sends_of (hL : Lst cc base 16 L) (hb : base + 512 ≤ 16384) {k : ℕ} (hk : k < 4) :
    Sends d c s (bb cc k) (nn cc k) (lp cc) (rowOf d c s cc L) L (bufOf d c s cc L Tgt) (tileRows base) Tgt := by
  intro T hT hT'
  obtain ⟨i, rfl⟩ : ∃ i, T = bb cc k + i := ⟨T - bb cc k, by omega⟩
  have hi : i < 64 * nn cc k := by omega
  obtain ⟨ρ, hρ, hcρ, hw, hr⟩ := word_at d c s hL hb hk hi
  refine ⟨fun y hy => ?_, fun z hz => ?_, fun x z hx hz0 hz1 => ?_⟩
  · rw [hw y (hy.trans (lp_at cc hk hi)), hr]
  · rw [mem_tileRows]; omega
  · unfold bufOf
    refine congrArg Tgt (funext fun a => Fin.ext ?_)
    match a with
    | 0 => exact (show (rowOf d c s cc L (x 0).val).val = (z 0).val by rw [hx, hz0])
    | 1 => exact hz1.symm

/-- Every row of the tile is some position's. -/
theorem covered (hc : ∀ r, cc r < 4) (hL : Lst cc base 16 L) (hb : base + 512 ≤ 16384) {ρ : ℕ} (hρ : ρ < 512) :
    ∃ T, T < bb cc 4 ∧ (rowOf d c s cc L T).val = base + ρ := by
  have hr := rank_lt_tot cc hρ
  have hi : rank cc ρ < 64 * nn cc (cc ρ) := by unfold nn; omega
  have hk := hc ρ
  have hn := nn_le cc (cc ρ)
  refine ⟨bb cc (cc ρ) + rank cc ρ, lt_of_list cc hk hi, ?_⟩
  have hlp := lp_at cc hk hi
  have hlt : 576 * cc ρ + rank cc ρ < 2304 := by omega
  have hw := Lst.covers cc base hL hρ (plc (576 * cc ρ + rank cc ρ)) (Nat.mod_eq_of_lt hlt)
  unfold rowOf
  show _ % 16384 = _
  rw [hlp]
  refine (congrArg (fun w : BitVec 32 => w.toNat % 16384) hw).trans ?_
  show (BitVec.ofNat 32 (base + ρ)).toNat % 16384 = _
  rw [BitVec.toNat_ofNat]; omega

end Named

/-! ## The buffers dealt to the positions, and had back -/

theorem sep_two {I : Type} (s : Finset I) (Φ Ψ : I → sProp 𝕄) :
    iprop(bigSep s Φ ∗ bigSep s Ψ) = bigSep s (fun i => iprop(Φ i ∗ Ψ i)) := (BI.bigSep_sep s Φ Ψ).symm

theorem regroup (A B C D : sProp 𝕄) : iprop(((A ∗ B) ∗ C) ∗ D) ⊢ iprop(A ∗ (C ∗ B) ∗ D) := by
  iintro ⟨⟨⟨H1, H2⟩, H3⟩, H4⟩
  isplitl [H1]; · iexact H1
  isplitl [H2 H3]
  · isplitl [H3] <;> iassumption
  · iexact H4
theorem regroup' (A B C D : sProp 𝕄) : iprop(A ∗ (C ∗ B) ∗ D) ⊢ iprop(((A ∗ B) ∗ C) ∗ D) := by
  iintro ⟨H1, ⟨H3, H2⟩, H4⟩
  isplitl [H1 H2 H3]
  · isplitl [H1 H2]
    · isplitl [H1] <;> iassumption
    · iexact H3
  · iexact H4

section Dealt
variable (d : Dev nD) (c : Fin τ.nSC) (s : Fin τ.nSub) (cc : ℕ → ℕ)

/-- The places no position goes with. -/
def restElts (L : Buf (Elt F) (lLoc d c s)) : sProp 𝕄 :=
  bigSep (Finset.Ico 0 2304 \ (Finset.Ico 0 (bb cc 4)).image (lp cc)) (eltPts d c s L)

theorem list_plan (L : Buf (Elt F) (lLoc d c s)) :
    (lLoc d c s ↦{fullShare} L : sProp 𝕄) = iprop(bigSep (Finset.Ico 0 (bb cc 4)) (fun T => eltPts d c s L (lp cc T)) ∗ restElts d c s cc L) := by
  have hsub : (Finset.Ico 0 (bb cc 4)).image (lp cc) ⊆ Finset.Ico 0 2304 := by
    intro y hy
    obtain ⟨T, hT, rfl⟩ := Finset.mem_image.mp hy
    exact Finset.mem_Ico.mpr ⟨Nat.zero_le _, lp_lt cc (Finset.mem_Ico.mp hT).2⟩
  have hinj : Set.InjOn (lp cc) (Finset.Ico 0 (bb cc 4) : Finset ℕ) := fun T hT T' hT' h =>
    lp_inj cc (Finset.mem_Ico.mp hT).2 (Finset.mem_Ico.mp hT').2 h
  rw [list_cut, SparseCore.bigSep_sdiff_split' hsub, SparseCore.bigSep_image_of_injOn hinj]
  rfl

/-- The rows no position goes with. -/
def restRows (f : Buf (Elt F) (rLoc d c s)) : sProp 𝕄 := bigSep (Finset.Ico (bb cc 4) 768) (rowPts d c s f)

theorem rows_plan (hc : ∀ r, cc r < 4) (f : Buf (Elt F) (rLoc d c s)) :
    (rLoc d c s ↦{fullShare} f : sProp 𝕄) = iprop(bigSep (Finset.Ico 0 (bb cc 4)) (rowPts d c s f) ∗ restRows d c s cc f) := by
  rw [rows_cut, ico_split (Nat.zero_le _) (bb_le cc hc)]
  rfl

/-- Rows at one buffer's values and the rest at another's are the row buffer at some values. -/
theorem rows_back (hc : ∀ r, cc r < 4) (f g : Buf (Elt F) (rLoc d c s)) :
    iprop(bigSep (Finset.Ico 0 (bb cc 4)) (rowPts d c s g) ∗ restRows d c s cc f) ⊢ (iprop(∃ h, rLoc d c s ↦{fullShare} h) : sProp 𝕄) := by
  have e : iprop(bigSep (Finset.Ico 0 (bb cc 4)) (rowPts d c s g) ∗ restRows d c s cc f)
      = (bigSep (Finset.Ico 0 768) fun n => rLoc d c s ↦[rowSet n]{fullShare} (if n < bb cc 4 then g else f) : sProp 𝕄) := by
    rw [ico_split (Nat.zero_le _) (bb_le cc hc)]
    refine congrArg₂ (fun A B : sProp 𝕄 => iprop(A ∗ B)) (BI.bigSep_congr fun n hn => ?_) (BI.bigSep_congr fun n hn => ?_)
    · rw [if_pos (Finset.mem_Ico.mp hn).2]
    · rw [if_neg (by have := (Finset.mem_Ico.mp hn).1; omega)]
  rw [e]
  iintro H
  ihave H' := (pointsTo_biUnion_join (ℓ := rLoc d c s) (Finset.Ico 0 768) rowSet (fun n => if n < bb cc 4 then g else f) f
    fun n _ n' _ h => Finset.disjoint_left.mpr fun x hx hx' => h ((mem_rowSet.mp hx).symm.trans (mem_rowSet.mp hx'))) $$ H
  icases H' with ⟨%h, -, H⟩
  iexists h
  iapply (Entails.of_eq (congrArg (fun I => (rLoc d c s ↦[I]{fullShare} h : sProp 𝕄)) rows_cover)) $$ H

variable (γ : ℕ → ℕ)

/-- All the positions' resources, the row buffer at `f`, each write counted at `m`. -/
theorem deal (L : Buf (Elt F) (lLoc d c s)) (f : Buf (Elt F) (rLoc d c s)) (m : ℕ) (I : Finset ℕ) :
    (bigSep I (sRes d c s (lp cc) γ L f m) : sProp 𝕄)
      = iprop((bigSep I (fun T => count countersEmb (γ T) m) ∗ bigSep I (fun T => eltPts d c s L (lp cc T))) ∗ bigSep I (rowPts d c s f)) := by
  rw [sep_two, sep_two]
  rfl

/-- The positions of list `k`. -/
abbrev sPart (L : Buf (Elt F) (lLoc d c s)) (f : Buf (Elt F) (rLoc d c s)) (m k : ℕ) : sProp 𝕄 :=
  bigSep (Finset.Ico (bb cc k) (bb cc k + 64 * nn cc k)) (sRes d c s (lp cc) γ L f m)

theorem four_lists (Φ : ℕ → sProp 𝕄) :
    bigSep (Finset.Ico 0 (bb cc 4)) Φ = iprop(bigSep (Finset.Ico (bb cc 0) (bb cc 0 + 64 * nn cc 0)) Φ
      ∗ bigSep (Finset.Ico (bb cc 1) (bb cc 1 + 64 * nn cc 1)) Φ ∗ bigSep (Finset.Ico (bb cc 2) (bb cc 2 + 64 * nn cc 2)) Φ
      ∗ bigSep (Finset.Ico (bb cc 3) (bb cc 3 + 64 * nn cc 3)) Φ) := by
  have h1 := bb_one cc; have h2 := bb_two cc; have h3 := bb_three cc; have h4 := bb_four cc
  have h0 : bb cc 0 = 0 := rfl
  rw [ico_split (a := 0) (b := bb cc 1) (c := bb cc 4) (by omega) (by omega), ico_split (a := bb cc 1) (b := bb cc 2) (c := bb cc 4) (by omega) (by omega),
    ico_split (a := bb cc 2) (b := bb cc 3) (c := bb cc 4) (by omega) (by omega)]
  rw [show Finset.Ico (bb cc 0) (bb cc 0 + 64 * nn cc 0) = Finset.Ico 0 (bb cc 1) by rw [h0, h1, Nat.zero_add], ← h2, ← h3, ← h4]

/-- A list's positions with pieces of its table are the gathers' resources with the counts. -/
theorem part_gathers {k : ℕ} (hk : k < 4) (L : Buf (Elt F) (lLoc d c s)) (f : Buf (Elt F) (rLoc d c s))
    (src : Memref sig .scVector .hbm S16384x128 .f32) (fs : Buf (Elt F) (src.view.loc (V d c s))) (q : PosShare TreeShare) :
    (iprop(sPart d c s cc γ L f 0 k ∗ bigSep (Finset.Ico 0 (64 * nn cc k)) (fun i => src.view.loc (V d c s) ↦[src.view.set]{piece1024 q i} fs)) : sProp 𝕄)
      = iprop(bigSep (Finset.Ico (bb cc k) (bb cc k + 64 * nn cc k)) (fun T => count countersEmb (γ T) 0)
        ∗ bigSep (Finset.Ico 0 (64 * nn cc k)) (gRes d c s (bb cc k) (576 * k) src fs q L f)) := by
  have hg : (bigSep (Finset.Ico 0 (64 * nn cc k)) (gRes d c s (bb cc k) (576 * k) src fs q L f) : sProp 𝕄)
      = iprop((bigSep (Finset.Ico (bb cc k) (bb cc k + 64 * nn cc k)) (rowPts d c s f)
          ∗ bigSep (Finset.Ico (bb cc k) (bb cc k + 64 * nn cc k)) (fun T => eltPts d c s L (lp cc T)))
        ∗ bigSep (Finset.Ico 0 (64 * nn cc k)) (fun i => src.view.loc (V d c s) ↦[src.view.set]{piece1024 q i} fs)) := by
    rw [ico_shift, ico_shift, sep_two, sep_two]
    refine BI.bigSep_congr fun i hi => ?_
    rw [lp_at cc hk (Finset.mem_Ico.mp hi).2]
    rfl
  unfold sPart
  rw [deal, hg]
  exact Entails.antisymm (regroup _ _ _ _) (regroup' _ _ _ _)

end Dealt

end Cert.Proof.Tile

end
-- ==== Proof.Moving.lean ====
/-
  A LIST'S LOOPS. Each of a list's four steps is a loop over its windows followed by a loop of no trips. Stated once, for any
  list: its gathers fired (a batch opened on the semaphore), waited for (the positions had back, their rows gathered), its
  scatters fired into the one batch of all the scatters, and waited for. Before them the buffers are dealt to the positions
  and the tile's rows of the result shared among the writes; after them all is had back, the result's rows at the target.
-/
module

public import proofs.«01_k».proof.Proof.Plan

@[expose] public section

noncomputable section

namespace Cert.Proof.Tile

open Cert.KernelIdeal Cert.KernelIdeal.Gen
open Cert.Proof.Group
open Idealize.ShloMosaic
open Idealize.ShloMosaic.SparseCore (S V T)
open Idealize.ShloMosaic.SparseCore.Cfg (HIx)
open Idealize.ShloMosaic.Transfers (Batch MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (c : Fin τ.nSC) (s : Fin τ.nSub) (cc : ℕ → ℕ) (γ : ℕ → ℕ)

section Gathers
variable {k : ℕ} (src : Memref sig .scVector .hbm S16384x128 .f32) (fs : Buf (Elt F) (src.view.loc (V d c s))) (q : PosShare TreeShare)

/-- What a list keeps while its gathers are out: the writes' counts, the pieces of the table no gather takes. -/
def Kept (k : ℕ) : sProp 𝕄 :=
  iprop(bigSep (Finset.Ico (bb cc k) (bb cc k + 64 * nn cc k)) (fun T => count countersEmb (γ T) 0)
    ∗ bigSep (Finset.Ico (64 * nn cc k) 1024) (fun i => src.view.loc (V d c s) ↦[src.view.set]{piece1024 q i} fs))

/-- List `k`'s gathers, so many rows issued and so many units had. -/
abbrev GB (sem : DmaSem sig) (L : Buf (Elt F) (lLoc d c s)) (G : Buf (Elt F) (rLoc d c s)) (k j u : ℕ) : sProp 𝕄 :=
  Batch countersEmb (V d c s) (.dma sem) (none : HIx 1) 4096 (fun t : Fin (64 * nn cc k) => gRes d c s (bb cc k) (576 * k) src fs q L G t.val) j u

variable {src fs q}
variable {sem : DmaSem sig} {L : Buf (Elt F) (lLoc d c s)} {f G : Buf (Elt F) (rLoc d c s)}

theorem table_cut (k : ℕ) :
    (src.view.loc (V d c s) ↦[src.view.set]{q} fs : sProp 𝕄)
      = iprop(bigSep (Finset.Ico 0 (64 * nn cc k)) (fun i => src.view.loc (V d c s) ↦[src.view.set]{piece1024 q i} fs)
        ∗ bigSep (Finset.Ico (64 * nn cc k) 1024) (fun i => src.view.loc (V d c s) ↦[src.view.set]{piece1024 q i} fs)) := by
  rw [pieces_cut, ico_split (a := 0) (b := 64 * nn cc k) (c := 1024) (Nat.zero_le _) (by have := nn_le cc k; omega)]

theorem list_gather {Lp Lp' : Scf.Loop 32} {α : Type} {ok : Lp.OK} {ok' : Lp'.OK} {init : BitVec 32}
    {body : Fin Lp.trips → BitVec 32 → Prog (TpuEff nD τ sig (Elt F) Λ₀ (Proc.scVector c s)) (BitVec 32)}
    {body' : Fin Lp'.trips → BitVec 32 → Prog (TpuEff nD τ sig (Elt F) Λ₀ (Proc.scVector c s)) (BitVec 32)}
    {kk : BitVec 32 → Prog (TpuEff nD τ sig (Elt F) Λ₀ (Proc.scVector c s)) α} {Q : α → sProp 𝕄}
    (hk : k < 4) (hn : Lp.trips = nn cc k) (hn' : Lp'.trips = 0)
    (off : Fin Lp.trips → Fin 2 → ℕ) (inb : ∀ t a, off t a + S64x128.size a ≤ S768x128.size a)
    (lof : Fin Lp.trips → Fin 1 → ℕ) (linb : ∀ t a, lof t a + S64.size a ≤ S2304.size a)
    (hoff : ∀ t : Fin Lp.trips, t.val < nn cc k → off t = ![bb cc k + 64 * t.val, 0])
    (hlof : ∀ t : Fin Lp.trips, t.val < nn cc k → lof t = ![576 * k + 64 * t.val])
    (hsrc : src.view.WordExact) (hr : S16384x128.StreamRows 0) (hL : Names d c s (bb cc k) (576 * k) (nn cc k) src fs L G)
    (hbody : ∀ t acc, body t acc = (SparseCore.enqueueIndirectGather rfl src (rowWin (off t) (inb t)) gathers_S16384x128_S64x128
      (listWin (lof t) (linb t)) rfl sem hsrc rfl (Or.inl rfl) hr >>= fun _ => pure 0#32)) :
    iprop(sPart d c s cc γ L f 0 k ∗ (src.view.loc (V d c s) ↦[src.view.set]{q} fs) ∗ semVal (V d c s, .dma sem) 0)
      ⊢ iprop((∀ acc, iprop(GB d c s cc src fs q sem L G k (64 * nn cc k) 0 ∗ Kept d c s cc γ src fs q k) -∗ twp d c s (kk acc) Q)
        -∗ twp d c s (Lp.for ok init body >>= fun a => Lp'.for ok' a body' >>= kk) Q) := by
  iintro ⟨HP, HT, Hs⟩ Hk
  ihave HT' := (Entails.of_eq (table_cut d c s cc k)) $$ HT
  icases HT' with ⟨HT, Hrest⟩
  ihave HP' := (Entails.of_eq (part_gathers d c s cc γ hk L f src fs q)) $$ [HP HT]
  · isplitl [HP] <;> iassumption
  icases HP' with ⟨Hc, HG⟩
  unfold twp
  imod (Transfers.batch_alloc' countersEmb (c := V d c s) (sm := .dma sem) (none : HIx 1) 4096
    (fun t : Fin (64 * nn cc k) => gRes d c s (bb cc k) (576 * k) src fs q L G t.val)) $$ Hs with HB
  iapply (gather_loop d c s hn off inb lof linb hoff hlof hsrc hr hL hbody) $$ [HG HB]
  · isplitl [HG] <;> iassumption
  iintro %acc HB
  iapply (loop_none d c s hn')
  iintro %acc'
  iapply Hk
  isplitl [HB]; · iexact HB
  unfold Kept
  isplitl [Hc] <;> iassumption

theorem list_drain {Lp Lp' : Scf.Loop 32} {α : Type} {ok : Lp.OK} {ok' : Lp'.OK} {init : BitVec 32}
    {body : Fin Lp.trips → BitVec 32 → Prog (TpuEff nD τ sig (Elt F) Λ₀ (Proc.scVector c s)) (BitVec 32)}
    {body' : Fin Lp'.trips → BitVec 32 → Prog (TpuEff nD τ sig (Elt F) Λ₀ (Proc.scVector c s)) (BitVec 32)}
    {kk : BitVec 32 → Prog (TpuEff nD τ sig (Elt F) Λ₀ (Proc.scVector c s)) α} {Q : α → sProp 𝕄} {O : CellTallies nD τ sig (HIx 1)} {W : Waits sig (HIx 1)}
    (hk : k < 4) (hn : Lp.trips = nn cc k) (hn' : Lp'.trips = 0)
    {sp sp' : Space} {s₁ s₂ : Shape} {e₁ e₂ : EltTy} (srcw : Fin Lp.trips → Memref sig .scVector sp' s₁ e₁) (dstw : Fin Lp.trips → Memref sig .scVector sp s₂ e₂)
    (hsrc : ∀ t, (srcw t).view.WordExact) (hdst : ∀ t, (dstw t).view.WordExact)
    (hcr : ∀ t, (dstw t).view.dmaCredit = 64 * 4096)
    (hbody : ∀ t acc, body t acc = .op (.waitDma2 sem (srcw t) (dstw t) (hsrc t) (hdst t)) fun _ => pure 0#32) :
    iprop(MayWaits (V d c s) (none : HIx 1) O ∗ GB d c s cc src fs q sem L G k (64 * nn cc k) 0 ∗ Kept d c s cc γ src fs q k ∗ OW d c s O W)
      ⊢ iprop((∀ acc, iprop(sPart d c s cc γ L G 0 k ∗ (src.view.loc (V d c s) ↦[src.view.set]{q} fs) ∗ semVal (V d c s, .dma sem) 0 ∗ OW d c s O W)
          -∗ twp d c s (kk acc) Q)
        -∗ twp d c s (Lp.for ok init body >>= fun a => Lp'.for ok' a body' >>= kk) Q) := by
  iintro ⟨#Hmw, HB, HK, HO⟩ Hk
  iapply (drain_loop d c s hn (base := 0) (N := 64 * nn cc k) (by omega) srcw dstw hsrc hdst hcr hbody) $$ [HB HO]
  · isplitr; · iexact Hmw
    isplitl [HB] <;> iassumption
  iintro %acc ⟨HB, HO⟩
  iapply (loop_none d c s hn')
  iintro %acc'
  unfold twp
  rw [Nat.zero_add]
  imod (Transfers.batch_collect' countersEmb (c := V d c s) (by decide : 0 < 4096)) $$ HB with ⟨HG, Hs⟩
  unfold Kept
  icases HK with ⟨Hc, Hrest⟩
  ihave HG' := (Entails.of_eq ((ico_fin (Φ := gRes d c s (bb cc k) (576 * k) src fs q L G) 0 (64 * nn cc k)).trans
    (BI.bigSep_congr fun t _ => by rw [Nat.zero_add])).symm) $$ HG
  rw [Nat.zero_add]
  ihave HP := (Entails.of_eq (part_gathers d c s cc γ hk L G src fs q).symm) $$ [Hc HG']
  · isplitl [Hc] <;> iassumption
  icases HP with ⟨HP, HT⟩
  iapply Hk
  isplitl [HP]; · iexact HP
  isplitl [HT Hrest]
  · iapply (Entails.of_eq (table_cut d c s cc k).symm)
    isplitl [HT] <;> iassumption
  isplitl [Hs] <;> iassumption

end Gathers

section Scatters
variable {k : ℕ} {sem : DmaSem sig} {L : Buf (Elt F) (lLoc d c s)} {G : Buf (Elt F) (rLoc d c s)} {base : ℕ} {Tgt : Buf (Elt F) (oLoc' d c s)} {κ : ℕ}

/-- All the scatters, so many rows issued and so many units had. -/
abbrev SB (sem : DmaSem sig) (L : Buf (Elt F) (lLoc d c s)) (G : Buf (Elt F) (rLoc d c s)) (j u : ℕ) : sProp 𝕄 :=
  Batch countersEmb (V d c s) (.dma sem) (none : HIx 1) 4096 (fun T : Fin (bb cc 4) => sRes d c s (lp cc) γ L G full T.val) j u

/-- The tile's rows of the result, shared among its writes. -/
abbrev Out (L : Buf (Elt F) (lLoc d c s)) (base : ℕ) (Tgt : Buf (Elt F) (oLoc' d c s)) : sProp 𝕄 :=
  shared d c s (bb cc 4) γ (rowOf d c s cc L) (tileRows base) Tgt

theorem end_le (hk : k < 4) : bb cc k + 64 * nn cc k ≤ bb cc 4 := by
  by_cases h : nn cc k = 0
  · have h1 := bb_one cc; have h2 := bb_two cc; have h3 := bb_three cc; have h4 := bb_four cc
    have h0 : bb cc 0 = 0 := rfl
    obtain rfl | rfl | rfl | rfl : k = 0 ∨ k = 1 ∨ k = 2 ∨ k = 3 := by omega
    all_goals omega
  · have := lt_of_list cc hk (i := 64 * nn cc k - 1) (by omega)
    omega

theorem list_scatter {Lp Lp' : Scf.Loop 32} {α : Type} {ok : Lp.OK} {ok' : Lp'.OK} {init : BitVec 32}
    {body : Fin Lp.trips → BitVec 32 → Prog (TpuEff nD τ sig (Elt F) Λ₀ (Proc.scVector c s)) (BitVec 32)}
    {body' : Fin Lp'.trips → BitVec 32 → Prog (TpuEff nD τ sig (Elt F) Λ₀ (Proc.scVector c s)) (BitVec 32)}
    {kk : BitVec 32 → Prog (TpuEff nD τ sig (Elt F) Λ₀ (Proc.scVector c s)) α} {Q : α → sProp 𝕄}
    (hk : k < 4) (hn : Lp.trips = nn cc k) (hn' : Lp'.trips = 0)
    (off : Fin Lp.trips → Fin 2 → ℕ) (inb : ∀ t a, off t a + S64x128.size a ≤ S768x128.size a)
    (lof : Fin Lp.trips → Fin 1 → ℕ) (linb : ∀ t a, lof t a + S64.size a ≤ S2304.size a)
    (hoff : ∀ t : Fin Lp.trips, t.val < nn cc k → off t = ![bb cc k + 64 * t.val, 0])
    (hlof : ∀ t : Fin Lp.trips, t.val < nn cc k → lof t = ![576 * k + 64 * t.val])
    (hr : S16384x128.StreamRows 0)
    (hS : Sends d c s (bb cc k) (nn cc k) (lp cc) (rowOf d c s cc L) L G (tileRows base) Tgt)
    (hbody : ∀ t acc, body t acc = (SparseCore.enqueueIndirectScatter rfl (rowWin (off t) (inb t)) (allRows oV) gathers_S16384x128_S64x128
      (listWin (lof t) (linb t)) rfl sem rfl (Or.inl rfl) hr >>= fun _ => pure 0#32)) :
    iprop(inv κ (Out d c s cc γ L base Tgt) ∗ sPart d c s cc γ L G 0 k ∗ SB d c s cc γ sem L G (bb cc k) 0)
      ⊢ iprop((∀ acc, SB d c s cc γ sem L G (bb cc (k + 1)) 0 -∗ twp d c s (kk acc) Q)
        -∗ twp d c s (Lp.for ok init body >>= fun a => Lp'.for ok' a body' >>= kk) Q) := by
  iintro ⟨#Hinv, HP, HB⟩ Hk
  iapply (scatter_loop d c s hn (lb := 576 * k) (end_le cc hk) off inb lof linb hoff hlof (fun i hi => lp_at cc hk hi) hr hS hbody) $$ [HP HB]
  · isplitr; · iexact Hinv
    isplitl [HP] <;> iassumption
  iintro %acc HB
  iapply (loop_none d c s hn')
  iintro %acc'
  iapply Hk
  iexact HB

theorem list_sdrain {Lp Lp' : Scf.Loop 32} {α : Type} {ok : Lp.OK} {ok' : Lp'.OK} {init : BitVec 32}
    {body : Fin Lp.trips → BitVec 32 → Prog (TpuEff nD τ sig (Elt F) Λ₀ (Proc.scVector c s)) (BitVec 32)}
    {body' : Fin Lp'.trips → BitVec 32 → Prog (TpuEff nD τ sig (Elt F) Λ₀ (Proc.scVector c s)) (BitVec 32)}
    {kk : BitVec 32 → Prog (TpuEff nD τ sig (Elt F) Λ₀ (Proc.scVector c s)) α} {Q : α → sProp 𝕄} {O : CellTallies nD τ sig (HIx 1)} {W : Waits sig (HIx 1)}
    (hk : k < 4) (hn : Lp.trips = nn cc k) (hn' : Lp'.trips = 0)
    {sp sp' : Space} {s₁ s₂ : Shape} {e₁ e₂ : EltTy} (srcw : Fin Lp.trips → Memref sig .scVector sp' s₁ e₁) (dstw : Fin Lp.trips → Memref sig .scVector sp s₂ e₂)
    (hsrc : ∀ t, (srcw t).view.WordExact) (hdst : ∀ t, (dstw t).view.WordExact)
    (hcr : ∀ t, (dstw t).view.dmaCredit = 64 * 4096)
    (hbody : ∀ t acc, body t acc = .op (.waitDma2 sem (srcw t) (dstw t) (hsrc t) (hdst t)) fun _ => pure 0#32) :
    iprop(MayWaits (V d c s) (none : HIx 1) O ∗ SB d c s cc γ sem L G (bb cc 4) (4096 * bb cc k) ∗ OW d c s O W)
      ⊢ iprop((∀ acc, iprop(SB d c s cc γ sem L G (bb cc 4) (4096 * bb cc (k + 1)) ∗ OW d c s O W) -∗ twp d c s (kk acc) Q)
        -∗ twp d c s (Lp.for ok init body >>= fun a => Lp'.for ok' a body' >>= kk) Q) := by
  iintro ⟨#Hmw, HB, HO⟩ Hk
  iapply (drain_loop d c s hn (base := bb cc k) (N := bb cc 4) (end_le cc hk) srcw dstw hsrc hdst hcr hbody) $$ [HB HO]
  · isplitr; · iexact Hmw
    isplitl [HB] <;> iassumption
  iintro %acc ⟨HB, HO⟩
  iapply (loop_none d c s hn')
  iintro %acc'
  iapply Hk
  isplitl [HB]; · iexact HB
  iexact HO

end Scatters

/-! ## Before and after -/

section Ends
variable {sem : DmaSem sig} {L : Buf (Elt F) (lLoc d c s)} {f G : Buf (Elt F) (rLoc d c s)} {base : ℕ} {Tgt : Buf (Elt F) (oLoc' d c s)}

theorem begin_moves (hc : ∀ r, cc r < 4) (g : Buf (Elt F) (oLoc' d c s)) :
    iprop((lLoc d c s ↦{fullShare} L) ∗ (rLoc d c s ↦{fullShare} f) ∗ (oLoc' d c s ↦[tileRows base]{fullShare} g) ∗ semVal (V d c s, .dma sem) 0)
      ⊢ (|={Set.univ}=> iprop(∃ (γ : ℕ → ℕ) (κ : ℕ), inv κ (Out d c s cc γ L base Tgt)
        ∗ (sPart d c s cc γ L f 0 0 ∗ sPart d c s cc γ L f 0 1 ∗ sPart d c s cc γ L f 0 2 ∗ sPart d c s cc γ L f 0 3)
        ∗ SB d c s cc γ sem L G 0 0 ∗ restElts d c s cc L ∗ restRows d c s cc f) : sProp 𝕄) := by
  iintro ⟨HL, HR, Hout, Hs⟩
  imod (BatchStream.shared_alloc (n := bb cc 4) countersEmb (V d c s) (allRows oV).view (0 : Fin 2) (fun T : Fin (bb cc 4) => rowOf d c s cc L T.val) (tileRows base) Tgt g
    (E := Set.univ)) $$ Hout with ⟨%γ₀, %κ, Hinv, Hc⟩
  obtain ⟨γ, rfl⟩ : ∃ γ : ℕ → ℕ, γ₀ = fun T : Fin (bb cc 4) => γ T.val :=
    ⟨fun T => if h : T < bb cc 4 then γ₀ ⟨T, h⟩ else 0, funext fun T => by simp⟩
  imod (Transfers.batch_alloc' countersEmb (c := V d c s) (sm := .dma sem) (none : HIx 1) 4096
    (fun T : Fin (bb cc 4) => sRes d c s (lp cc) γ L G full T.val) (E := Set.univ)) $$ Hs with HB
  ihave HL' := (Entails.of_eq (list_plan d c s cc L)) $$ HL
  icases HL' with ⟨HL, HrL⟩
  ihave HR' := (Entails.of_eq (rows_plan d c s cc hc f)) $$ HR
  icases HR' with ⟨HR, HrR⟩
  ihave Hc' := (Entails.of_eq ((ico_fin (Φ := fun T => (count countersEmb (γ T) 0 : sProp 𝕄)) 0 (bb cc 4)).trans
    (BI.bigSep_congr fun t _ => by rw [Nat.zero_add])).symm) $$ Hc
  rw [Nat.zero_add]
  ihave HP := (Entails.of_eq ((deal d c s cc γ L f 0 (Finset.Ico 0 (bb cc 4))).symm.trans (four_lists cc _))) $$ [HL HR Hc']
  · isplitl [HL Hc']
    · isplitl [Hc'] <;> iassumption
    · iexact HR
  imodintro
  iexists γ, κ
  isplitl [Hinv]; · iexact Hinv
  isplitl [HP]; · iexact HP
  isplitl [HB]; · iexact HB
  isplitl [HrL] <;> iassumption

theorem end_moves (hc : ∀ r, cc r < 4) (hL : Lst cc base 16 L) (hb : base + 512 ≤ 16384) {κ : ℕ} :
    iprop(inv κ (Out d c s cc γ L base Tgt) ∗ SB d c s cc γ sem L G (bb cc 4) (4096 * bb cc 4) ∗ restElts d c s cc L ∗ restRows d c s cc f)
      ⊢ (|={Set.univ}=> iprop((lLoc d c s ↦{fullShare} L) ∗ (∃ h, rLoc d c s ↦{fullShare} h) ∗ (oLoc' d c s ↦[tileRows base]{fullShare} Tgt)
        ∗ semVal (V d c s, .dma sem) 0) : sProp 𝕄) := by
  iintro ⟨#Hinv, HB, HrL, HrR⟩
  imod (Transfers.batch_collect' countersEmb (c := V d c s) (by decide : 0 < 4096)) $$ HB with ⟨HD, Hs⟩
  ihave HD' := (Entails.of_eq ((ico_fin (Φ := sRes d c s (lp cc) γ L G full) 0 (bb cc 4)).trans
    (BI.bigSep_congr fun t _ => by rw [Nat.zero_add])).symm) $$ HD
  rw [Nat.zero_add]
  ihave HD := (Entails.of_eq (deal d c s cc γ L G full (Finset.Ico 0 (bb cc 4)))) $$ HD'
  icases HD with ⟨⟨Hc, HL⟩, HR⟩
  ihave Hc' := (Entails.of_eq ((congrArg (fun n => bigSep (Finset.Ico 0 n) (fun T => (count countersEmb (γ T) full : sProp 𝕄))) (Nat.zero_add (bb cc 4)).symm).trans
    ((ico_fin (Φ := fun T => (count countersEmb (γ T) full : sProp 𝕄)) 0 (bb cc 4)).trans
    (BI.bigSep_congr fun t _ => by rw [Nat.zero_add])))) $$ Hc
  imod (BatchStream.shared_collect countersEmb (V d c s) (allRows oV).view (0 : Fin 2) (fun T : Fin (bb cc 4) => rowOf d c s cc L T.val) (tileRows base) Tgt
    (γ := fun T : Fin (bb cc 4) => γ T.val) (bb_pos cc hc) (Set.mem_univ κ)) $$ [Hc'] with ⟨%g, Hout, %hg⟩
  · isplitr; · iexact Hinv
    iexact Hc'
  imodintro
  isplitl [HL HrL]
  · iapply (Entails.of_eq (list_plan d c s cc L).symm)
    isplitl [HL] <;> iassumption
  isplitl [HR HrR]
  · iapply (rows_back d c s cc hc f G)
    isplitl [HR] <;> iassumption
  isplitl [Hout]
  · iapply (Entails.of_eq (pointsTo_congr (ℓ := oLoc' d c s) (I := tileRows base) (f := g) (g := Tgt) ?_)) $$ Hout
    intro z hz
    have hz' := (mem_tileRows base).mp hz
    obtain ⟨T, hT, hr⟩ := covered d c s hc hL hb (ρ := (z 0).val - base) (by omega)
    let x : (S16384x128.rowShape (0 : Fin 2)).Idx := fun (a : Fin 2) => match a with | 0 => ⟨0, Nat.one_pos⟩ | 1 => z 1
    have hx : ((allRows oV).view.slice (S16384x128.rowRect (0 : Fin 2) (rowOf d c s cc L T))).emb x = z := funext fun a => Fin.ext (by
      match a with
      | 0 => exact (outRow_emb_zero _ _).trans (by omega)
      | 1 => exact outRow_emb_one _ _)
    have := hg ⟨T, hT⟩ x
    rw [hx] at this
    exact this
  · iexact Hs

end Ends

end Cert.Proof.Tile

end
-- ==== Proof.Streaming.lean ====
/-
  THE STREAMS, run by one tile: with the lists made and padded, the gathers of two lists at a time go out, each list's rows
  are scattered once they have come, and at the end all the scatters are waited for. What is held between the program's parts
  is stated once (`St6`, `St7`, `St8`); every step is one of the list steps.
-/
module

public import proofs.«01_k».proof.Proof.Moving

@[expose] public section

noncomputable section

namespace Cert.Proof.Tile

open Cert.KernelIdeal Cert.KernelIdeal.Gen
open Cert.Proof.Group
open Cert.Proof.Words (mainL remL rowOff listOff base1 base2 base3)
open Idealize.ShloMosaic
open Idealize.ShloMosaic.SparseCore (S V T)
open Idealize.ShloMosaic.SparseCore.Cfg (HIx)
open Idealize.ShloMosaic.Transfers (Batch MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The kernel's words, as numbers -/

section Bounds
variable (cc : ℕ → ℕ)

theorem cnt_toNat {k : ℕ} {v : BitVec 32} (hv : v = BitVec.ofNat 32 (tot cc 512 k)) : v.toNat = tot cc 512 k := by
  have := tot_le cc 512 k
  rw [hv, BitVec.toNat_ofNat]; omega

theorem cnt_le {k : ℕ} {v : BitVec 32} (hv : v = BitVec.ofNat 32 (tot cc 512 k)) : v.toNat ≤ 512 := by
  rw [cnt_toNat cc hv]; exact tot_le cc 512 k

theorem main_trips {k : ℕ} {v : BitVec 32} (hv : v = BitVec.ofNat 32 (tot cc 512 k)) : (mainL v).trips = nn cc k := by
  rw [Words.mainL_trips (cnt_le cc hv), cnt_toNat cc hv]; rfl

theorem rem_trips {k : ℕ} {v : BitVec 32} (hv : v = BitVec.ofNat 32 (tot cc 512 k)) : (remL v).trips = 0 := Words.remL_trips (cnt_le cc hv)

theorem base1_nat {a : BitVec 32} (h0 : a = BitVec.ofNat 32 (tot cc 512 0)) : (base1 a).toNat = bb cc 1 := by
  rw [Words.base1_eq (cnt_le cc h0), cnt_toNat cc h0, bb_one]; rfl
theorem base2_nat {a b : BitVec 32} (h0 : a = BitVec.ofNat 32 (tot cc 512 0)) (h1 : b = BitVec.ofNat 32 (tot cc 512 1)) :
    (base2 a b).toNat = bb cc 2 := by
  rw [Words.base2_eq (cnt_le cc h0) (cnt_le cc h1), cnt_toNat cc h0, cnt_toNat cc h1, bb_two, bb_one, Nat.mul_add]; rfl
theorem base3_nat {a b e : BitVec 32} (h0 : a = BitVec.ofNat 32 (tot cc 512 0)) (h1 : b = BitVec.ofNat 32 (tot cc 512 1)) (h2 : e = BitVec.ofNat 32 (tot cc 512 2)) :
    (base3 a b e).toNat = bb cc 3 := by
  rw [Words.base3_eq (cnt_le cc h0) (cnt_le cc h1) (cnt_le cc h2), cnt_toNat cc h0, cnt_toNat cc h1, cnt_toNat cc h2, bb_three, bb_two, bb_one, Nat.mul_add, Nat.mul_add]; rfl

theorem row_at (hc : ∀ r, cc r < 4) {k : ℕ} (hk : k < 4) {b : BitVec 32} (hb : b.toNat = bb cc k) (t : ℕ) (ht : t < nn cc k) : rowOff b t = ![bb cc k + 64 * t, 0] := by
  have h1 := end_le cc hk; have h2 := bb_le cc hc; have h3 := nn_le cc k
  rw [Words.rowOff_eq b t (by omega) (by omega), hb]

theorem list_at {k : ℕ} (hk : k < 4) {l : BitVec 32} (hl : l.toNat = 576 * k) (t : ℕ) (ht : t < nn cc k) : listOff l t = ![576 * k + 64 * t] := by
  have h3 := nn_le cc k
  rw [Words.listOff_eq l t (by omega) (by omega), hl]

end Bounds

variable (d : Dev nD) (i : grid0.Coords) (cc : ℕ → ℕ)

/-- A table, as a tile reads it. -/
abbrev TB (m : Memref sig .scVector .hbm S16384x128 .f32) (fs : Buf (Elt F) ((allRows m).view.loc (V d (ci i) (si i)))) (q : PosShare TreeShare) : sProp 𝕄 :=
  (allRows m).view.loc (V d (ci i) (si i)) ↦[(allRows m).view.set]{q} fs

/-- Table `k` holds, at the rows of the tile that choose it, what the target does. -/
def Chosen (k : ℕ) (m : Memref sig .scVector .hbm S16384x128 .f32) (fs : Buf (Elt F) ((allRows m).view.loc (V d (ci i) (si i))))
    (Tgt : Buf (Elt F) (oLoc' d (ci i) (si i))) : Prop :=
  ∀ ρ, ρ < 512 → cc ρ = k → ∀ z : S16384x128.Idx, (z 0).val = rowBase i + ρ → (allRows m).view.read (Elt F) fs z = Tgt z

variable (Tgt : Buf (Elt F) (oLoc' d (ci i) (si i)))
variable (g0 : Buf (Elt F) ((allRows t0V).view.loc (V d (ci i) (si i)))) (g1 : Buf (Elt F) ((allRows t1V).view.loc (V d (ci i) (si i))))
  (g2 : Buf (Elt F) ((allRows t2V).view.loc (V d (ci i) (si i)))) (g3 : Buf (Elt F) ((allRows t3V).view.loc (V d (ci i) (si i))))
  (q : PosShare TreeShare)
variable (γ : ℕ → ℕ) (κ : ℕ) (L : Buf (Elt F) (lLoc d (ci i) (si i))) (f : Buf (Elt F) (rLoc d (ci i) (si i)))

/-- The row buffer, all gathered. -/
abbrev Gth : Buf (Elt F) (rLoc d (ci i) (si i)) := bufOf d (ci i) (si i) cc L Tgt

/-- The positions of list `k`, before and after its gathers. -/
abbrev Before (k : ℕ) : sProp 𝕄 := sPart d (ci i) (si i) cc γ L f 0 k
abbrev After (k : ℕ) : sProp 𝕄 := sPart d (ci i) (si i) cc γ L (Gth d i cc Tgt L) 0 k
/-- List `k`'s gathers out. -/
abbrev Flying (k : ℕ) (m : Memref sig .scVector .hbm S16384x128 .f32) (fs : Buf (Elt F) ((allRows m).view.loc (V d (ci i) (si i)))) (sem : DmaSem sig) : sProp 𝕄 :=
  iprop(GB d (ci i) (si i) cc (allRows m) fs q sem L (Gth d i cc Tgt L) k (64 * nn cc k) 0 ∗ Kept d (ci i) (si i) cc γ (allRows m) fs q k)
/-- The scatters, so many rows issued and so many units had. -/
abbrev Sent (j u : ℕ) : sProp 𝕄 := SB d (ci i) (si i) cc γ cc0_scratch6.sem L (Gth d i cc Tgt L) j u
/-- What is kept throughout. -/
abbrev Aside : sProp 𝕄 := iprop(restElts d (ci i) (si i) cc L ∗ restRows d (ci i) (si i) cc f)
/-- The result's rows, shared. -/
abbrev OutI : sProp 𝕄 := inv κ (Out d (ci i) (si i) cc γ L (rowBase i) Tgt)

/-- After the sixth part: list 0 gathered, lists 1 and 2 on their way. -/
def St6 : sProp 𝕄 :=
  iprop(After d i cc Tgt γ L 0 ∗ TB d i t0V g0 q ∗ Flying d i cc Tgt q γ L 1 t1V g1 cc0_scratch5.sem ∗ Flying d i cc Tgt q γ L 2 t2V g2 cc0_scratch4.sem
    ∗ Before d i cc γ L f 3 ∗ TB d i t3V g3 q ∗ Sent d i cc Tgt γ L 0 0)
/-- After the seventh: lists 0 and 1 sent, list 2 gathered, list 3 on its way. -/
def St7 : sProp 𝕄 :=
  iprop(Sent d i cc Tgt γ L (bb cc 2) 0 ∗ TB d i t0V g0 q ∗ TB d i t1V g1 q ∗ After d i cc Tgt γ L 2 ∗ TB d i t2V g2 q ∗ semVal (V d (ci i) (si i), .dma cc0_scratch4.sem) 0
    ∗ Flying d i cc Tgt q γ L 3 t3V g3 cc0_scratch5.sem)
/-- After the eighth: all sent, lists 0 and 1 waited for. -/
def St8 : sProp 𝕄 :=
  iprop(Sent d i cc Tgt γ L (bb cc 4) (4096 * bb cc 2) ∗ TB d i t0V g0 q ∗ TB d i t1V g1 q ∗ TB d i t2V g2 q ∗ TB d i t3V g3 q
    ∗ semVal (V d (ci i) (si i), .dma cc0_scratch4.sem) 0 ∗ semVal (V d (ci i) (si i), .dma cc0_scratch5.sem) 0)

variable {Tgt g0 g1 g2 g3 q γ κ L f}
variable {O : CellTallies nD τ sig (HIx 1)} {W : Waits sig (HIx 1)}

/-! ## A list's four steps -/

section Steps
variable (hc : ∀ r, cc r < 4) {k : ℕ} (hk : k < 4) {v bw lw : BitVec 32} (hv : v = BitVec.ofNat 32 (tot cc 512 k)) (hbw : bw.toNat = bb cc k) (hlw : lw.toNat = 576 * k)
  (hL : Lst cc (rowBase i) 16 L)
  {α : Type} {ok : (mainL v).OK} {ok' : (remL v).OK} {init : BitVec 32}
  {body : Fin (mainL v).trips → BitVec 32 → Prog (TpuEff nD τ sig (Elt F) Λ₀ (Proc.scVector (ci i) (si i))) (BitVec 32)}
  {body' : Fin (remL v).trips → BitVec 32 → Prog (TpuEff nD τ sig (Elt F) Λ₀ (Proc.scVector (ci i) (si i))) (BitVec 32)}
  {kk : BitVec 32 → Prog (TpuEff nD τ sig (Elt F) Λ₀ (Proc.scVector (ci i) (si i))) α}
  {m : Memref sig .scVector .hbm S16384x128 .f32} {fs : Buf (Elt F) ((allRows m).view.loc (V d (ci i) (si i)))} {sem : DmaSem sig}

include hc hk hv hbw hlw hL in
/-- Its gathers fired. -/
theorem fire {Q : α → sProp 𝕄} (hT : Chosen d i cc k m fs Tgt)
    (inb : ∀ (t : Fin (mainL v).trips) a, rowOff bw t.val a + S64x128.size a ≤ S768x128.size a)
    (linb : ∀ (t : Fin (mainL v).trips) a, listOff lw t.val a + S64.size a ≤ S2304.size a)
    (hsrc : (allRows m).view.WordExact) (hr : S16384x128.StreamRows 0)
    (hbody : ∀ t acc, body t acc = (SparseCore.enqueueIndirectGather rfl (allRows m) (rowWin (rowOff bw t.val) (inb t)) gathers_S16384x128_S64x128
      (listWin (listOff lw t.val) (linb t)) rfl sem hsrc rfl (Or.inl rfl) hr >>= fun _ => pure 0#32)) :
    iprop(Before d i cc γ L f k ∗ TB d i m fs q ∗ semVal (V d (ci i) (si i), .dma sem) 0)
      ⊢ iprop((∀ acc, Flying d i cc Tgt q γ L k m fs sem -∗ twp d (ci i) (si i) (kk acc) Q)
        -∗ twp d (ci i) (si i) ((mainL v).for ok init body >>= fun a => (remL v).for ok' a body' >>= kk) Q) :=
  list_gather d (ci i) (si i) cc γ hk (main_trips cc hv) (rem_trips cc hv) (fun t => rowOff bw t.val) inb (fun t => listOff lw t.val) linb
    (fun t ht => row_at cc hc hk hbw t.val ht) (fun t ht => list_at cc hk hlw t.val ht) hsrc hr (names_of d (ci i) (si i) hL (rowBase_le i) hk hT) hbody

include hk hv in
/-- Its gathers waited for. -/
theorem land {Q : α → sProp 𝕄} {off : Fin (mainL v).trips → Fin 2 → ℕ} {inb : ∀ t a, off t a + S64x128.size a ≤ S768x128.size a}
    {hsrc : (allRows m).view.WordExact} {hdst : ∀ t, (rowWin (off t) (inb t)).view.WordExact}
    (hbody : ∀ t acc, body t acc = .op (.waitDma2 sem (allRows m) (rowWin (off t) (inb t)) hsrc (hdst t)) fun _ => pure 0#32) :
    iprop(MayWaits (V d (ci i) (si i)) (none : HIx 1) O ∗ Flying d i cc Tgt q γ L k m fs sem ∗ OW d (ci i) (si i) O W)
      ⊢ iprop((∀ acc, iprop(After d i cc Tgt γ L k ∗ TB d i m fs q ∗ semVal (V d (ci i) (si i), .dma sem) 0 ∗ OW d (ci i) (si i) O W) -∗ twp d (ci i) (si i) (kk acc) Q)
        -∗ twp d (ci i) (si i) ((mainL v).for ok init body >>= fun a => (remL v).for ok' a body' >>= kk) Q) := by
  iintro ⟨#Hmw, ⟨HB, HK⟩, HO⟩
  iapply (list_drain d (ci i) (si i) cc γ hk (main_trips cc hv) (rem_trips cc hv) (fun _ => allRows m) (fun t => rowWin (off t) (inb t)) (fun _ => hsrc) hdst
    (fun _ => credit_win) hbody) $$ [HB HK HO]
  isplitr; · iexact Hmw
  isplitl [HB]; · iexact HB
  isplitl [HK] <;> iassumption

include hc hk hv hbw hlw hL in
/-- Its scatters fired. -/
theorem send {Q : α → sProp 𝕄} (inb : ∀ (t : Fin (mainL v).trips) a, rowOff bw t.val a + S64x128.size a ≤ S768x128.size a)
    (linb : ∀ (t : Fin (mainL v).trips) a, listOff lw t.val a + S64.size a ≤ S2304.size a) (hr : S16384x128.StreamRows 0)
    (hbody : ∀ t acc, body t acc = (SparseCore.enqueueIndirectScatter rfl (rowWin (rowOff bw t.val) (inb t)) (allRows oV) gathers_S16384x128_S64x128
      (listWin (listOff lw t.val) (linb t)) rfl cc0_scratch6.sem rfl (Or.inl rfl) hr >>= fun _ => pure 0#32)) :
    iprop(OutI d i cc Tgt γ κ L ∗ After d i cc Tgt γ L k ∗ Sent d i cc Tgt γ L (bb cc k) 0)
      ⊢ iprop((∀ acc, Sent d i cc Tgt γ L (bb cc (k + 1)) 0 -∗ twp d (ci i) (si i) (kk acc) Q)
        -∗ twp d (ci i) (si i) ((mainL v).for ok init body >>= fun a => (remL v).for ok' a body' >>= kk) Q) :=
  list_scatter d (ci i) (si i) cc γ hk (main_trips cc hv) (rem_trips cc hv) (fun t => rowOff bw t.val) inb (fun t => listOff lw t.val) linb
    (fun t ht => row_at cc hc hk hbw t.val ht) (fun t ht => list_at cc hk hlw t.val ht) hr (sends_of d (ci i) (si i) hL (rowBase_le i) hk) hbody

include hk hv in
/-- Its scatters waited for. -/
theorem settle {Q : α → sProp 𝕄} {off : Fin (mainL v).trips → Fin 2 → ℕ} {inb : ∀ t a, off t a + S64x128.size a ≤ S768x128.size a}
    {hsrc : (allRows oV).view.WordExact} {hdst : ∀ t, (rowWin (off t) (inb t)).view.WordExact}
    (hbody : ∀ t acc, body t acc = .op (.waitDma2 cc0_scratch6.sem (allRows oV) (rowWin (off t) (inb t)) hsrc (hdst t)) fun _ => pure 0#32) :
    iprop(MayWaits (V d (ci i) (si i)) (none : HIx 1) O ∗ Sent d i cc Tgt γ L (bb cc 4) (4096 * bb cc k) ∗ OW d (ci i) (si i) O W)
      ⊢ iprop((∀ acc, iprop(Sent d i cc Tgt γ L (bb cc 4) (4096 * bb cc (k + 1)) ∗ OW d (ci i) (si i) O W) -∗ twp d (ci i) (si i) (kk acc) Q)
        -∗ twp d (ci i) (si i) ((mainL v).for ok init body >>= fun a => (remL v).for ok' a body' >>= kk) Q) :=
  list_sdrain d (ci i) (si i) cc γ hk (main_trips cc hv) (rem_trips cc hv) (fun _ => allRows oV) (fun t => rowWin (off t) (inb t)) (fun _ => hsrc) hdst
    (fun _ => credit_win) hbody

end Steps

/-! ## The parts of the program that take them -/

variable (hc : ∀ r, cc r < 4) {v13 v15 v17 v19 : BitVec 32}
  (h13 : v13 = BitVec.ofNat 32 (tot cc 512 0)) (h15 : v15 = BitVec.ofNat 32 (tot cc 512 1)) (h17 : v17 = BitVec.ofNat 32 (tot cc 512 2)) (h19 : v19 = BitVec.ofNat 32 (tot cc 512 3))
  (hw4 : k0_chk4 v13) (hw6 : k0_chk6 v13 v15) (hw8 : k0_chk8 v13 v15 v17) (hw10 : k0_chk10 v13 v15 v17 v19)

include hc h13 h15 h17 h19 in
theorem part6 {β : Type} {Q : β → sProp 𝕄} (v37 v55 v73 v92 v94 : BitVec 32) {w : Vec F S16 .i32} (hgood : ∀ x : S16.Idx, Good cc (rowBase i) 3 (w x))
    (hT0 : Chosen d i cc 0 t0V g0 Tgt) (hT1 : Chosen d i cc 1 t1V g1 Tgt) (hT2 : Chosen d i cc 2 t2V g2 Tgt)
    {kk : BitVec 32 → Prog (TpuEff nD τ sig (Elt F) Λ₀ (Proc.scVector (ci i) (si i))) β} :
    iprop(MayWaits (V d (ci i) (si i)) (none : HIx 1) O ∗ Padded d i cc 14 ∗ (∃ f, rLoc d (ci i) (si i) ↦{fullShare} f)
        ∗ (∃ g, oLoc' d (ci i) (si i) ↦[tileRows (rowBase i)]{fullShare} g)
        ∗ (TB d i t0V g0 q ∗ TB d i t1V g1 q ∗ TB d i t2V g2 q ∗ TB d i t3V g3 q)
        ∗ semVal (V d (ci i) (si i), .dma cc0_scratch4.sem) 0 ∗ semVal (V d (ci i) (si i), .dma cc0_scratch5.sem) 0
        ∗ semVal (V d (ci i) (si i), .dma cc0_scratch6.sem) 0 ∗ OW d (ci i) (si i) O W)
      ⊢ iprop((∀ L f γ κ, ⌜Lst cc (rowBase i) 16 L⌝ -∗ OutI d i cc Tgt γ κ L -∗ St6 d i cc Tgt g0 g1 g2 g3 q γ L f -∗ Aside d i cc L f -∗ OW d (ci i) (si i) O W
            -∗ twp d (ci i) (si i) (kk 0#32) Q)
        -∗ twp d (ci i) (si i)
          (k0_part6_skel i t0V (Memref.isWhole_whole _) t1V (Memref.isWhole_whole _) t2V (Memref.isWhole_whole _) t3V (Memref.isWhole_whole _)
            idV (Memref.isWhole_whole _) oV (Memref.isWhole_whole _) cV (Memref.isWhole_whole _) lV (Memref.isWhole_whole _) nV (Memref.isWhole_whole _)
            rV (Memref.isWhole_whole _) cc0_scratch4 cc0_scratch5 cc0_scratch6 cc0_scoped0 v13 hw4 v15 hw6 v17 hw8 v19 hw10 v37 v55 v73 v92 v94 w >>= kk) Q) := by
  unfold k0_part6_skel
  simp only [Prog.lift, Prog.bind_assoc, Prog.bind_op, Prog.bind_ret, Prog.pure_eq_ret]
  iintro ⟨#Hmw, HP, ⟨%f, HR⟩, ⟨%g, Hout⟩, ⟨HT0, HT1, HT2, HT3⟩, HsA, HsB, HsS, HO⟩ Hk
  iapply (pad_store d i cc hc (t := 14) (by decide) (padWord_eq cc hc (k := 3) (by decide) 2 h19) hgood) $$ HP
  iintro HP
  iapply (pad_store d i cc hc (t := 15) (by decide) (padWord_eq cc hc (k := 3) (by decide) 3 h19) hgood) $$ HP
  iintro HP
  unfold Padded
  icases HP with ⟨%L, %hL, HL⟩
  have hb := rowBase_le i
  unfold twp
  imod (begin_moves d (ci i) (si i) cc (sem := cc0_scratch6.sem) (L := L) (f := f) (G := Gth d i cc Tgt L) (base := rowBase i) (Tgt := Tgt) hc g) $$ [HL HR Hout HsS]
    with ⟨%γ, %κ, #Hinv, ⟨H0, H1, H2, H3⟩, HB, Haside⟩
  · isplitl [HL]; · iexact HL
    isplitl [HR]; · iexact HR
    isplitl [Hout] <;> iassumption
  iapply (fire d i cc hc (k := 0) (by decide) h13 (bw := 0#32) (lw := 0#32) rfl rfl hL hT0 (fun t => k0_off7_inb v13 hw4 t) (fun t => k0_off8_inb v13 hw4 t)
    _ _ (fun _ _ => rfl)) $$ [H0 HT0 HsA]
  · isplitl [H0]; · iexact H0
    isplitl [HT0] <;> iassumption
  iintro %_ HF0
  iapply (fire d i cc hc (k := 1) (by decide) h15 (bw := base1 v13) (lw := 576#32) (base1_nat cc h13) rfl hL hT1 (fun t => k0_off11_inb v13 v15 hw6 t)
    (fun t => k0_off12_inb v13 v15 hw6 t) _ _ (fun _ _ => rfl)) $$ [H1 HT1 HsB]
  · isplitl [H1]; · iexact H1
    isplitl [HT1] <;> iassumption
  iintro %_ HF1
  iapply (land d i cc (k := 0) (by decide) h13 (hbody := fun _ _ => rfl)) $$ [HF0 HO]
  · isplitr; · iexact Hmw
    isplitl [HF0] <;> iassumption
  iintro %_ ⟨HA0, HT0, HsA, HO⟩
  iapply (fire d i cc hc (k := 2) (by decide) h17 (bw := base2 v13 v15) (lw := 1152#32) (base2_nat cc h13 h15) rfl hL hT2 (fun t => k0_off19_inb v13 v15 v17 hw8 t)
    (fun t => k0_off20_inb v13 v15 v17 hw8 t) _ _ (fun _ _ => rfl)) $$ [H2 HT2 HsA]
  · isplitl [H2]; · iexact H2
    isplitl [HT2] <;> iassumption
  iintro %_ HF2
  iapply Hk $$ %L %f %γ %κ [] Hinv [HA0 HT0 HF1 HF2 H3 HT3 HB] Haside HO
  · ipureintro; exact hL
  · unfold St6
    isplitl [HA0]; · iexact HA0
    isplitl [HT0]; · iexact HT0
    isplitl [HF1]; · iexact HF1
    isplitl [HF2]; · iexact HF2
    isplitl [H3]; · iexact H3
    isplitl [HT3] <;> iassumption

include hc h13 h15 h17 h19 in
theorem part7 {β : Type} {Q : β → sProp 𝕄} (v37 v55 v73 v91 v92 v94 v97 c0 : BitVec 32) (hL : Lst cc (rowBase i) 16 L) (hT3 : Chosen d i cc 3 t3V g3 Tgt)
    {kk : PUnit → Prog (TpuEff nD τ sig (Elt F) Λ₀ (Proc.scVector (ci i) (si i))) β} :
    iprop(MayWaits (V d (ci i) (si i)) (none : HIx 1) O ∗ OutI d i cc Tgt γ κ L ∗ St6 d i cc Tgt g0 g1 g2 g3 q γ L f ∗ OW d (ci i) (si i) O W)
      ⊢ iprop((iprop(St7 d i cc Tgt g0 g1 g2 g3 q γ L ∗ OW d (ci i) (si i) O W) -∗ twp d (ci i) (si i) (kk ⟨⟩) Q)
        -∗ twp d (ci i) (si i)
          (k0_part7_skel i t0V (Memref.isWhole_whole _) t1V (Memref.isWhole_whole _) t2V (Memref.isWhole_whole _) t3V (Memref.isWhole_whole _)
            idV (Memref.isWhole_whole _) oV (Memref.isWhole_whole _) cV (Memref.isWhole_whole _) lV (Memref.isWhole_whole _) nV (Memref.isWhole_whole _)
            rV (Memref.isWhole_whole _) cc0_scratch4 cc0_scratch5 cc0_scratch6 cc0_scoped0 v13 hw4 v15 hw6 v17 hw8 v19 hw10 v37 v55 v73 v91 v92 v94 v97 c0 >>= kk) Q) := by
  unfold k0_part7_skel
  simp only [Prog.bind_assoc, Prog.bind_ret, Prog.pure_eq_ret]
  unfold St6
  iintro ⟨#Hmw, #Hinv, ⟨HA0, HT0, HF1, HF2, H3, HT3, HB⟩, HO⟩ Hk
  iapply (send d i cc hc (k := 0) (by decide) h13 (bw := 0#32) (lw := 0#32) rfl rfl hL (fun t => k0_off23_inb v13 hw4 t) (fun t => k0_off24_inb v13 hw4 t)
    _ (fun _ _ => rfl)) $$ [HA0 HB]
  · isplitr; · iexact Hinv
    isplitl [HA0]; · iexact HA0
    iexact HB
  iintro %_ HB
  iapply (land d i cc (k := 1) (by decide) h15 (hbody := fun _ _ => rfl)) $$ [HF1 HO]
  · isplitr; · iexact Hmw
    isplitl [HF1] <;> iassumption
  iintro %_ ⟨HA1, HT1, HsB, HO⟩
  iapply (fire d i cc hc (k := 3) (by decide) h19 (bw := base3 v13 v15 v17) (lw := 1728#32) (base3_nat cc h13 h15 h17) rfl hL hT3
    (fun t => k0_off31_inb v13 v15 v17 v19 hw10 t) (fun t => k0_off32_inb v13 v15 v17 v19 hw10 t) _ _ (fun _ _ => rfl)) $$ [H3 HT3 HsB]
  · isplitl [H3]; · iexact H3
    isplitl [HT3] <;> iassumption
  iintro %_ HF3
  iapply (send d i cc hc (k := 1) (by decide) h15 (bw := base1 v13) (lw := 576#32) (base1_nat cc h13) rfl hL (fun t => k0_off35_inb v13 v15 hw6 t)
    (fun t => k0_off36_inb v13 v15 hw6 t) _ (fun _ _ => rfl)) $$ [HA1 HB]
  · isplitr; · iexact Hinv
    isplitl [HA1] <;> iassumption
  iintro %_ HB
  iapply (land d i cc (k := 2) (by decide) h17 (hbody := fun _ _ => rfl)) $$ [HF2 HO]
  · isplitr; · iexact Hmw
    isplitl [HF2] <;> iassumption
  iintro %_ ⟨HA2, HT2, HsA, HO⟩
  iapply Hk
  isplitr [HO]
  · unfold St7
    isplitl [HB]; · iexact HB
    isplitl [HT0]; · iexact HT0
    isplitl [HT1]; · iexact HT1
    isplitl [HA2]; · iexact HA2
    isplitl [HT2]; · iexact HT2
    isplitl [HsA] <;> iassumption
  · iexact HO

include hc h13 h15 h17 h19 in
theorem part8 {β : Type} {Q : β → sProp 𝕄} (v37 v55 v73 v91 v92 v94 v97 : BitVec 32) (hL : Lst cc (rowBase i) 16 L)
    {kk : (Σ' (v277 : BitVec 32) (v278 : BitVec 32), BitVec 32) → Prog (TpuEff nD τ sig (Elt F) Λ₀ (Proc.scVector (ci i) (si i))) β} :
    iprop(MayWaits (V d (ci i) (si i)) (none : HIx 1) O ∗ OutI d i cc Tgt γ κ L ∗ St7 d i cc Tgt g0 g1 g2 g3 q γ L ∗ OW d (ci i) (si i) O W)
      ⊢ iprop((∀ v277 v278 c1, iprop(St8 d i cc Tgt g0 g1 g2 g3 q γ L ∗ OW d (ci i) (si i) O W) -∗ twp d (ci i) (si i) (kk ⟨v277, v278, c1⟩) Q)
        -∗ twp d (ci i) (si i)
          (k0_part8_skel i t0V (Memref.isWhole_whole _) t1V (Memref.isWhole_whole _) t2V (Memref.isWhole_whole _) t3V (Memref.isWhole_whole _)
            idV (Memref.isWhole_whole _) oV (Memref.isWhole_whole _) cV (Memref.isWhole_whole _) lV (Memref.isWhole_whole _) nV (Memref.isWhole_whole _)
            rV (Memref.isWhole_whole _) cc0_scratch4 cc0_scratch5 cc0_scratch6 cc0_scoped0 v13 hw4 v15 hw6 v17 hw8 v19 hw10 v37 v55 v73 v91 v92 v94 v97 >>= kk) Q) := by
  unfold k0_part8_skel
  simp only [Prog.bind_assoc, Prog.bind_ret, Prog.pure_eq_ret]
  unfold St7
  iintro ⟨#Hmw, #Hinv, ⟨HB, HT0, HT1, HA2, HT2, HsA, HF3⟩, HO⟩ Hk
  iapply (send d i cc hc (k := 2) (by decide) h17 (bw := base2 v13 v15) (lw := 1152#32) (base2_nat cc h13 h15) rfl hL (fun t => k0_off43_inb v13 v15 v17 hw8 t)
    (fun t => k0_off44_inb v13 v15 v17 hw8 t) _ (fun _ _ => rfl)) $$ [HA2 HB]
  · isplitr; · iexact Hinv
    isplitl [HA2] <;> iassumption
  iintro %_ HB
  iapply (land d i cc (k := 3) (by decide) h19 (hbody := fun _ _ => rfl)) $$ [HF3 HO]
  · isplitr; · iexact Hmw
    isplitl [HF3] <;> iassumption
  iintro %_ ⟨HA3, HT3, HsB, HO⟩
  iapply (send d i cc hc (k := 3) (by decide) h19 (bw := base3 v13 v15 v17) (lw := 1728#32) (base3_nat cc h13 h15 h17) rfl hL
    (fun t => k0_off51_inb v13 v15 v17 v19 hw10 t) (fun t => k0_off52_inb v13 v15 v17 v19 hw10 t) _ (fun _ _ => rfl)) $$ [HA3 HB]
  · isplitr; · iexact Hinv
    isplitl [HA3] <;> iassumption
  iintro %_ HB
  iapply (settle d i cc (k := 0) (by decide) h13 (hbody := fun _ _ => rfl)) $$ [HB HO]
  · isplitr; · iexact Hmw
    isplitl [HB]; · iexact HB
    iexact HO
  iintro %_ ⟨HB, HO⟩
  iapply (drain_loop d (ci i) (si i) (main_trips cc h15) (base := bb cc 1) (N := bb cc 4) (end_le cc (k := 1) (by decide)) (fun _ => allRows oV)
    (fun t => rowWin (rowOff (base1 v13) t.val) (k0_off59_inb v13 v15 hw6 t)) (fun _ => View.wordExact_bits rfl) (fun _ => View.wordExact_bits rfl) (fun _ => credit_win)
    (fun _ _ => rfl)) $$ [HB HO]
  · isplitr; · iexact Hmw
    isplitl [HB] <;> iassumption
  iintro %acc ⟨HB, HO⟩
  iapply Hk
  isplitr [HO]
  · unfold St8
    isplitl [HB]; · iexact HB
    isplitl [HT0]; · iexact HT0
    isplitl [HT1]; · iexact HT1
    isplitl [HT2]; · iexact HT2
    isplitl [HT3]; · iexact HT3
    isplitl [HsA] <;> iassumption
  · iexact HO

end Cert.Proof.Tile

end
-- ==== Proof.Body.lean ====
/-
  ONE TILE, from its ids to its rows of the result: the parts of the program in order.
-/
module

public import proofs.«01_k».proof.Proof.Streaming

@[expose] public section

noncomputable section

namespace Cert.Proof.Tile

open Cert.KernelIdeal Cert.KernelIdeal.Gen
open Cert.Proof.Group
open Cert.Proof.Words (mainL remL rowOff listOff base1 base2 base3)
open Idealize.ShloMosaic
open Idealize.ShloMosaic.SparseCore (S V T)
open Idealize.ShloMosaic.SparseCore.Cfg (HIx)
open Idealize.ShloMosaic.Transfers (Batch MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords) (cc : ℕ → ℕ)

/-- The four semaphores of a tile, none credited. -/
abbrev Sems : sProp 𝕄 :=
  iprop(semVal (V d (ci i) (si i), .dma cc0_scratch4.sem) 0 ∗ semVal (V d (ci i) (si i), .dma cc0_scratch5.sem) 0
    ∗ semVal (V d (ci i) (si i), .dma cc0_scratch6.sem) 0 ∗ semVal (V d (ci i) (si i), .dma cc0_scoped0.sem) 0)

/-- A tile's four scratch buffers, holding anything. -/
abbrev Scratch : sProp 𝕄 :=
  iprop((∃ C, cLoc d (ci i) (si i) ↦{fullShare} C) ∗ (∃ L, lLoc d (ci i) (si i) ↦{fullShare} L) ∗ (∃ n, nLoc d (ci i) (si i) ↦{fullShare} n)
    ∗ (∃ f, rLoc d (ci i) (si i) ↦{fullShare} f))

variable {Tgt : Buf (Elt F) (oLoc' d (ci i) (si i))}
variable {g0 : Buf (Elt F) ((allRows t0V).view.loc (V d (ci i) (si i)))} {g1 : Buf (Elt F) ((allRows t1V).view.loc (V d (ci i) (si i)))}
  {g2 : Buf (Elt F) ((allRows t2V).view.loc (V d (ci i) (si i)))} {g3 : Buf (Elt F) ((allRows t3V).view.loc (V d (ci i) (si i)))}
  {q q' : PosShare TreeShare} {iv : Buf (Elt F) (idLoc d i)}
variable {O : CellTallies nD τ sig (HIx 1)} {W : Waits sig (HIx 1)}

theorem tile_run (hc : ∀ r, cc r < 4) (hiv : IdsAt d i cc iv)
    (hT0 : Chosen d i cc 0 t0V g0 Tgt) (hT1 : Chosen d i cc 1 t1V g1 Tgt) (hT2 : Chosen d i cc 2 t2V g2 Tgt) (hT3 : Chosen d i cc 3 t3V g3 Tgt) :
    iprop(MayWaits (V d (ci i) (si i)) (none : HIx 1) O ∗ (idLoc d i ↦[(idWin i).view.set]{q'} iv)
        ∗ (TB d i t0V g0 q ∗ TB d i t1V g1 q ∗ TB d i t2V g2 q ∗ TB d i t3V g3 q)
        ∗ (∃ g, oLoc' d (ci i) (si i) ↦[tileRows (rowBase i)]{fullShare} g)
        ∗ Scratch d i ∗ Sems d i ∗ OW d (ci i) (si i) O W)
      ⊢ twp d (ci i) (si i)
          (cc0_run_skel i t0V (Memref.isWhole_whole _) t1V (Memref.isWhole_whole _) t2V (Memref.isWhole_whole _) t3V (Memref.isWhole_whole _)
            idV (Memref.isWhole_whole _) oV (Memref.isWhole_whole _) cV (Memref.isWhole_whole _) lV (Memref.isWhole_whole _) nV (Memref.isWhole_whole _)
            rV (Memref.isWhole_whole _) cc0_scratch4 cc0_scratch5 cc0_scratch6 cc0_scoped0)
          fun _ => iprop((idLoc d i ↦[(idWin i).view.set]{q'} iv) ∗ (TB d i t0V g0 q ∗ TB d i t1V g1 q ∗ TB d i t2V g2 q ∗ TB d i t3V g3 q)
            ∗ (oLoc' d (ci i) (si i) ↦[tileRows (rowBase i)]{fullShare} Tgt) ∗ Scratch d i ∗ Sems d i ∗ OW d (ci i) (si i) O W) := by
  unfold cc0_run_skel
  rw [k0_part1_eq_skeleton, k0_part2_eq_skeleton, k0_part3_eq_skeleton, k0_part4_eq_skeleton, k0_part5_eq_skeleton, k0_part6_eq_skeleton,
    k0_part7_eq_skeleton, k0_part8_eq_skeleton]
  iintro ⟨#Hmw, Hids, HT, Hout, ⟨HC, HL, HN, HR⟩, ⟨HsA, HsB, HsS, Hs0⟩, HO⟩
  iapply (part1 d i cc hc hiv) $$ [Hids HC HN HL Hs0 HO]
  · isplitr; · iexact Hmw
    isplitl [Hids]; · iexact Hids
    isplitl [HC]; · iexact HC
    isplitl [HN]; · iexact HN
    isplitl [HL]; · iexact HL
    isplitl [Hs0] <;> iassumption
  iintro %v13 %hw4 %v15 %hw6 %v17 %hw8 %v19 %hw10 %hv ⟨Hids, HC, HN, HL, Hs0, HO⟩
  obtain ⟨h13, h15, h17, h19⟩ := hv
  iapply (part2 d i)
  iintro %v37 %v55 %v57 %v68 %v69
  iapply (part3 d i cc hc h13 hw4) $$ [HL]
  · unfold Padded; iexact HL
  iintro %v73 %v91 %v92 %v94 %v97 %w0 %v107 %c16 %good0 HP
  iapply (part4 d i cc hc h13 h15 hw4 hw6 v17 good0) $$ HP
  iintro HP
  iapply (part5 d i cc hc h17 h19 hw8 hw10) $$ HP
  iintro %w3 %good3 HP
  iapply (part6 d i cc hc h13 h15 h17 h19 hw4 hw6 hw8 hw10 v37 v55 v73 v92 v94 good3 hT0 hT1 hT2) $$ [HP HR Hout HT HsA HsB HsS HO]
  · isplitr; · iexact Hmw
    isplitl [HP]; · iexact HP
    isplitl [HR]; · iexact HR
    isplitl [Hout]; · iexact Hout
    isplitl [HT]; · iexact HT
    isplitl [HsA]; · iexact HsA
    isplitl [HsB]; · iexact HsB
    isplitl [HsS] <;> iassumption
  iintro %L %f %γ %κ %hL #Hinv HS Haside HO
  iapply (part7 d i cc hc h13 h15 h17 h19 hw4 hw6 hw8 hw10 v37 v55 v73 v91 v92 v94 v97 _ hL hT3) $$ [HS HO]
  · isplitr; · iexact Hmw
    isplitr; · iexact Hinv
    isplitl [HS] <;> iassumption
  iintro ⟨HS, HO⟩
  iapply (part8 d i cc hc h13 h15 h17 h19 hw4 hw6 hw8 hw10 v37 v55 v73 v91 v92 v94 v97 hL) $$ [HS HO]
  · isplitr; · iexact Hmw
    isplitr; · iexact Hinv
    isplitl [HS] <;> iassumption
  iintro %v277 %v278 %c1 ⟨HS, HO⟩
  unfold St8
  icases HS with ⟨HB, HT0, HT1, HT2, HT3, HsA, HsB⟩
  iapply (loop_none d (ci i) (si i) (rem_trips cc h15))
  iintro %_
  iapply (settle d i cc (k := 2) (by decide) h17 (hbody := fun _ _ => rfl)) $$ [HB HO]
  · isplitr; · iexact Hmw
    isplitl [HB]; · iexact HB
    iexact HO
  iintro %_ ⟨HB, HO⟩
  iapply (settle d i cc (k := 3) (by decide) h19 (hbody := fun _ _ => rfl)) $$ [HB HO]
  · isplitr; · iexact Hmw
    isplitl [HB] <;> iassumption
  iintro %_ ⟨HB, HO⟩
  unfold twp
  imod (end_moves d (ci i) (si i) cc γ (sem := cc0_scratch6.sem) (L := L) (f := f) (G := Gth d i cc Tgt L) (base := rowBase i) (Tgt := Tgt) hc hL (rowBase_le i) (κ := κ))
    $$ [HB Haside] with ⟨HL, HR, Hout, HsS⟩
  · isplitr; · iexact Hinv
    isplitl [HB] <;> iassumption
  simp only [Prog.pure_eq_ret]
  rw [wp_ret]
  imodintro
  isplitl [Hids]; · iexact Hids
  isplitl [HT0 HT1 HT2 HT3]
  · isplitl [HT0]; · iexact HT0
    isplitl [HT1]; · iexact HT1
    isplitl [HT2] <;> iassumption
  isplitl [Hout]; · iexact Hout
  isplitl [HC HL HN HR]
  · isplitl [HC]; · iexact HC
    isplitl [HL]; · iexists L; iexact HL
    isplitl [HN] <;> iassumption
  isplitr [HO]
  · isplitl [HsA]; · iexact HsA
    isplitl [HsB]; · iexact HsB
    isplitl [HsS] <;> iassumption
  · iexact HO

end Cert.Proof.Tile

end
-- ==== Proof.Deal.lean ====
/-
  WHAT THE CALL IS GIVEN AND HOW IT IS DEALT: the five arrays that it reads, at shares of them, and the result's rows.
-/
module

public import proofs.«01_k».proof.Proof.Body

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays -/

variable (d : Dev nD)

abbrev aLoc0 : Loc nD τ sig := (SparseCore.T d).loc main_arg0
abbrev aLoc1 : Loc nD τ sig := (SparseCore.T d).loc main_arg1
abbrev aLoc2 : Loc nD τ sig := (SparseCore.T d).loc main_arg2
abbrev aLoc3 : Loc nD τ sig := (SparseCore.T d).loc main_arg3
abbrev aLoc4 : Loc nD τ sig := (SparseCore.T d).loc main_arg4
abbrev iLoc : Loc nD τ sig := (SparseCore.T d).loc main_v0
abbrev oLoc : Loc nD τ sig := (SparseCore.T d).loc main_v1

/-- What the call reads: the four tables and the ids, as vectors of their own names. -/
structure Read where
  g0 : Buf (Elt F) (aLoc0 d)
  g1 : Buf (Elt F) (aLoc1 d)
  g2 : Buf (Elt F) (aLoc2 d)
  g3 : Buf (Elt F) (aLoc3 d)
  iv : Buf (Elt F) (iLoc d)

variable {d}
variable (r : Read (F := F) d)

/-- The place of the id of row `n`, -/
def at1 (n : ℕ) (h : n < 16384) : S16384.Idx := fun | 0 => ⟨n, h⟩
/-- and that id. -/
def Read.cid (n : ℕ) : ℕ := if h : n < 16384 then ((show S16384.Idx → BitVec 32 from r.iv) (at1 n h)).toNat else 0

/-- Every id names a table. -/
def Read.Ok : Prop := ∀ x : S16384.Idx, ((show S16384.Idx → BitVec 32 from r.iv) x).toNat < 4

theorem Read.cid_lt (h : r.Ok) (n : ℕ) : r.cid n < 4 := by
  unfold Read.cid
  split
  · exact h _
  · decide

/-- Table `k`. -/
def Read.tab (k : ℕ) : S16384x128.Idx → Elt F .f32 :=
  match k with
  | 0 => r.g0
  | 1 => r.g1
  | 2 => r.g2
  | _ => r.g3

/-- The result: row `n` is row `n` of the table that id `n` names. -/
def Read.want : Buf (Elt F) (oLoc d) := show S16384x128.Idx → Elt F .f32 from fun z => r.tab (r.cid (z 0).val) z

/-- The arrays read, at share `q`; -/
def Ins (q : PosShare TreeShare) : sProp 𝕄 :=
  iprop((iLoc d ↦{q} r.iv) ∗ (aLoc0 d ↦{q} r.g0) ∗ (aLoc1 d ↦{q} r.g1) ∗ (aLoc2 d ↦{q} r.g2) ∗ (aLoc3 d ↦{q} r.g3))
/-- with them the elements `I` of the result, held whole at `f`. -/
def Lot (q : PosShare TreeShare) (I : Finset S16384x128.Idx) (f : Buf (Elt F) (oLoc d)) : sProp 𝕄 :=
  iprop(Ins r q ∗ (oLoc d ↦[I]{fullShare} f))

instance (q : PosShare TreeShare) (I : Finset S16384x128.Idx) (f : Buf (Elt F) (oLoc d)) : BI.Storable (upEmb : UEmb _ 𝕄) (Lot r q I f) := by
  unfold Lot Ins; infer_instance

/-- A lot cut in `o`: the arrays read at a piece of the share each, the result by disjoint parts. -/
theorem lot_cut {o : ℕ} (ho : 0 < o) (q : PosShare TreeShare) (I : Fin o → Finset S16384x128.Idx)
    (hI : ∀ j ∈ (Finset.univ : Finset (Fin o)), ∀ j' ∈ (Finset.univ : Finset (Fin o)), j ≠ j' → Disjoint (I j) (I j')) (f : Buf (Elt F) (oLoc d)) :
    Lot r q (Finset.univ.biUnion I) f = bigSep Finset.univ fun j : Fin o => Lot r (pieceOf q o ho j) (I j) f := by
  unfold Lot Ins
  simp only [bigSep_sep']
  rw [← pointsTo_piecesOf (ℓ := iLoc d), ← pointsTo_piecesOf (ℓ := aLoc0 d), ← pointsTo_piecesOf (ℓ := aLoc1 d), ← pointsTo_piecesOf (ℓ := aLoc2 d),
    ← pointsTo_piecesOf (ℓ := aLoc3 d), pointsTo_biUnion (ℓ := oLoc d) Finset.univ I hI]

/-! ## The rows of a core and of a tile -/

/-- The rows of tile `s` of core `c`, -/
abbrev rowsOf (c s : ℕ) : Finset S16384x128.Idx := tileRows (1024 * s + 512 * c)
/-- and of core `c`. -/
abbrev coreRows (c : ℕ) : Finset S16384x128.Idx := (Finset.univ : Finset (Fin 16)).biUnion fun s => rowsOf c s.val

theorem rowsOf_disjoint {c c' s s' : ℕ} (hc : c < 2) (hc' : c' < 2) (h : c ≠ c' ∨ s ≠ s') : Disjoint (rowsOf c s) (rowsOf c' s') :=
  Finset.disjoint_left.mpr fun x hx hx' => by
    have h1 := (mem_tileRows _).mp hx
    have h2 := (mem_tileRows _).mp hx'
    omega

theorem tiles_disjoint {c : ℕ} (hc : c < 2) : ∀ j ∈ (Finset.univ : Finset (Fin 16)), ∀ j' ∈ (Finset.univ : Finset (Fin 16)), j ≠ j' →
    Disjoint (rowsOf c j.val) (rowsOf c j'.val) :=
  fun j _ j' _ h => rowsOf_disjoint hc hc (.inr fun e => h (Fin.ext e))

theorem cores_disjoint : ∀ c ∈ (Finset.univ : Finset (Fin 2)), ∀ c' ∈ (Finset.univ : Finset (Fin 2)), c ≠ c' →
    Disjoint (coreRows c.val) (coreRows c'.val) := by
  intro c _ c' _ h
  refine Finset.disjoint_left.mpr fun x hx hx' => ?_
  obtain ⟨s, -, hs⟩ := Finset.mem_biUnion.mp hx
  obtain ⟨s', -, hs'⟩ := Finset.mem_biUnion.mp hx'
  exact Finset.disjoint_left.mp (rowsOf_disjoint c.isLt c'.isLt (.inl fun e => h (Fin.ext e))) hs hs'

theorem cores_cover : (Finset.univ : Finset (Fin 2)).biUnion (fun c => coreRows c.val) = Finset.univ := by
  ext z
  simp only [Finset.mem_univ, iff_true]
  have hz : (z 0).val < 16384 := (z 0).isLt
  refine Finset.mem_biUnion.mpr ⟨⟨(z 0).val / 512 % 2, Nat.mod_lt _ (by decide)⟩, Finset.mem_univ _, ?_⟩
  refine Finset.mem_biUnion.mpr ⟨⟨(z 0).val / 1024, by omega⟩, Finset.mem_univ _, ?_⟩
  refine (mem_tileRows _).mpr ?_
  simp only
  omega

/-- A core's share of what is read, -/
def coreShare (c : Fin 2) : PosShare TreeShare := pieceOf fullShare 2 (by decide) c
/-- and a tile's. -/
def tileShare (c : Fin 2) (s : Fin 16) : PosShare TreeShare := pieceOf (coreShare c) 16 (by decide) s

/-- Everything, dealt to the cores; -/
theorem lot_cores (f : Buf (Elt F) (oLoc d)) :
    iprop(Ins r fullShare ∗ (oLoc d ↦{fullShare} f)) = bigSep Finset.univ fun c : Fin 2 => Lot r (coreShare c) (coreRows c.val) f := by
  refine Eq.trans ?_ (lot_cut r (by decide) fullShare (fun c : Fin 2 => coreRows c.val) cores_disjoint f)
  rw [cores_cover]
  rfl

/-- a core's, to its tiles. -/
theorem lot_tiles (c : Fin 2) (f : Buf (Elt F) (oLoc d)) :
    Lot r (coreShare c) (coreRows c.val) f = bigSep Finset.univ fun s : Fin 16 => Lot r (tileShare c s) (rowsOf c.val s.val) f :=
  lot_cut r (by decide) (coreShare c) (fun s : Fin 16 => rowsOf c.val s.val) (tiles_disjoint c.isLt) f

end Cert.Proof.Tile

end
-- ==== Proof.Task.lean ====
/-
  ONE TILE AS THE CALL HANDS IT ITS WORK: its lot and its own buffers and semaphores come in, the lot with the tile's rows of
  the result written goes out.
-/
module

public import proofs.«01_k».proof.Proof.Deal

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.ShloMosaic.Transfers (MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tile's own buffers and semaphores -/

/-- Four members of a product, and the rest. -/
theorem four_out {α : Type} [DecidableEq α] {A : Finset α} {a b c e : α} (Φ : α → sProp 𝕄) (ha : a ∈ A) (hb : b ∈ A) (hc : c ∈ A) (he : e ∈ A)
    (hba : b ≠ a) (hca : c ≠ a) (hcb : c ≠ b) (hea : e ≠ a) (heb : e ≠ b) (hec : e ≠ c) :
    bigSep A Φ = iprop(Φ a ∗ Φ b ∗ Φ c ∗ Φ e ∗ bigSep ((((A.erase a).erase b).erase c).erase e) Φ) := by
  rw [SparseCore.bigSep_erase' ha, SparseCore.bigSep_erase' (Finset.mem_erase.mpr ⟨hba, hb⟩),
    SparseCore.bigSep_erase' (Finset.mem_erase.mpr ⟨hcb, Finset.mem_erase.mpr ⟨hca, hc⟩⟩),
    SparseCore.bigSep_erase' (Finset.mem_erase.mpr ⟨hec, Finset.mem_erase.mpr ⟨heb, Finset.mem_erase.mpr ⟨hea, he⟩⟩⟩)]

section Own

variable (d : Dev nD) (c : Fin τ.nSC) (s : Fin τ.nSub)

/-- The cell of a semaphore of the tile's, -/
abbrev cellOf (sm : DmaSems sig S_) : GSem nD τ sig := (V d c s, .dma sm.sem)
/-- and a buffer of the tile's. -/
abbrev refOf (b : Ref sig .scVector) : DevRef τ sig := (Proc.scVector c s : Proc τ).devRef b

theorem cell_mem (sm : DmaSems sig S_) (h : (SemLoc.dma sm.sem : SemLoc sig).isScoped .scVector = true) :
    cellOf d c s sm ∈ ownCells (V d c s) := (mem_ownCells (g := cellOf d c s sm)).mpr ⟨rfl, h⟩

theorem cell_ne {sm sm' : DmaSems sig S_} (h : (SemLoc.dma sm.sem : SemLoc sig) ≠ .dma sm'.sem) : cellOf d c s sm ≠ cellOf d c s sm' :=
  fun e => h (congrArg Prod.snd e)

theorem ownSems0_V :
    ∃ R : sProp 𝕄, (ownSems0 (V d c s) : sProp 𝕄) = iprop(semVal (cellOf d c s cc0_scratch4) 0 ∗ semVal (cellOf d c s cc0_scratch5) 0
      ∗ semVal (cellOf d c s cc0_scratch6) 0 ∗ semVal (cellOf d c s cc0_scoped0) 0 ∗ R) := by
  exact Exists.intro _ <| four_out (A := ownCells (V d c s)) (a := cellOf d c s cc0_scratch4) (b := cellOf d c s cc0_scratch5) (c := cellOf d c s cc0_scratch6) (e := cellOf d c s cc0_scoped0)
    (fun g => semVal g 0)
    (cell_mem d c s _ (by decide)) (cell_mem d c s _ (by decide)) (cell_mem d c s _ (by decide)) (cell_mem d c s _ (by decide))
    (cell_ne d c s (by decide)) (cell_ne d c s (by decide)) (cell_ne d c s (by decide)) (cell_ne d c s (by decide)) (cell_ne d c s (by decide))
    (cell_ne d c s (by decide))

theorem ref_ne {b b' : Ref sig .scVector} (h : b ≠ b') : refOf c s b ≠ refOf c s b' := fun e => h (Proc.devRef_injective _ e)

theorem ownBufs_V :
    ∃ R : sProp 𝕄, (ownBufs (V d c s) : sProp 𝕄) = iprop((∃ C, cLoc d c s ↦{fullShare} C) ∗ (∃ L, lLoc d c s ↦{fullShare} L)
      ∗ (∃ n, nLoc d c s ↦{fullShare} n) ∗ (∃ f, rLoc d c s ↦{fullShare} f) ∗ R) := by
  exact Exists.intro _ <| four_out (A := ownRefs (τ := τ) (.scVector c s)) (a := refOf c s cc0_scratch0) (b := refOf c s cc0_scratch1) (c := refOf c s cc0_scratch2) (e := refOf c s cc0_scratch3)
    (fun b => iprop(∃ f, ((d, b) : Loc nD τ sig) ↦{fullShare} f))
    (SparseCore.Cfg.mem_ownRefs_of_owner (p := Proc.scVector c s) (b := refOf c s cc0_scratch0) rfl)
    (SparseCore.Cfg.mem_ownRefs_of_owner (p := Proc.scVector c s) (b := refOf c s cc0_scratch1) rfl)
    (SparseCore.Cfg.mem_ownRefs_of_owner (p := Proc.scVector c s) (b := refOf c s cc0_scratch2) rfl)
    (SparseCore.Cfg.mem_ownRefs_of_owner (p := Proc.scVector c s) (b := refOf c s cc0_scratch3) rfl)
    (ref_ne c s (by decide)) (ref_ne c s (by decide)) (ref_ne c s (by decide)) (ref_ne c s (by decide)) (ref_ne c s (by decide)) (ref_ne c s (by decide))

end Own

/-! ## The tile's reading of the arrays -/

section Reads

variable {d : Dev nD} (i : grid0.Coords) (r : Read (F := F) d)

/-- The id of row `ρ` of the tile. -/
abbrev tileId (ρ : ℕ) : ℕ := r.cid (rowBase i + ρ)

theorem idWin_emb (x : S512.Idx) : (((idWin i).view.emb x : S16384.Idx) 0).val = rowBase i + (x 0).val := by
  show (k0_off1 i) 0 + 1 * (x 0).val = _
  rw [k0_off1_eq]
  simp [rowBase]

theorem ids_at : IdsAt d i (tileId i r) r.iv := by
  intro x
  have hx : (x 0).val < 512 := (x 0).isLt
  have hb := rowBase_le i
  have hlt : rowBase i + (x 0).val < 16384 := by omega
  have hat : ((idWin i).view.emb x : S16384.Idx) = at1 (rowBase i + (x 0).val) hlt := by
    funext a
    obtain rfl : a = (0 : Fin 1) := Subsingleton.elim (α := Fin 1) _ _
    exact Fin.ext (idWin_emb i x)
  unfold tileId Read.cid
  rw [dif_pos hlt, BitVec.ofNat_toNat, BitVec.setWidth_eq]
  exact congrArg (show S16384.Idx → BitVec 32 from r.iv) hat

theorem allRows_set (m : Memref sig .scVector .hbm S16384x128 .f32) : (allRows m).view.set = m.view.set := by
  refine Finset.ext fun y => ⟨fun h => ?_, fun h => ?_⟩
  · obtain ⟨x, -, rfl⟩ := Finset.mem_map.mp h
    exact Finset.mem_map.mpr ⟨x, Finset.mem_univ _, (allRows_emb m x).symm⟩
  · obtain ⟨x, -, rfl⟩ := Finset.mem_map.mp h
    exact Finset.mem_map.mpr ⟨x, Finset.mem_univ _, allRows_emb m x⟩

/-- A table, as the streams name it, is the array read whole. -/
theorem tb_eq (m : Memref sig .scVector .hbm S16384x128 .f32) (h : m.view.set = Finset.univ)
    (fs : Buf (Elt F) ((allRows m).view.loc (V d (ci i) (si i)))) (q : PosShare TreeShare) :
    TB d i m fs q = (((allRows m).view.loc (V d (ci i) (si i)) ↦{q} fs) : sProp 𝕄) := by
  have e : (allRows m).view.set = Finset.univ := (allRows_set m).trans h
  show ((allRows m).view.loc (V d (ci i) (si i)) ↦[(allRows m).view.set]{q} fs) = _
  rw [e]

theorem chosen (k : ℕ) {m : Memref sig .scVector .hbm S16384x128 .f32} {fs : Buf (Elt F) ((allRows m).view.loc (V d (ci i) (si i)))}
    (h : ∀ z : S16384x128.Idx, (allRows m).view.read (Elt F) fs z = r.tab k z) : Chosen d i (tileId i r) k m fs r.want := by
  intro ρ _ hk z hz
  rw [h z, ← hk, tileId, ← hz]
  rfl

end Reads

/-! ## The tile -/

variable {d : Dev nD} (r : Read (F := F) d) (i : grid0.Coords)

/-- The tile's program, over the buffers that the call passes it. -/
abbrev prog (i : grid0.Coords) : Prog (TpuEff nD τ sig (Elt F) Λ₀ (.scVector (ci i) (si i))) PUnit :=
  cc0_run i t0V (Memref.isWhole_whole _) t1V (Memref.isWhole_whole _) t2V (Memref.isWhole_whole _) t3V (Memref.isWhole_whole _)
    idV (Memref.isWhole_whole _) oV (Memref.isWhole_whole _) cV (Memref.isWhole_whole _) lV (Memref.isWhole_whole _) nV (Memref.isWhole_whole _)
    rV (Memref.isWhole_whole _) cc0_scratch4 cc0_scratch5 cc0_scratch6 cc0_scoped0

theorem task (hF : (K (F := F)).Facts) (hr : r.Ok) (q : PosShare TreeShare) (f : Buf (Elt F) (oLoc d)) (O : CellTallies nD τ sig (HIx 1))
    (W : Waits sig (HIx 1)) (hO : ∀ g, O g none = 0) :
    iprop(levAts (K (F := F)).L (K (F := F)).lev ∗ emp ∗ Lot r q (tileRows (rowBase i)) f
        ∗ scopedBufs (V d (ci i) (si i)) ∗ scopedSems0 (V d (ci i) (si i)) ∗ owes (V d (ci i) (si i)) O W)
      ⊢ wp frame (wpE (defs₀ (F := F)) 𝒱₀ (V d (ci i) (si i)) none) Set.univ (prog i)
          fun _ => iprop(Lot r q (tileRows (rowBase i)) r.want ∗ scopedBufs (V d (ci i) (si i)) ∗ scopedSems0 (V d (ci i) (si i))
            ∗ ∃ W', ⌜∀ p ∈ W', p ∈ W ∨ p.2 = none⌝ ∗ owes (V d (ci i) (si i)) O W') := by
  unfold prog
  rw [cc0_run_eq_skeleton, (K (F := F)).scopedBufs_V hF d (ci i) (si i), SparseCore.Cfg.scopedSems0_V (Val := Elt F) d (ci i) (si i)]
  obtain ⟨Rs, hs⟩ := ownSems0_V (F := F) d (ci i) (si i)
  obtain ⟨Rb, hb⟩ := ownBufs_V (F := F) d (ci i) (si i)
  rw [hs, hb]
  unfold Lot Ins
  iintro ⟨#Hlv, -, ⟨⟨Hi, H0, H1, H2, H3⟩, Ho⟩, ⟨HC, HL, HN, HR, Hbufs⟩, ⟨HsA, HsB, HsS, Hs0, Hsems⟩, HO⟩
  ihave Hmw := (show levAts (K (F := F)).L (K (F := F)).lev ⊢ MayWaits (V d (ci i) (si i)) (none : HIx 1) O from
    (K (F := F)).mayWaits_none (thr := V d (ci i) (si i)) hO) $$ Hlv
  ihave Hi := (show (iLoc d ↦{q} r.iv : sProp 𝕄) ⊢ (idLoc d i ↦{q} r.iv) from .rfl) $$ Hi
  ihave Hi := (pointsTo_split_subset (q := q) (f := r.iv) (S := Finset.univ) (Finset.subset_univ (idWin i).view.set)).1 $$ Hi
  icases Hi with ⟨Hi, Hir⟩
  ihave H := (tile_run d i (tileId i r) (fun _ => r.cid_lt hr _) (ids_at i r) (O := O) (W := W) (q := q) (q' := q)
    (chosen i r 0 fun z => congrArg r.g0 (allRows_emb t0V z)) (chosen i r 1 fun z => congrArg r.g1 (allRows_emb t1V z))
    (chosen i r 2 fun z => congrArg r.g2 (allRows_emb t2V z)) (chosen i r 3 fun z => congrArg r.g3 (allRows_emb t3V z)))
    $$ [Hmw Hi H0 H1 H2 H3 Ho HC HL HN HR HsA HsB HsS Hs0 HO]
  · isplitl [Hmw]; · iexact Hmw
    isplitl [Hi]; · iexact Hi
    isplitl [H0 H1 H2 H3]
    · rw [tb_eq i t0V (View.set_whole _), tb_eq i t1V (View.set_whole _), tb_eq i t2V (View.set_whole _), tb_eq i t3V (View.set_whole _)]
      isplitl [H0]; · iexact H0
      isplitl [H1]; · iexact H1
      isplitl [H2] <;> iassumption
    isplitl [Ho]; · iexists f; iexact Ho
    isplitl [HC HL HN HR]
    · isplitl [HC]; · iexact HC
      isplitl [HL]; · iexact HL
      isplitl [HN] <;> iassumption
    isplitl [HsA HsB HsS Hs0]
    · isplitl [HsA]; · iexact HsA
      isplitl [HsB]; · iexact HsB
      isplitl [HsS] <;> iassumption
    unfold OW
    iexists W; isplitr
    · ipureintro; exact fun p hp => .inl hp
    · iexact HO
  iapply (wp_wand frame _ Set.univ) $$ H
  iintro %_ ⟨Hi, HT, Ho, ⟨HC, HL, HN, HR⟩, ⟨HsA, HsB, HsS, Hs0⟩, HO⟩
  rw [tb_eq i t0V (View.set_whole _), tb_eq i t1V (View.set_whole _), tb_eq i t2V (View.set_whole _), tb_eq i t3V (View.set_whole _)]
  icases HT with ⟨H0, H1, H2, H3⟩
  ihave Hi := (pointsTo_split_subset (q := q) (f := r.iv) (S := Finset.univ) (Finset.subset_univ (idWin i).view.set)).2 $$ [Hi Hir]
  · isplitl [Hi] <;> iassumption
  isplitl [Hi H0 H1 H2 H3 Ho]
  · isplitr [Ho]
    · isplitl [Hi]; · iexact Hi
      isplitl [H0]; · iexact H0
      isplitl [H1]; · iexact H1
      isplitl [H2]; · iexact H2
      iexact H3
    · iexact Ho
  isplitl [HC HL HN HR Hbufs]
  · isplitl [HC]; · iexact HC
    isplitl [HL]; · iexact HL
    isplitl [HN]; · iexact HN
    isplitl [HR] <;> iassumption
  isplitl [HsA HsB HsS Hs0 Hsems]
  · isplitl [HsA]; · iexact HsA
    isplitl [HsB]; · iexact HsB
    isplitl [HsS]; · iexact HsS
    isplitl [Hs0] <;> iassumption
  unfold OW
  iexact HO

end Cert.Proof.Tile

end
-- ==== Proof.Launch.lean ====
/-
  THE RUN: the ids reshaped on the TensorCore, the arrays dealt to the cores and to their tiles, every tile's rows collected.
-/
module

public import proofs.«01_k».proof.Proof.Task

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev D [FloatOps F] : Defs nD τ sig (Elt F) (ΛP (F := F)) := Pipeline.defs pcfgs defs₀

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' rounds, the left factor of the algebra. -/
abbrev EH : Emb UH (MT nD τ sig (HIx 1) (Elt F) ℕ UU ℕ) := embL

variable (m : (ℓ : Loc nD τ sig) → Buf (Elt F) ℓ) (ρ : Dev nD → PrngReg)

/-- What the call reads at the launch memory `m`: the tables as they are, the ids as a vector. -/
abbrev rd (d : Dev nD) : Read (F := F) d where
  g0 := m (aLoc0 d)
  g1 := m (aLoc1 d)
  g2 := m (aLoc2 d)
  g3 := m (aLoc3 d)
  iv := shapeCast S16384 (show S16384x1.Idx → BitVec 32 from m (aLoc4 d)) shapeCasts_S16384x1_S16384

/-- What the run asks of the launch memory: every id names a table. -/
def PreOK : Prop := ∀ d : Dev nD, ∀ x : S16384x1.Idx, ((show S16384x1.Idx → BitVec 32 from m (aLoc4 d)) x).toNat < 4

theorem ok_rd (h : PreOK m) (d : Dev nD) : (rd m d).Ok := fun _ => h d _

variable [FloatOps F]

/-! ## What the handshakes carry -/

theorem nCore_zero : (K (F := F)).nCore 0 = 2 := rfl
theorem nSub_zero : (K (F := F)).nSub 0 = 16 := rfl

abbrev coreLot (d : Dev nD) (c : Fin 2) (f : Buf (Elt F) (oLoc d)) : sProp 𝕄 := Lot (rd m d) (coreShare c) (coreRows c.val) f
abbrev tileLot (d : Dev nD) (c : Fin 2) (s : Fin 16) (f : Buf (Elt F) (oLoc d)) : sProp 𝕄 := Lot (rd m d) (tileShare c s) (rowsOf c.val s.val) f

/-- A core takes its lot and deals it to its tiles; each brings its own back with the result written. -/
def P : (K (F := F)).Pay (nD := nD) (Val := Elt F) (Name := ℕ) (U := UU) where
  st := fun q d c => match q with | 0 => coreLot m d (Fin.cast nCore_zero c) (m (oLoc d))
  dn := fun q d c => match q with | 0 => coreLot m d (Fin.cast nCore_zero c) (rd m d).want
  go := fun q d c i => match q with | 0 => tileLot m d (Fin.cast nCore_zero c) (Fin.cast nSub_zero i) (m (oLoc d))
  td := fun q d c i => match q with | 0 => tileLot m d (Fin.cast nCore_zero c) (Fin.cast nSub_zero i) (rd m d).want
  x := fun _ _ => iprop(emp)

instance P_storable : (P (F := F) m).IsStorable where
  st q d c := match q with | 0 => (inferInstance : BI.Storable (upEmb : UEmb _ 𝕄) (coreLot m d (Fin.cast nCore_zero c) (m (oLoc d))))
  dn q d c := match q with | 0 => (inferInstance : BI.Storable (upEmb : UEmb _ 𝕄) (coreLot m d (Fin.cast nCore_zero c) (rd m d).want))
  go q d c i := match q with
    | 0 => (inferInstance : BI.Storable (upEmb : UEmb _ 𝕄) (tileLot m d (Fin.cast nCore_zero c) (Fin.cast nSub_zero i) (m (oLoc d))))
  td q d c i := match q with
    | 0 => (inferInstance : BI.Storable (upEmb : UEmb _ 𝕄) (tileLot m d (Fin.cast nCore_zero c) (Fin.cast nSub_zero i) (rd m d).want))

/-! ## The tiles -/

/-- The grid point of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => prog (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task (rd m d) (coordsV ⟨_, hci.1⟩ ⟨_, hci.2⟩) facts (ok_rd m hpre d) (tileShare (Fin.cast nCore_zero c) (Fin.cast nSub_zero i)) (m (oLoc d)) O W hO).trans
    (wp_mono frame _ _ fun _ => obl_post)

/-! ## The dealing -/

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show coreLot m d (Fin.cast nCore_zero c) (m (oLoc d)) ⊢ |={Set.univ}=> iprop(
      (bigSep Finset.univ fun i : Fin ((K (F := F)).nSub 0) => tileLot m d (Fin.cast nCore_zero c) (Fin.cast nSub_zero i) (m (oLoc d)))
      ∗ ((bigSep Finset.univ fun i : Fin ((K (F := F)).nSub 0) => tileLot m d (Fin.cast nCore_zero c) (Fin.cast nSub_zero i) (rd m d).want)
          -∗ coreLot m d (Fin.cast nCore_zero c) (rd m d).want))
  rw [bigSep_tiles (F := F) (fun i => tileLot m d (Fin.cast nCore_zero c) i (m (oLoc d))),
    bigSep_tiles (F := F) (fun i => tileLot m d (Fin.cast nCore_zero c) i (rd m d).want)]
  unfold coreLot tileLot
  rw [lot_tiles, lot_tiles]
  iintro H; imodintro
  isplitl [H]; · iexact H
  iintro H; iexact H

theorem st0_eq (d : Dev nD) : (bigSep Finset.univ fun c : Fin ((K (F := F)).nCore 0) => (P m).st 0 d c)
    = iprop(Ins (rd m d) fullShare ∗ (oLoc d ↦{fullShare} m (oLoc d))) :=
  (bigSep_cores (F := F) fun c => coreLot m d c (m (oLoc d))).trans (lot_cores (rd m d) _).symm
theorem dn0_eq (d : Dev nD) : (bigSep Finset.univ fun c : Fin ((K (F := F)).nCore 0) => (P m).dn 0 d c)
    = iprop(Ins (rd m d) fullShare ∗ (oLoc d ↦{fullShare} (rd m d).want)) :=
  (bigSep_cores (F := F) fun c => coreLot m d c (rd m d).want).trans (lot_cores (rd m d) _).symm

/-! ## The launch element -/

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

abbrev dref (b : Ref sig .tc) : DevRef τ sig := Proc.devRef .tc b
abbrev opIds : HloOp τ sig (Elt F) := StableHlo.reshape main_arg4 main_v0 (rfl : (.i32 : EltTy) = .i32) shapeCasts_S16384x1_S16384

/-- The TensorCore's arrays. -/
abbrev arrs : Finset (DevRef τ sig) := {dref main_arg0, dref main_arg1, dref main_arg2, dref main_arg3, dref main_arg4, dref main_v0, dref main_v1}

theorem held_arrs (d : Dev nD) (w : Valuation τ sig (Elt F)) :
    (held (T d) arrs w : sProp 𝕄) = iprop((aLoc0 d ↦{fullShare} w (dref main_arg0)) ∗ (aLoc1 d ↦{fullShare} w (dref main_arg1))
      ∗ (aLoc2 d ↦{fullShare} w (dref main_arg2)) ∗ (aLoc3 d ↦{fullShare} w (dref main_arg3)) ∗ (aLoc4 d ↦{fullShare} w (dref main_arg4))
      ∗ (iLoc d ↦{fullShare} w (dref main_v0)) ∗ (oLoc d ↦{fullShare} w (dref main_v1))) := by
  unfold held arrs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation of device `d`. -/
def V0 (d : Dev nD) : Valuation τ sig (Elt F) := fun b => m (d, b)

theorem unscoped_held (d : Dev nD) : (unscopedBufs d (fun b => m ((SparseCore.T d).loc b)) : sProp 𝕄) = held (T d) arrs (V0 m d) := by
  rw [held_arrs]
  unfold unscopedBufs
  rw [show (Finset.univ.filter fun b : Ref sig .tc => ¬ b.isScoped) = {main_arg0, main_arg1, main_arg2, main_arg3, main_arg4, main_v0, main_v1} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The arrays after the reshape: what the call reads, the ids as given, the result as it was. -/
theorem held_ids (d : Dev nD) :
    (held (T d) arrs ((opIds (F := F)).result (V0 m d)) : sProp 𝕄)
      ⊢ iprop((Ins (rd m d) fullShare ∗ (oLoc d ↦{fullShare} m (oLoc d))) ∗ (aLoc4 d ↦{fullShare} m (aLoc4 d))) := by
  have hk (b : Ref sig .tc) (h : dref b ∉ ({dref main_v0} : Finset (DevRef τ sig))) : (opIds (F := F)).result (V0 m d) (dref b) = V0 m d (dref b) :=
    (opIds (F := F)).result_of_not_mem (V0 m d) h
  have hi : (opIds (F := F)).result (V0 m d) (dref main_v0) = (rd m d).iv := StableHlo.reshape_result main_arg4 main_v0 _ _ _ _ (V0 m d)
  rw [held_arrs, hi, hk main_arg0 (by decide), hk main_arg1 (by decide), hk main_arg2 (by decide), hk main_arg3 (by decide), hk main_arg4 (by decide),
    hk main_v1 (by decide)]
  unfold Ins
  iintro ⟨H0, H1, H2, H3, H4, Hi, Ho⟩
  isplitr [H4]
  · isplitr [Ho]
    · isplitl [Hi]; · iexact Hi
      isplitl [H0]; · iexact H0
      isplitl [H1]; · iexact H1
      isplitl [H2]; · iexact H2
      iexact H3
    · iexact Ho
  · iexact H4

theorem ids_sub : (opIds (F := F)).bufs ⊆ arrs := show ({dref main_arg4, dref main_v0} : Finset (DevRef τ sig)) ⊆ arrs by decide

/-- What @main leaves: the arrays read, the ids as given, and the result. -/
abbrev FIN (d : Dev nD) : sProp 𝕄 :=
  iprop((Ins (rd m d) fullShare ∗ (oLoc d ↦{fullShare} (rd m d).want)) ∗ (aLoc4 d ↦{fullShare} m (aLoc4 d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIds) (S := arrs) ids_sub (V := V0 m d)) $$ [Hb Hheld]
  · isplitl [Hb] <;> iassumption
  iintro ⟨Hb, Hheld⟩
  ihave H := (held_ids m d) $$ Hheld
  icases H with ⟨Hin, H4⟩
  rw [wp_ret]; imodintro
  iapply ((K (F := F)).wp_run (D (F := F)) 𝒱 (EH := EH) (P := P m) κ d 0) $$ [Hst Hin H4 Hb Hts]
  isplitr; · iexact Hctx
  isplitl [Hst]; · iexact Hst
  isplitl [Hin]
  · rw [st0_eq]; iexact Hin
  iintro ⟨Hst, Hdn⟩
  ihave Hdn := (Entails.of_eq (dn0_eq m d)) $$ Hdn
  imodintro
  isplitl [Hst]; · iexact Hst
  isplitl [Hdn H4]
  · isplitl [Hdn] <;> iassumption
  isplitl [Hb] <;> iassumption

/-! ## The final memory -/

/-- An array held beside the state is the state's. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

def fq (d : Dev nD) (s' : Phys nD τ sig (Elt F)) : Prop :=
  s'.mem.mem (oLoc d) = (rd m d).want ∧ s'.mem.mem (aLoc0 d) = m (aLoc0 d) ∧ s'.mem.mem (aLoc1 d) = m (aLoc1 d)
    ∧ s'.mem.mem (aLoc2 d) = m (aLoc2 d) ∧ s'.mem.mem (aLoc3 d) = m (aLoc3 d) ∧ s'.mem.mem (aLoc4 d) = m (aLoc4 d)

theorem hfin (d : Dev nD) (s' : Phys nD τ sig (Elt F)) : iprop(FIN m d ∗ SI s') ⊢ (⌜fq m d s'⌝ : sProp 𝕄) := by
  unfold FIN Ins
  iintro ⟨⟨⟨⟨-, H0, H1, H2, H3⟩, Ho⟩, H4⟩, HSI⟩
  ihave HSI := (agree s' _ _) $$ [Ho HSI]
  · isplitl [Ho] <;> iassumption
  icases HSI with ⟨%ho, HSI⟩
  ihave HSI := (agree s' _ _) $$ [H0 HSI]
  · isplitl [H0] <;> iassumption
  icases HSI with ⟨%h0, HSI⟩
  ihave HSI := (agree s' _ _) $$ [H1 HSI]
  · isplitl [H1] <;> iassumption
  icases HSI with ⟨%h1, HSI⟩
  ihave HSI := (agree s' _ _) $$ [H2 HSI]
  · isplitl [H2] <;> iassumption
  icases HSI with ⟨%h2, HSI⟩
  ihave HSI := (agree s' _ _) $$ [H3 HSI]
  · isplitl [H3] <;> iassumption
  icases HSI with ⟨%h3, HSI⟩
  ihave HSI := (agree s' _ _) $$ [H4 HSI]
  · isplitl [H4] <;> iassumption
  icases HSI with ⟨%h4, -⟩
  ipureintro
  exact ⟨ho, h0, h1, h2, h3, h4⟩

/-! ## The run -/

/-- The final state: the result, the arguments unchanged, every counter at zero. -/
def QC : PUnit × MemSt nD τ sig (Elt F) → Prop := fun r =>
  (∀ d : Dev nD, r.2.mem (oLoc d) = (rd m d).want ∧ r.2.mem (aLoc0 d) = m (aLoc0 d) ∧ r.2.mem (aLoc1 d) = m (aLoc1 d)
    ∧ r.2.mem (aLoc2 d) = m (aLoc2 d) ∧ r.2.mem (aLoc3 d) = m (aLoc3 d) ∧ r.2.mem (aLoc4 d) = m (aLoc4 d)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile

end
-- ==== Proof.RefValue.lean ====
/-
  WHAT THE REFERENCE COMPUTES: of the four tables stacked, the row of each position in the table that its id names.
-/
module

public import proofs.«01_k».proof.Proof.Gen.ReferenceIdeal
public import proofs.«01_k».proof.Proof.Gen.ReferenceIdeal.Run
public import Idealize.ShloMosaic.Lib.Pipeline.Value
public import Idealize.ShloMosaic.Lib.Pointwise.SelectCore

@[expose] public section

noncomputable section

namespace Cert.Proof.Stack

open Cert.ReferenceIdeal Cert.ReferenceIdeal.Gen
open Idealize.ShloMosaic

/-- The place of row `n`, column `b` among the pairs of indices. -/
def pairIdx (n : Fin 16384) (b : Fin 2) : S16384x2.Idx := fun | 0 => n | 1 => b
/-- The place of row `n`, table `k`, column `c` in the stack. -/
def stackIdx (n : Fin 16384) (k : Fin 4) (c : Fin 128) : S16384x4x128.Idx := fun | 0 => n | 1 => k | 2 => c
/-- Row `n` of a column of one. -/
def colIdx (n : Fin 16384) : S16384x1.Idx := fun | 0 => n | 1 => (0 : Fin 1)
/-- Row `n` of a flat array. -/
def flatIdx (n : Fin 16384) : S16384.Idx := fun | 0 => n
/-- Row `n`, column `c` of a table read as a stack of one. -/
def leafIdx (n : Fin 16384) (c : Fin 128) : S16384x1x128.Idx := fun | 0 => n | 1 => (0 : Fin 1) | 2 => c
/-- Row `n`, column `c` of a table. -/
def cellIdx (n : Fin 16384) (c : Fin 128) : S16384x128.Idx := fun | 0 => n | 1 => c

/-- An index that no wrap-around touches: where no element is negative, adding the axis' length to the negative ones changes nothing. -/
theorem wrap_eq (x b n : IVec S16384 32) (hb : ∀ j, b j = 0#32) (hx : ∀ j, (x j).toNat < 2 ^ 31) :
    select (cmpi .slt x b) (addi x n) x = x := by
  funext j
  have h0 : IntOp.cmpi .slt (x j) (b j) = 0#1 := by
    have hn : (x j).slt (b j) = false := by
      rw [hb j, BitVec.slt_eq_decide, decide_eq_false_iff_not, BitVec.toInt_eq_toNat_cond, BitVec.toInt_eq_toNat_cond]
      have := hx j
      simp only [BitVec.toNat_ofNat]
      split <;> omega
    show BitVec.ofBool ((x j).slt (b j)) = 0#1
    rw [hn]; rfl
  show Scalar.select (IntOp.cmpi .slt (x j) (b j)) _ (x j) = x j
  rw [h0]
  rfl

/-- The gather by pairs: the element that the row's own pair of indices names. -/
theorem gather_pair {α : Type} (x : S16384x4x128.Idx → α) (idx : IVec S16384x2 32) (n : Fin 16384) (k : Fin 4) (c : Fin 128)
    (h0 : (idx (pairIdx n 0)).toNat = n.val) (h1 : (idx (pairIdx n 1)).toNat = k.val) :
    Host.gather gather_S16384x4x128_S16384x2_S16384x128_1_01_n_n_01_1_11128 x idx (cellIdx n c) = x (stackIdx n k c) := by
  have hpos : ∀ v : BitVec 32, v.toNat < 16384 → v.toInt.toNat = v.toNat := fun v hv => by
    rw [BitVec.toInt_eq_toNat_cond]; split <;> omega
  unfold Host.gather
  refine congrArg x (funext fun a => Fin.ext ?_)
  show GatherDims.start _ (cellIdx n c) idx a + GatherDims.batchCoord _ (cellIdx n c) a + GatherDims.offCoord _ (cellIdx n c) a = _
  rw [GatherDims.batchCoord_eq_zero _ _ _ (fun h => nomatch (show a ∈ ([] : List (Fin 3)) from h)), Nat.add_zero]
  have hn := n.isLt
  have hk := k.isLt
  match a with
  | ⟨0, ha⟩ =>
    have hm : (⟨0, ha⟩ : Fin S16384x4x128.rank) ∈ gather_S16384x4x128_S16384x2_S16384x128_1_01_n_n_01_1_11128.startIndexMap := show (0 : Fin 3) ∈ ([0, 1] : List (Fin 3)) by decide
    rw [GatherDims.offCoord_eq_zero _ _ _ (fun h => ((GatherDims.mem_sKept _ _).mp h).1 (show (0 : Fin 3) ∈ ([0, 1] : List (Fin 3)) by decide)), Nat.add_zero]
    unfold GatherDims.start
    rw [dif_pos hm]
    have hsi : GatherDims.siIdx gather_S16384x4x128_S16384x2_S16384x128_1_01_n_n_01_1_11128 (cellIdx n c)
        ⟨List.idxOf (0 : Fin 3) [0, 1], by decide⟩ = pairIdx n 0 := by
      funext b; refine Fin.ext ?_
      match b with
      | ⟨0, _⟩ => rfl
      | ⟨1, _⟩ => rfl
    refine Eq.trans (congrArg (fun i => min (idx i).toInt.toNat (16384 - 1)) hsi) ?_
    show min (idx (pairIdx n 0)).toInt.toNat (16384 - 1) = n.val
    rw [hpos _ (by omega), h0]
    omega
  | ⟨1, ha⟩ =>
    have hm : (⟨1, ha⟩ : Fin S16384x4x128.rank) ∈ gather_S16384x4x128_S16384x2_S16384x128_1_01_n_n_01_1_11128.startIndexMap := show (1 : Fin 3) ∈ ([0, 1] : List (Fin 3)) by decide
    rw [GatherDims.offCoord_eq_zero _ _ _ (fun h => ((GatherDims.mem_sKept _ _).mp h).1 (show (1 : Fin 3) ∈ ([0, 1] : List (Fin 3)) by decide)), Nat.add_zero]
    unfold GatherDims.start
    rw [dif_pos hm]
    have hsi : GatherDims.siIdx gather_S16384x4x128_S16384x2_S16384x128_1_01_n_n_01_1_11128 (cellIdx n c)
        ⟨List.idxOf (1 : Fin 3) [0, 1], by decide⟩ = pairIdx n 1 := by
      funext b; refine Fin.ext ?_
      match b with
      | ⟨0, _⟩ => rfl
      | ⟨1, _⟩ => rfl
    refine Eq.trans (congrArg (fun i => min (idx i).toInt.toNat (4 - 1)) hsi) ?_
    show min (idx (pairIdx n 1)).toInt.toNat (4 - 1) = k.val
    rw [hpos _ (by omega), h1]
    omega
  | ⟨2, ha⟩ =>
    have hm : (⟨2, ha⟩ : Fin S16384x4x128.rank) ∉ gather_S16384x4x128_S16384x2_S16384x128_1_01_n_n_01_1_11128.startIndexMap := show (2 : Fin 3) ∉ ([0, 1] : List (Fin 3)) by decide
    have hs : (⟨2, ha⟩ : Fin S16384x4x128.rank) ∈ gather_S16384x4x128_S16384x2_S16384x128_1_01_n_n_01_1_11128.sKept :=
      (GatherDims.mem_sKept _ _).mpr ⟨hm, fun h => nomatch (show (2 : Fin 3) ∈ ([] : List (Fin 3)) from h)⟩
    unfold GatherDims.start GatherDims.offCoord
    rw [dif_neg hm, dif_pos hs, Nat.zero_add]
    rfl

/-- The stack of four tables, table `k` of it. -/
theorem stack_apply {α : Type} (g : Fin 4 → S16384x1x128.Idx → α) (n : Fin 16384) (k : Fin 4) (c : Fin 128) :
    concatenate S16384x4x128 1 [⟨S16384x1x128, g 0⟩, ⟨S16384x1x128, g 1⟩, ⟨S16384x1x128, g 2⟩, ⟨S16384x1x128, g 3⟩]
      concatenates_S16384x1x128_S16384x1x128_S16384x1x128_S16384x1x128_S16384x4x128_d1 (stackIdx n k c) = g k (leafIdx n c) := by
  refine concatenate_apply_piece (t := S16384x4x128) 1 [⟨S16384x1x128, g 0⟩, ⟨S16384x1x128, g 1⟩, ⟨S16384x1x128, g 2⟩, ⟨S16384x1x128, g 3⟩] _ (stackIdx n k c) k.val (show k.val < 4 from k.isLt) S16384x1x128 (g k) ?_ rfl k.val ?_ (leafIdx n c) ?_ ?_
  · match k with
    | ⟨0, _⟩ => rfl
    | ⟨1, _⟩ => rfl
    | ⟨2, _⟩ => rfl
    | ⟨3, _⟩ => rfl
  · match k with
    | ⟨0, _⟩ => rfl
    | ⟨1, _⟩ => rfl
    | ⟨2, _⟩ => rfl
    | ⟨3, _⟩ => rfl
  · intro b hb
    match b with
    | ⟨0, _⟩ => rfl
    | ⟨1, _⟩ => exact absurd rfl hb
    | ⟨2, _⟩ => rfl
  · rfl

/-- Two columns side by side, column `b` of them. -/
theorem cols_apply {α : Type} (g : Fin 2 → S16384x1.Idx → α) (n : Fin 16384) (b : Fin 2) :
    concatenate S16384x2 1 [⟨S16384x1, g 0⟩, ⟨S16384x1, g 1⟩]
      concatenates_S16384x1_S16384x1_S16384x2_d1 (pairIdx n b) = g b (colIdx n) := by
  refine concatenate_apply_piece (t := S16384x2) 1 [⟨S16384x1, g 0⟩, ⟨S16384x1, g 1⟩] _ (pairIdx n b) b.val (show b.val < 2 from b.isLt) S16384x1 (g b) ?_ rfl b.val ?_ (colIdx n) ?_ ?_
  · match b with
    | ⟨0, _⟩ => rfl
    | ⟨1, _⟩ => rfl
  · match b with
    | ⟨0, _⟩ => rfl
    | ⟨1, _⟩ => rfl
  · intro e he
    match e with
    | ⟨0, _⟩ => rfl
    | ⟨1, _⟩ => exact absurd rfl he
  · rfl

/-- THE REFERENCE'S RESULT, element by element: where `ids` (flat) stay below four, row `n` is row `n` of the table that its id names. -/
theorem value_apply {α : Type} (g : Fin 4 → S16384x128.Idx → α) (ids b0 b1 c0 c1 : IVec S16384 32)
    (hb0 : ∀ j, b0 j = 0#32) (hb1 : ∀ j, b1 j = 0#32) (n : Fin 16384) (c : Fin 128) (hids : ∀ j, (ids j).toNat < 4) :
    Host.gather gather_S16384x4x128_S16384x2_S16384x128_1_01_n_n_01_1_11128
      (concatenate S16384x4x128 1
        [⟨S16384x1x128, broadcastInDim S16384x1x128 ![0, 2] bcast_S16384x128_S16384x1x128_0_2 (g 0)⟩,
          ⟨S16384x1x128, broadcastInDim S16384x1x128 ![0, 2] bcast_S16384x128_S16384x1x128_0_2 (g 1)⟩,
          ⟨S16384x1x128, broadcastInDim S16384x1x128 ![0, 2] bcast_S16384x128_S16384x1x128_0_2 (g 2)⟩,
          ⟨S16384x1x128, broadcastInDim S16384x1x128 ![0, 2] bcast_S16384x128_S16384x1x128_0_2 (g 3)⟩]
        concatenates_S16384x1x128_S16384x1x128_S16384x1x128_S16384x1x128_S16384x4x128_d1)
      (concatenate S16384x2 1
        [⟨S16384x1, broadcastInDim S16384x1 ![0] bcast_S16384_S16384x1_0
            (select (cmpi .slt (iotaInDim S16384 32 0) b0) (addi (iotaInDim S16384 32 0) c0) (iotaInDim S16384 32 0))⟩,
          ⟨S16384x1, broadcastInDim S16384x1 ![0] bcast_S16384_S16384x1_0 (select (cmpi .slt ids b1) (addi ids c1) ids)⟩]
        concatenates_S16384x1_S16384x1_S16384x2_d1)
      (cellIdx n c) = g ⟨(ids (flatIdx n)).toNat, hids _⟩ (cellIdx n c) := by
  have hio : ∀ j : S16384.Idx, ((iotaInDim S16384 32 0 : IVec S16384 32) j).toNat = (j 0).val := fun j => by
    show (BitVec.ofNat 32 (j 0).val).toNat = _
    have h : (j 0).val < 16384 := (j 0).isLt
    rw [BitVec.toNat_ofNat, Nat.mod_eq_of_lt (by omega)]
  have hcol : ∀ x : IVec S16384 32, broadcastInDim S16384x1 ![0] bcast_S16384_S16384x1_0 x (colIdx n) = x (flatIdx n) := fun x => by
    refine congrArg x (funext fun a => ?_)
    match a with
    | ⟨0, _⟩ => rfl
  have hleaf : ∀ x : S16384x128.Idx → α, broadcastInDim S16384x1x128 ![0, 2] bcast_S16384x128_S16384x1x128_0_2 x (leafIdx n c) = x (cellIdx n c) :=
    fun x => by
      refine congrArg x (funext fun a => ?_)
      match a with
      | ⟨0, _⟩ => rfl
      | ⟨1, _⟩ => rfl
  rw [wrap_eq _ _ _ hb0 (fun j => by rw [hio]; have h : (j 0).val < 16384 := (j 0).isLt; omega),
    wrap_eq _ _ _ hb1 (fun j => by have := hids j; omega)]
  refine (gather_pair _ _ n ⟨(ids (flatIdx n)).toNat, hids _⟩ c ?_ ?_).trans ?_
  · refine (congrArg BitVec.toNat (cols_apply (fun b : Fin 2 => match b with
      | 0 => broadcastInDim S16384x1 ![0] bcast_S16384_S16384x1_0 (iotaInDim S16384 32 0)
      | 1 => broadcastInDim S16384x1 ![0] bcast_S16384_S16384x1_0 ids) n 0)).trans ?_
    exact (congrArg BitVec.toNat (hcol _)).trans (hio _)
  · refine (congrArg BitVec.toNat (cols_apply (fun b : Fin 2 => match b with
      | 0 => broadcastInDim S16384x1 ![0] bcast_S16384_S16384x1_0 (iotaInDim S16384 32 0)
      | 1 => broadcastInDim S16384x1 ![0] bcast_S16384_S16384x1_0 ids) n 1)).trans ?_
    exact congrArg BitVec.toNat (hcol _)
  · exact (stack_apply (fun k => broadcastInDim S16384x1x128 ![0, 2] bcast_S16384x128_S16384x1x128_0_2 (g k)) n _ c).trans (hleaf _)

end Cert.Proof.Stack

end
-- ==== Proof.Agree.lean ====
/-
  THE EQUATION: ids in range by the precondition, and the reference's gather of the stacked tables equal to the rows the tiles collect.
-/
module

public import proofs.«01_k».proof.Proof.Launch
public import proofs.«01_k».proof.Proof.RefValue
public import proofs.«01_k».proof.Proof.Gen.Pre_ids_in_range
public import Idealize.ShloMosaic.Lib.ReduceAll

@[expose] public section

noncomputable section

namespace Cert.Proof.Agree

open Idealize.ShloMosaic
open Cert.KernelIdeal (nD τ sig)
open Cert.Proof.Tile (aLoc0 aLoc1 aLoc2 aLoc3 aLoc4 rd PreOK)

variable {F : FTy → Type}

/-- A word that is signed-at-least zero and signed-below four names a table. -/
theorem word_lt (v : BitVec 32) (h : IntOp.andi (IntOp.cmpi .sge v 0#32) (IntOp.cmpi .slt v 4#32) = 1#1) : v.toNat < 4 := by
  have hs : ∀ a b : Bool, IntOp.andi (BitVec.ofBool a) (BitVec.ofBool b) = 1#1 → a = true ∧ b = true := by decide
  obtain ⟨h0, h4⟩ := hs ((0#32 : BitVec 32).sle v) (v.slt 4#32) h
  rw [BitVec.sle_eq_decide, decide_eq_true_eq, BitVec.toInt_eq_toNat_cond, BitVec.toInt_eq_toNat_cond] at h0
  rw [BitVec.slt_eq_decide, decide_eq_true_eq, BitVec.toInt_eq_toNat_cond, BitVec.toInt_eq_toNat_cond] at h4
  have hv := v.isLt
  simp only [BitVec.toNat_ofNat] at h0 h4
  split at h0 <;> split at h4 <;> omega

/-- The precondition's one bit set, every id names a table. -/
theorem ids_lt [FloatOps F] (x0 x1 x2 x3 : FVec F Cert.Pre_ids_in_range.S16384x128 .f32) (ids : IVec Cert.Pre_ids_in_range.S16384x1 32)
    (h : Cert.Pre_ids_in_range.fn x0 x1 x2 x3 ids = fun _ => 1#1) (x : Cert.Pre_ids_in_range.S16384x1.Idx) : (ids x).toNat < 4 :=
  haveI : Subsingleton Cert.Pre_ids_in_range.S_.Idx := ⟨fun _ _ => funext fun a => a.elim0⟩
  word_lt _ (Host.reduce_andi_all _ _ _ _ (fun a => a.elim0) (congrFun h _) x)

section
open Cert.ReferenceIdeal Cert.ReferenceIdeal.Gen

/-- The reference's gather, of arrays equal to the kernel's arguments, is what the tiles collect. -/
theorem value_eq (m : (ℓ : Loc Cert.KernelIdeal.nD Cert.KernelIdeal.τ Cert.KernelIdeal.sig) → Buf (Elt F) ℓ) (hpre : PreOK m) (d : Dev Cert.KernelIdeal.nD)
    (x0 x1 x2 x3 : S16384x128.Idx → Elt F .f32) (x4 : IVec S16384x1 32)
    (e0 : x0 = m (aLoc0 d)) (e1 : x1 = m (aLoc1 d)) (e2 : x2 = m (aLoc2 d)) (e3 : x3 = m (aLoc3 d)) (e4 : x4 = m (aLoc4 d)) :
    Host.gather gather_S16384x4x128_S16384x2_S16384x128_1_01_n_n_01_1_11128
      (concatenate S16384x4x128 1
        [⟨S16384x1x128, broadcastInDim S16384x1x128 ![0, 2] bcast_S16384x128_S16384x1x128_0_2 x0⟩,
          ⟨S16384x1x128, broadcastInDim S16384x1x128 ![0, 2] bcast_S16384x128_S16384x1x128_0_2 x1⟩,
          ⟨S16384x1x128, broadcastInDim S16384x1x128 ![0, 2] bcast_S16384x128_S16384x1x128_0_2 x2⟩,
          ⟨S16384x1x128, broadcastInDim S16384x1x128 ![0, 2] bcast_S16384x128_S16384x1x128_0_2 x3⟩]
        concatenates_S16384x1x128_S16384x1x128_S16384x1x128_S16384x1x128_S16384x4x128_d1)
      (concatenate S16384x2 1
        [⟨S16384x1, broadcastInDim S16384x1 ![0] bcast_S16384_S16384x1_0
            (select (cmpi .slt (iotaInDim S16384 32 0) (broadcastInDim S16384 ![] bcast_S_S16384 (constantI S_ 32 0#32)))
              (addi (iotaInDim S16384 32 0) (broadcastInDim S16384 ![] bcast_S_S16384 (constantI S_ 32 16384#32))) (iotaInDim S16384 32 0))⟩,
          ⟨S16384x1, broadcastInDim S16384x1 ![0] bcast_S16384_S16384x1_0
            (select (cmpi .slt (shapeCast _ x4 shapeCasts_S16384x1_S16384) (broadcastInDim S16384 ![] bcast_S_S16384 (constantI S_ 32 0#32)))
              (addi (shapeCast _ x4 shapeCasts_S16384x1_S16384) (broadcastInDim S16384 ![] bcast_S_S16384 (constantI S_ 32 4#32)))
              (shapeCast _ x4 shapeCasts_S16384x1_S16384))⟩]
        concatenates_S16384x1_S16384x1_S16384x2_d1)
      = (rd m d).want := by
  subst e0 e1 e2 e3 e4
  funext z
  have hz : z = Stack.cellIdx (z 0) (z 1) := by
    funext a
    match a with
    | ⟨0, _⟩ => rfl
    | ⟨1, _⟩ => rfl
  have hok := Tile.ok_rd m hpre d
  rw [hz]
  refine (Stack.value_apply (fun k => (rd m d).tab k.val) _ _ _ _ _ (fun _ => rfl) (fun _ => rfl) (z 0) (z 1) hok).trans ?_
  show (rd m d).tab _ _ = (rd m d).tab ((rd m d).cid (z 0).val) _
  refine congrArg (fun k => (rd m d).tab k (Stack.cellIdx (z 0) (z 1))) ?_
  unfold Tile.Read.cid
  rw [dif_pos (show (z 0).val < 16384 from (z 0).isLt)]
  refine congrArg (fun i => BitVec.toNat ((show S16384.Idx → BitVec 32 from (rd m d).iv) i)) ?_
  funext a
  match a with
  | ⟨0, _⟩ => rfl
end

end Cert.Proof.Agree

end
-- ==== Proof.lean ====
/-
  The claims of this directory, from the kernel's run and the reference's value.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_ids_in_range
public import proofs.«01_k».proof.Proof.Launch
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The precondition of the kernel as printed puts every id below four; -/
theorem ok_kernel (m : (ℓ : Loc Cert.KernelIdeal.nD Cert.KernelIdeal.τ Cert.KernelIdeal.sig) → Buf (Elt Bits) ℓ) (h : Cert.Pre_Kernel m) :
    Tile.PreOK m := fun d => Agree.ids_lt _ _ _ _ _ (h d)
/-- and so does that of the idealized kernel. -/
theorem ok_kernelIdeal (m : (ℓ : Loc Cert.KernelIdeal.nD Cert.KernelIdeal.τ Cert.KernelIdeal.sig) → Buf (Elt Ideal) ℓ) (h : Cert.Pre_KernelIdeal m) :
    Tile.PreOK m := fun d => Agree.ids_lt _ _ _ _ _ (h d)

/-- The kernel's frame: the run with the result dropped, at the floats' bits; -/
theorem frame_kernel : Cert.quiescent_Kernel := fun m ρ hpre =>
  (θ_run Cert.KernelIdeal.defs _ _).mono (fun _ h => ⟨fun d => (h.1 d).2, h.2⟩) (Tile.run_main (F := Bits) m ρ (ok_kernel m hpre))
/-- the idealized kernel's, over the reals; -/
theorem frame_kernelIdeal : Cert.quiescent_KernelIdeal := fun m ρ hpre =>
  (θ_run Cert.KernelIdeal.defs _ _).mono (fun _ h => ⟨fun d => (h.1 d).2, h.2⟩) (Tile.run_main (F := Ideal) m ρ (ok_kernelIdeal m hpre))
/-- the idealized reference's, from any memory; -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- and the reference's as printed. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over the reals kernel and reference end with one result: the rows that the ids name. -/
theorem algebraic : Cert.algebraic_KernelIdeal_ReferenceIdeal := fun m g m' g' hpre hm =>
  ⟨fun d => (Tile.rd m d).want,
    (θ_run Cert.KernelIdeal.defs _ _).mono (fun _ h => h.1) (Tile.run_main (F := Ideal) m g (ok_kernelIdeal m hpre)),
    (θ_run Cert.ReferenceIdeal.defs _ _).mono
      (fun _ h d => ⟨(h d).1.trans (Agree.value_eq m (ok_kernelIdeal m hpre) d _ _ _ _ _ (hm d).1 (hm d).2.1 (hm d).2.2.1 (hm d).2.2.2.1 (hm d).2.2.2.2), (h d).2⟩)
      (Cert.ReferenceIdeal.Value.run (F := Ideal) m' g')⟩

/-- And so they do bit for bit. -/
theorem bitexact : Cert.bitexact_Kernel_Reference := fun m g m' g' hpre hm =>
  ⟨fun d => (Tile.rd (F := Bits) m d).want,
    (θ_run Cert.KernelIdeal.defs _ _).mono (fun _ h => h.1) (Tile.run_main (F := Bits) m g (ok_kernel m hpre)),
    (θ_run Cert.Reference.defs _ _).mono
      (fun _ h d => ⟨(h d).1.trans (Agree.value_eq (F := Bits) m (ok_kernel m hpre) d _ _ _ _ _ (hm d).1 (hm d).2.1 (hm d).2.2.1 (hm d).2.2.2.1 (hm d).2.2.2.2), (h d).2⟩)
      (Cert.Reference.Value.run (F := Bits) m' g')⟩

theorem claim : Cert.Claim := ⟨Cert.Kernel.Gen.facts, Cert.KernelIdeal.Gen.facts, Cert.ReferenceIdeal.Gen.facts, Cert.Reference.Gen.facts, Cert.Pre_ids_in_range.Gen.facts,
  frame_kernel, frame_kernelIdeal, frame_referenceIdeal, fun m ρ _ => frame_referenceIdeal m ρ trivial, frame_reference, trivial, algebraic, bitexact⟩

end Cert.Proof

end
